-- ==== Defs.lean ====
def Pre_AttnP (m : (ℓ : Loc Cert.AttnP.nD Cert.AttnP.τ Cert.AttnP.sig) → Buf (Elt Bits) ℓ) : Prop :=
  True

def Pre_AttnPIdeal (m : (ℓ : Loc Cert.AttnPIdeal.nD Cert.AttnPIdeal.τ Cert.AttnPIdeal.sig) → Buf (Elt Ideal) ℓ) : Prop :=
  True

def Pre_AttnPRefIdeal (m : (ℓ : Loc Cert.AttnPRefIdeal.nD Cert.AttnPRefIdeal.τ Cert.AttnPRefIdeal.sig) → Buf (Elt Ideal) ℓ) : Prop :=
  True

def Pre_AttnS (m : (ℓ : Loc Cert.AttnS.nD Cert.AttnS.τ Cert.AttnS.sig) → Buf (Elt Bits) ℓ) : Prop :=
  True

def Pre_AttnSIdeal (m : (ℓ : Loc Cert.AttnSIdeal.nD Cert.AttnSIdeal.τ Cert.AttnSIdeal.sig) → Buf (Elt Ideal) ℓ) : Prop :=
  True

def Pre_AttnSRefIdeal (m : (ℓ : Loc Cert.AttnSRefIdeal.nD Cert.AttnSRefIdeal.τ Cert.AttnSRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FinalP (m : (ℓ : Loc Cert.FinalP.nD Cert.FinalP.τ Cert.FinalP.sig) → Buf (Elt Bits) ℓ) : Prop :=
  True

def Pre_FinalPIdeal (m : (ℓ : Loc Cert.FinalPIdeal.nD Cert.FinalPIdeal.τ Cert.FinalPIdeal.sig) → Buf (Elt Ideal) ℓ) : Prop :=
  True

def Pre_FinalPRefIdeal (m : (ℓ : Loc Cert.FinalPRefIdeal.nD Cert.FinalPRefIdeal.τ Cert.FinalPRefIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def Pre_DnPostP (m : (ℓ : Loc Cert.DnPostP.nD Cert.DnPostP.τ Cert.DnPostP.sig) → Buf (Elt Bits) ℓ) : Prop :=
  True

def Pre_DnPostPIdeal (m : (ℓ : Loc Cert.DnPostPIdeal.nD Cert.DnPostPIdeal.τ Cert.DnPostPIdeal.sig) → Buf (Elt Ideal) ℓ) : Prop :=
  True

def Pre_DnPostPRefIdeal (m : (ℓ : Loc Cert.DnPostPRefIdeal.nD Cert.DnPostPRefIdeal.τ Cert.DnPostPRefIdeal.sig) → Buf (Elt Ideal) ℓ) : Prop :=
  True

def Pre_DnPostS (m : (ℓ : Loc Cert.DnPostS.nD Cert.DnPostS.τ Cert.DnPostS.sig) → Buf (Elt Bits) ℓ) : Prop :=
  True

def Pre_DnPostSIdeal (m : (ℓ : Loc Cert.DnPostSIdeal.nD Cert.DnPostSIdeal.τ Cert.DnPostSIdeal.sig) → Buf (Elt Ideal) ℓ) : Prop :=
  True

def Pre_DnPostSRefIdeal (m : (ℓ : Loc Cert.DnPostSRefIdeal.nD Cert.DnPostSRefIdeal.τ Cert.DnPostSRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_AttnP [hAttnP : Cert.AttnP.Facts] : Prop :=
  ∀ (m : (ℓ : Loc Cert.AttnP.nD Cert.AttnP.τ Cert.AttnP.sig) → Buf (Elt Bits) ℓ) (g : Dev Cert.AttnP.nD → PrngReg), Pre_AttnP m →
    θ_run (Cert.AttnP.defs (F := Bits)) (onTc (τ := Cert.AttnP.τ) (Cert.AttnP.main (F := Bits))) ⟨m, fun _ => 0, g⟩ (fun r => (∀ c : Dev Cert.AttnP.nD,
      r.2.mem ((c.tc : Thread Cert.AttnP.nD Cert.AttnP.τ).loc Cert.AttnP.main_arg0) = m ((c.tc : Thread Cert.AttnP.nD Cert.AttnP.τ).loc Cert.AttnP.main_arg0)
      ∧ r.2.mem ((c.tc : Thread Cert.AttnP.nD Cert.AttnP.τ).loc Cert.AttnP.main_arg1) = m ((c.tc : Thread Cert.AttnP.nD Cert.AttnP.τ).loc Cert.AttnP.main_arg1)
      ∧ r.2.mem ((c.tc : Thread Cert.AttnP.nD Cert.AttnP.τ).loc Cert.AttnP.main_arg2) = m ((c.tc : Thread Cert.AttnP.nD Cert.AttnP.τ).loc Cert.AttnP.main_arg2))
      ∧ r.2.sem = fun _ => 0)

def quiescent_AttnPIdeal [hAttnPIdeal : Cert.AttnPIdeal.Facts] : Prop :=
  ∀ (m : (ℓ : Loc Cert.AttnPIdeal.nD Cert.AttnPIdeal.τ Cert.AttnPIdeal.sig) → Buf (Elt Ideal) ℓ) (g : Dev Cert.AttnPIdeal.nD → PrngReg), Pre_AttnPIdeal m →
    θ_run (Cert.AttnPIdeal.defs (F := Ideal)) (onTc (τ := Cert.AttnPIdeal.τ) (Cert.AttnPIdeal.main (F := Ideal))) ⟨m, fun _ => 0, g⟩ (fun r => (∀ c : Dev Cert.AttnPIdeal.nD,
      r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
      ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
      ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2))
      ∧ r.2.sem = fun _ => 0)

def quiescent_AttnPRefIdeal [hAttnPRefIdeal : Cert.AttnPRefIdeal.Facts] : Prop :=
  ∀ (m : (ℓ : Loc Cert.AttnPRefIdeal.nD Cert.AttnPRefIdeal.τ Cert.AttnPRefIdeal.sig) → Buf (Elt Ideal) ℓ) (g : Dev Cert.AttnPRefIdeal.nD → PrngReg), Pre_AttnPRefIdeal m →
    θ_run (Cert.AttnPRefIdeal.defs (F := Ideal)) (onTc (τ := Cert.AttnPRefIdeal.τ) (Cert.AttnPRefIdeal.main (F := Ideal))) ⟨m, fun _ => 0, g⟩ (fun r => (∀ c : Dev Cert.AttnPRefIdeal.nD,
      r.2.mem ((c.tc : Thread Cert.AttnPRefIdeal.nD Cert.AttnPRefIdeal.τ).loc Cert.AttnPRefIdeal.main_arg0) = m ((c.tc : Thread Cert.AttnPRefIdeal.nD Cert.AttnPRefIdeal.τ).loc Cert.AttnPRefIdeal.main_arg0)
      ∧ r.2.mem ((c.tc : Thread Cert.AttnPRefIdeal.nD Cert.AttnPRefIdeal.τ).loc Cert.AttnPRefIdeal.main_arg1) = m ((c.tc : Thread Cert.AttnPRefIdeal.nD Cert.AttnPRefIdeal.τ).loc Cert.AttnPRefIdeal.main_arg1)
      ∧ r.2.mem ((c.tc : Thread Cert.AttnPRefIdeal.nD Cert.AttnPRefIdeal.τ).loc Cert.AttnPRefIdeal.main_arg2) = m ((c.tc : Thread Cert.AttnPRefIdeal.nD Cert.AttnPRefIdeal.τ).loc Cert.AttnPRefIdeal.main_arg2))
      ∧ r.2.sem = fun _ => 0)

def quiescent_AttnS [hAttnS : Cert.AttnS.Facts] : Prop :=
  ∀ (m : (ℓ : Loc Cert.AttnS.nD Cert.AttnS.τ Cert.AttnS.sig) → Buf (Elt Bits) ℓ) (g : Dev Cert.AttnS.nD → PrngReg), Pre_AttnS m →
    θ_run (Cert.AttnS.defs (F := Bits)) (onTc (τ := Cert.AttnS.τ) (Cert.AttnS.main (F := Bits))) ⟨m, fun _ => 0, g⟩ (fun r => (∀ c : Dev Cert.AttnS.nD,
      r.2.mem ((c.tc : Thread Cert.AttnS.nD Cert.AttnS.τ).loc Cert.AttnS.main_arg0) = m ((c.tc : Thread Cert.AttnS.nD Cert.AttnS.τ).loc Cert.AttnS.main_arg0)
      ∧ r.2.mem ((c.tc : Thread Cert.AttnS.nD Cert.AttnS.τ).loc Cert.AttnS.main_arg1) = m ((c.tc : Thread Cert.AttnS.nD Cert.AttnS.τ).loc Cert.AttnS.main_arg1)
      ∧ r.2.mem ((c.tc : Thread Cert.AttnS.nD Cert.AttnS.τ).loc Cert.AttnS.main_arg2) = m ((c.tc : Thread Cert.AttnS.nD Cert.AttnS.τ).loc Cert.AttnS.main_arg2))
      ∧ r.2.sem = fun _ => 0)

def quiescent_AttnSIdeal [hAttnSIdeal : Cert.AttnSIdeal.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2))
      ∧ r.2.sem = fun _ => 0)

def quiescent_AttnSRefIdeal [hAttnSRefIdeal : Cert.AttnSRefIdeal.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_FinalP [hFinalP : Cert.FinalP.Facts] : Prop :=
  ∀ (m : (ℓ : Loc Cert.FinalP.nD Cert.FinalP.τ Cert.FinalP.sig) → Buf (Elt Bits) ℓ) (g : Dev Cert.FinalP.nD → PrngReg), Pre_FinalP m →
    θ_run (Cert.FinalP.defs (F := Bits)) (onTc (τ := Cert.FinalP.τ) (Cert.FinalP.main (F := Bits))) ⟨m, fun _ => 0, g⟩ (fun r => (∀ c : Dev Cert.FinalP.nD,
      r.2.mem ((c.tc : Thread Cert.FinalP.nD Cert.FinalP.τ).loc Cert.FinalP.main_arg0) = m ((c.tc : Thread Cert.FinalP.nD Cert.FinalP.τ).loc Cert.FinalP.main_arg0)
      ∧ r.2.mem ((c.tc : Thread Cert.FinalP.nD Cert.FinalP.τ).loc Cert.FinalP.main_arg1) = m ((c.tc : Thread Cert.FinalP.nD Cert.FinalP.τ).loc Cert.FinalP.main_arg1))
      ∧ r.2.sem = fun _ => 0)

def quiescent_FinalPIdeal [hFinalPIdeal : Cert.FinalPIdeal.Facts] : Prop :=
  ∀ (m : (ℓ : Loc Cert.FinalPIdeal.nD Cert.FinalPIdeal.τ Cert.FinalPIdeal.sig) → Buf (Elt Ideal) ℓ) (g : Dev Cert.FinalPIdeal.nD → PrngReg), Pre_FinalPIdeal m →
    θ_run (Cert.FinalPIdeal.defs (F := Ideal)) (onTc (τ := Cert.FinalPIdeal.τ) (Cert.FinalPIdeal.main (F := Ideal))) ⟨m, fun _ => 0, g⟩ (fun r => (∀ c : Dev Cert.FinalPIdeal.nD,
      r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
      ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1))
      ∧ r.2.sem = fun _ => 0)

def quiescent_FinalPRefIdeal [hFinalPRefIdeal : Cert.FinalPRefIdeal.Facts] : Prop :=
  ∀ (m : (ℓ : Loc Cert.FinalPRefIdeal.nD Cert.FinalPRefIdeal.τ Cert.FinalPRefIdeal.sig) → Buf (Elt Ideal) ℓ) (g : Dev Cert.FinalPRefIdeal.nD → PrngReg), Pre_FinalPRefIdeal m →
    θ_run (Cert.FinalPRefIdeal.defs (F := Ideal)) (onTc (τ := Cert.FinalPRefIdeal.τ) (Cert.FinalPRefIdeal.main (F := Ideal))) ⟨m, fun _ => 0, g⟩ (fun r => (∀ c : Dev Cert.FinalPRefIdeal.nD,
      r.2.mem ((c.tc : Thread Cert.FinalPRefIdeal.nD Cert.FinalPRefIdeal.τ).loc Cert.FinalPRefIdeal.main_arg0) = m ((c.tc : Thread Cert.FinalPRefIdeal.nD Cert.FinalPRefIdeal.τ).loc Cert.FinalPRefIdeal.main_arg0)
      ∧ r.2.mem ((c.tc : Thread Cert.FinalPRefIdeal.nD Cert.FinalPRefIdeal.τ).loc Cert.FinalPRefIdeal.main_arg1) = m ((c.tc : Thread Cert.FinalPRefIdeal.nD Cert.FinalPRefIdeal.τ).loc Cert.FinalPRefIdeal.main_arg1))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1))
      ∧ r.2.sem = fun _ => 0)

def quiescent_DnPostP [hDnPostP : Cert.DnPostP.Facts] : Prop :=
  ∀ (m : (ℓ : Loc Cert.DnPostP.nD Cert.DnPostP.τ Cert.DnPostP.sig) → Buf (Elt Bits) ℓ) (g : Dev Cert.DnPostP.nD → PrngReg), Pre_DnPostP m →
    θ_run (Cert.DnPostP.defs (F := Bits)) (onTc (τ := Cert.DnPostP.τ) (Cert.DnPostP.main (F := Bits))) ⟨m, fun _ => 0, g⟩ (fun r => (∀ c : Dev Cert.DnPostP.nD,
      r.2.mem ((c.tc : Thread Cert.DnPostP.nD Cert.DnPostP.τ).loc Cert.DnPostP.main_arg0) = m ((c.tc : Thread Cert.DnPostP.nD Cert.DnPostP.τ).loc Cert.DnPostP.main_arg0)
      ∧ r.2.mem ((c.tc : Thread Cert.DnPostP.nD Cert.DnPostP.τ).loc Cert.DnPostP.main_arg1) = m ((c.tc : Thread Cert.DnPostP.nD Cert.DnPostP.τ).loc Cert.DnPostP.main_arg1)
      ∧ r.2.mem ((c.tc : Thread Cert.DnPostP.nD Cert.DnPostP.τ).loc Cert.DnPostP.main_arg2) = m ((c.tc : Thread Cert.DnPostP.nD Cert.DnPostP.τ).loc Cert.DnPostP.main_arg2)
      ∧ r.2.mem ((c.tc : Thread Cert.DnPostP.nD Cert.DnPostP.τ).loc Cert.DnPostP.main_arg3) = m ((c.tc : Thread Cert.DnPostP.nD Cert.DnPostP.τ).loc Cert.DnPostP.main_arg3))
      ∧ r.2.sem = fun _ => 0)

def quiescent_DnPostPIdeal [hDnPostPIdeal : Cert.DnPostPIdeal.Facts] : Prop :=
  ∀ (m : (ℓ : Loc Cert.DnPostPIdeal.nD Cert.DnPostPIdeal.τ Cert.DnPostPIdeal.sig) → Buf (Elt Ideal) ℓ) (g : Dev Cert.DnPostPIdeal.nD → PrngReg), Pre_DnPostPIdeal m →
    θ_run (Cert.DnPostPIdeal.defs (F := Ideal)) (onTc (τ := Cert.DnPostPIdeal.τ) (Cert.DnPostPIdeal.main (F := Ideal))) ⟨m, fun _ => 0, g⟩ (fun r => (∀ c : Dev Cert.DnPostPIdeal.nD,
      r.2.mem ((c.tc : Thread Cert.DnPostPIdeal.nD Cert.DnPostPIdeal.τ).loc Cert.DnPostPIdeal.main_arg0) = m ((c.tc : Thread Cert.DnPostPIdeal.nD Cert.DnPostPIdeal.τ).loc Cert.DnPostPIdeal.main_arg0)
      ∧ r.2.mem ((c.tc : Thread Cert.DnPostPIdeal.nD Cert.DnPostPIdeal.τ).loc Cert.DnPostPIdeal.main_arg1) = m ((c.tc : Thread Cert.DnPostPIdeal.nD Cert.DnPostPIdeal.τ).loc Cert.DnPostPIdeal.main_arg1)
      ∧ r.2.mem ((c.tc : Thread Cert.DnPostPIdeal.nD Cert.DnPostPIdeal.τ).loc Cert.DnPostPIdeal.main_arg2) = m ((c.tc : Thread Cert.DnPostPIdeal.nD Cert.DnPostPIdeal.τ).loc Cert.DnPostPIdeal.main_arg2)
      ∧ r.2.mem ((c.tc : Thread Cert.DnPostPIdeal.nD Cert.DnPostPIdeal.τ).loc Cert.DnPostPIdeal.main_arg3) = m ((c.tc : Thread Cert.DnPostPIdeal.nD Cert.DnPostPIdeal.τ).loc Cert.DnPostPIdeal.main_arg3))
      ∧ r.2.sem = fun _ => 0)

def quiescent_DnPostPRefIdeal [hDnPostPRefIdeal : Cert.DnPostPRefIdeal.Facts] : Prop :=
  ∀ (m : (ℓ : Loc Cert.DnPostPRefIdeal.nD Cert.DnPostPRefIdeal.τ Cert.DnPostPRefIdeal.sig) → Buf (Elt Ideal) ℓ) (g : Dev Cert.DnPostPRefIdeal.nD → PrngReg), Pre_DnPostPRefIdeal m →
    θ_run (Cert.DnPostPRefIdeal.defs (F := Ideal)) (onTc (τ := Cert.DnPostPRefIdeal.τ) (Cert.DnPostPRefIdeal.main (F := Ideal))) ⟨m, fun _ => 0, g⟩ (fun r => (∀ c : Dev Cert.DnPostPRefIdeal.nD,
      r.2.mem ((c.tc : Thread Cert.DnPostPRefIdeal.nD Cert.DnPostPRefIdeal.τ).loc Cert.DnPostPRefIdeal.main_arg0) = m ((c.tc : Thread Cert.DnPostPRefIdeal.nD Cert.DnPostPRefIdeal.τ).loc Cert.DnPostPRefIdeal.main_arg0)
      ∧ r.2.mem ((c.tc : Thread Cert.DnPostPRefIdeal.nD Cert.DnPostPRefIdeal.τ).loc Cert.DnPostPRefIdeal.main_arg1) = m ((c.tc : Thread Cert.DnPostPRefIdeal.nD Cert.DnPostPRefIdeal.τ).loc Cert.DnPostPRefIdeal.main_arg1)
      ∧ r.2.mem ((c.tc : Thread Cert.DnPostPRefIdeal.nD Cert.DnPostPRefIdeal.τ).loc Cert.DnPostPRefIdeal.main_arg2) = m ((c.tc : Thread Cert.DnPostPRefIdeal.nD Cert.DnPostPRefIdeal.τ).loc Cert.DnPostPRefIdeal.main_arg2)
      ∧ r.2.mem ((c.tc : Thread Cert.DnPostPRefIdeal.nD Cert.DnPostPRefIdeal.τ).loc Cert.DnPostPRefIdeal.main_arg3) = m ((c.tc : Thread Cert.DnPostPRefIdeal.nD Cert.DnPostPRefIdeal.τ).loc Cert.DnPostPRefIdeal.main_arg3))
      ∧ r.2.sem = fun _ => 0)

def quiescent_DnPostS [hDnPostS : Cert.DnPostS.Facts] : Prop :=
  ∀ (m : (ℓ : Loc Cert.DnPostS.nD Cert.DnPostS.τ Cert.DnPostS.sig) → Buf (Elt Bits) ℓ) (g : Dev Cert.DnPostS.nD → PrngReg), Pre_DnPostS m →
    θ_run (Cert.DnPostS.defs (F := Bits)) (onTc (τ := Cert.DnPostS.τ) (Cert.DnPostS.main (F := Bits))) ⟨m, fun _ => 0, g⟩ (fun r => (∀ c : Dev Cert.DnPostS.nD,
      r.2.mem ((c.tc : Thread Cert.DnPostS.nD Cert.DnPostS.τ).loc Cert.DnPostS.main_arg0) = m ((c.tc : Thread Cert.DnPostS.nD Cert.DnPostS.τ).loc Cert.DnPostS.main_arg0)
      ∧ r.2.mem ((c.tc : Thread Cert.DnPostS.nD Cert.DnPostS.τ).loc Cert.DnPostS.main_arg1) = m ((c.tc : Thread Cert.DnPostS.nD Cert.DnPostS.τ).loc Cert.DnPostS.main_arg1)
      ∧ r.2.mem ((c.tc : Thread Cert.DnPostS.nD Cert.DnPostS.τ).loc Cert.DnPostS.main_arg2) = m ((c.tc : Thread Cert.DnPostS.nD Cert.DnPostS.τ).loc Cert.DnPostS.main_arg2)
      ∧ r.2.mem ((c.tc : Thread Cert.DnPostS.nD Cert.DnPostS.τ).loc Cert.DnPostS.main_arg3) = m ((c.tc : Thread Cert.DnPostS.nD Cert.DnPostS.τ).loc Cert.DnPostS.main_arg3))
      ∧ r.2.sem = fun _ => 0)

def quiescent_DnPostSIdeal [hDnPostSIdeal : Cert.DnPostSIdeal.Facts] : Prop :=
  ∀ (m : (ℓ : Loc Cert.DnPostSIdeal.nD Cert.DnPostSIdeal.τ Cert.DnPostSIdeal.sig) → Buf (Elt Ideal) ℓ) (g : Dev Cert.DnPostSIdeal.nD → PrngReg), Pre_DnPostSIdeal m →
    θ_run (Cert.DnPostSIdeal.defs (F := Ideal)) (onTc (τ := Cert.DnPostSIdeal.τ) (Cert.DnPostSIdeal.main (F := Ideal))) ⟨m, fun _ => 0, g⟩ (fun r => (∀ c : Dev Cert.DnPostSIdeal.nD,
      r.2.mem ((c.tc : Thread Cert.DnPostSIdeal.nD Cert.DnPostSIdeal.τ).loc Cert.DnPostSIdeal.main_arg0) = m ((c.tc : Thread Cert.DnPostSIdeal.nD Cert.DnPostSIdeal.τ).loc Cert.DnPostSIdeal.main_arg0)
      ∧ r.2.mem ((c.tc : Thread Cert.DnPostSIdeal.nD Cert.DnPostSIdeal.τ).loc Cert.DnPostSIdeal.main_arg1) = m ((c.tc : Thread Cert.DnPostSIdeal.nD Cert.DnPostSIdeal.τ).loc Cert.DnPostSIdeal.main_arg1)
      ∧ r.2.mem ((c.tc : Thread Cert.DnPostSIdeal.nD Cert.DnPostSIdeal.τ).loc Cert.DnPostSIdeal.main_arg2) = m ((c.tc : Thread Cert.DnPostSIdeal.nD Cert.DnPostSIdeal.τ).loc Cert.DnPostSIdeal.main_arg2)
      ∧ r.2.mem ((c.tc : Thread Cert.DnPostSIdeal.nD Cert.DnPostSIdeal.τ).loc Cert.DnPostSIdeal.main_arg3) = m ((c.tc : Thread Cert.DnPostSIdeal.nD Cert.DnPostSIdeal.τ).loc Cert.DnPostSIdeal.main_arg3))
      ∧ r.2.sem = fun _ => 0)

def quiescent_DnPostSRefIdeal [hDnPostSRefIdeal : Cert.DnPostSRefIdeal.Facts] : Prop :=
  ∀ (m : (ℓ : Loc Cert.DnPostSRefIdeal.nD Cert.DnPostSRefIdeal.τ Cert.DnPostSRefIdeal.sig) → Buf (Elt Ideal) ℓ) (g : Dev Cert.DnPostSRefIdeal.nD → PrngReg), Pre_DnPostSRefIdeal m →
    θ_run (Cert.DnPostSRefIdeal.defs (F := Ideal)) (onTc (τ := Cert.DnPostSRefIdeal.τ) (Cert.DnPostSRefIdeal.main (F := Ideal))) ⟨m, fun _ => 0, g⟩ (fun r => (∀ c : Dev Cert.DnPostSRefIdeal.nD,
      r.2.mem ((c.tc : Thread Cert.DnPostSRefIdeal.nD Cert.DnPostSRefIdeal.τ).loc Cert.DnPostSRefIdeal.main_arg0) = m ((c.tc : Thread Cert.DnPostSRefIdeal.nD Cert.DnPostSRefIdeal.τ).loc Cert.DnPostSRefIdeal.main_arg0)
      ∧ r.2.mem ((c.tc : Thread Cert.DnPostSRefIdeal.nD Cert.DnPostSRefIdeal.τ).loc Cert.DnPostSRefIdeal.main_arg1) = m ((c.tc : Thread Cert.DnPostSRefIdeal.nD Cert.DnPostSRefIdeal.τ).loc Cert.DnPostSRefIdeal.main_arg1)
      ∧ r.2.mem ((c.tc : Thread Cert.DnPostSRefIdeal.nD Cert.DnPostSRefIdeal.τ).loc Cert.DnPostSRefIdeal.main_arg2) = m ((c.tc : Thread Cert.DnPostSRefIdeal.nD Cert.DnPostSRefIdeal.τ).loc Cert.DnPostSRefIdeal.main_arg2)
      ∧ r.2.mem ((c.tc : Thread Cert.DnPostSRefIdeal.nD Cert.DnPostSRefIdeal.τ).loc Cert.DnPostSRefIdeal.main_arg3) = m ((c.tc : Thread Cert.DnPostSRefIdeal.nD Cert.DnPostSRefIdeal.τ).loc Cert.DnPostSRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def preserves_AttnP_AttnPIdeal : Prop :=
  IdealRules.named_const.Statement Cert.AttnPIdeal.κ "mask" .f32 0xF149F2CA#32 ⊥

def algebraic_AttnPIdeal_AttnPRefIdeal [hAttnPIdeal : Cert.AttnPIdeal.Facts] [hAttnPRefIdeal : Cert.AttnPRefIdeal.Facts] : Prop :=
  ∀ (m : (ℓ : Loc Cert.AttnPIdeal.nD Cert.AttnPIdeal.τ Cert.AttnPIdeal.sig) → Buf (Elt Ideal) ℓ) (g : Dev Cert.AttnPIdeal.nD → PrngReg)
    (m' : (ℓ : Loc Cert.AttnPRefIdeal.nD Cert.AttnPRefIdeal.τ Cert.AttnPRefIdeal.sig) → Buf (Elt Ideal) ℓ) (g' : Dev Cert.AttnPRefIdeal.nD → PrngReg), Pre_AttnPIdeal m →
    (∀ c : Dev Cert.AttnPIdeal.nD,
      m' ((c.tc : Thread Cert.AttnPRefIdeal.nD Cert.AttnPRefIdeal.τ).loc Cert.AttnPRefIdeal.main_arg0) = m ((c.tc : Thread Cert.AttnPIdeal.nD Cert.AttnPIdeal.τ).loc Cert.AttnPIdeal.main_arg0)
      ∧ m' ((c.tc : Thread Cert.AttnPRefIdeal.nD Cert.AttnPRefIdeal.τ).loc Cert.AttnPRefIdeal.main_arg1) = m ((c.tc : Thread Cert.AttnPIdeal.nD Cert.AttnPIdeal.τ).loc Cert.AttnPIdeal.main_arg1)
      ∧ m' ((c.tc : Thread Cert.AttnPRefIdeal.nD Cert.AttnPRefIdeal.τ).loc Cert.AttnPRefIdeal.main_arg2) = m ((c.tc : Thread Cert.AttnPIdeal.nD Cert.AttnPIdeal.τ).loc Cert.AttnPIdeal.main_arg2)) →
    ∃ (v0 : (c : Dev Cert.AttnPIdeal.nD) → Buf (Elt Ideal) ((c.tc : Thread Cert.AttnPIdeal.nD Cert.AttnPIdeal.τ).loc Cert.AttnPIdeal.main_v51)),
      θ_run (Cert.AttnPIdeal.defs (F := Ideal)) (onTc (τ := Cert.AttnPIdeal.τ) (Cert.AttnPIdeal.main (F := Ideal))) ⟨m, fun _ => 0, g⟩ (fun r => ∀ c : Dev Cert.AttnPIdeal.nD,
          r.2.mem ((c.tc : Thread Cert.AttnPIdeal.nD Cert.AttnPIdeal.τ).loc Cert.AttnPIdeal.main_v51) = v0 c
          ∧ r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
          ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
          ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2))
      ∧ θ_run (Cert.AttnPRefIdeal.defs (F := Ideal)) (onTc (τ := Cert.AttnPRefIdeal.τ) (Cert.AttnPRefIdeal.main (F := Ideal))) ⟨m', fun _ => 0, g'⟩ (fun r => ∀ c : Dev Cert.AttnPRefIdeal.nD,
          r.2.mem ((c.tc : Thread Cert.AttnPRefIdeal.nD Cert.AttnPRefIdeal.τ).loc Cert.AttnPRefIdeal.main_v22) = v0 c
          ∧ r.2.mem ((c.tc : Thread Cert.AttnPRefIdeal.nD Cert.AttnPRefIdeal.τ).loc Cert.AttnPRefIdeal.main_arg0) = m' ((c.tc : Thread Cert.AttnPRefIdeal.nD Cert.AttnPRefIdeal.τ).loc Cert.AttnPRefIdeal.main_arg0)
          ∧ r.2.mem ((c.tc : Thread Cert.AttnPRefIdeal.nD Cert.AttnPRefIdeal.τ).loc Cert.AttnPRefIdeal.main_arg1) = m' ((c.tc : Thread Cert.AttnPRefIdeal.nD Cert.AttnPRefIdeal.τ).loc Cert.AttnPRefIdeal.main_arg1)
          ∧ r.2.mem ((c.tc : Thread Cert.AttnPRefIdeal.nD Cert.AttnPRefIdeal.τ).loc Cert.AttnPRefIdeal.main_arg2) = m' ((c.tc : Thread Cert.AttnPRefIdeal.nD Cert.AttnPRefIdeal.τ).loc Cert.AttnPRefIdeal.main_arg2))

def preserves_AttnS_AttnSIdeal : Prop :=
  IdealRules.named_const.Statement Cert.AttnSIdeal.κ "mask" .f32 0xF149F2CA#32 ⊥

def algebraic_AttnSIdeal_AttnSRefIdeal [hAttnSIdeal : Cert.AttnSIdeal.Facts] [hAttnSRefIdeal : Cert.AttnSRefIdeal.Facts] : Prop :=
  ∀ (m : (ℓ : Loc Cert.AttnSIdeal.nD Cert.AttnSIdeal.τ Cert.AttnSIdeal.sig) → Buf (Elt Ideal) ℓ) (g : Dev Cert.AttnSIdeal.nD → PrngReg)
    (m' : (ℓ : Loc Cert.AttnSRefIdeal.nD Cert.AttnSRefIdeal.τ Cert.AttnSRefIdeal.sig) → Buf (Elt Ideal) ℓ) (g' : Dev Cert.AttnSRefIdeal.nD → PrngReg), Pre_AttnSIdeal m →
    (∀ c : Dev Cert.AttnSIdeal.nD,
      m' ((c.tc : Thread Cert.AttnSRefIdeal.nD Cert.AttnSRefIdeal.τ).loc Cert.AttnSRefIdeal.main_arg0) = m ((c.tc : Thread Cert.AttnSIdeal.nD Cert.AttnSIdeal.τ).loc Cert.AttnSIdeal.main_arg0)
      ∧ m' ((c.tc : Thread Cert.AttnSRefIdeal.nD Cert.AttnSRefIdeal.τ).loc Cert.AttnSRefIdeal.main_arg1) = m ((c.tc : Thread Cert.AttnSIdeal.nD Cert.AttnSIdeal.τ).loc Cert.AttnSIdeal.main_arg1)
      ∧ m' ((c.tc : Thread Cert.AttnSRefIdeal.nD Cert.AttnSRefIdeal.τ).loc Cert.AttnSRefIdeal.main_arg2) = m ((c.tc : Thread Cert.AttnSIdeal.nD Cert.AttnSIdeal.τ).loc Cert.AttnSIdeal.main_arg2)) →
    ∃ (v0 : (c : Dev Cert.AttnSIdeal.nD) → Buf (Elt Ideal) ((c.tc : Thread Cert.AttnSIdeal.nD Cert.AttnSIdeal.τ).loc Cert.AttnSIdeal.main_v51)),
      θ_run (Cert.AttnSIdeal.defs (F := Ideal)) (onTc (τ := Cert.AttnSIdeal.τ) (Cert.AttnSIdeal.main (F := Ideal))) ⟨m, fun _ => 0, g⟩ (fun r => ∀ c : Dev Cert.AttnSIdeal.nD,
          r.2.mem ((c.tc : Thread Cert.AttnSIdeal.nD Cert.AttnSIdeal.τ).loc Cert.AttnSIdeal.main_v51) = v0 c
          ∧ r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
          ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
          ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2))
      ∧ θ_run (Cert.AttnSRefIdeal.defs (F := Ideal)) (onTc (τ := Cert.AttnSRefIdeal.τ) (Cert.AttnSRefIdeal.main (F := Ideal))) ⟨m', fun _ => 0, g'⟩ (fun r => ∀ c : Dev Cert.AttnSRefIdeal.nD,
          r.2.mem ((c.tc : Thread Cert.AttnSRefIdeal.nD Cert.AttnSRefIdeal.τ).loc Cert.AttnSRefIdeal.main_v22) = v0 c
          ∧ r.2.mem ((c.tc : Thread Cert.AttnSRefIdeal.nD Cert.AttnSRefIdeal.τ).loc Cert.AttnSRefIdeal.main_arg0) = m' ((c.tc : Thread Cert.AttnSRefIdeal.nD Cert.AttnSRefIdeal.τ).loc Cert.AttnSRefIdeal.main_arg0)
          ∧ r.2.mem ((c.tc : Thread Cert.AttnSRefIdeal.nD Cert.AttnSRefIdeal.τ).loc Cert.AttnSRefIdeal.main_arg1) = m' ((c.tc : Thread Cert.AttnSRefIdeal.nD Cert.AttnSRefIdeal.τ).loc Cert.AttnSRefIdeal.main_arg1)
          ∧ r.2.mem ((c.tc : Thread Cert.AttnSRefIdeal.nD Cert.AttnSRefIdeal.τ).loc Cert.AttnSRefIdeal.main_arg2) = m' ((c.tc : Thread Cert.AttnSRefIdeal.nD Cert.AttnSRefIdeal.τ).loc Cert.AttnSRefIdeal.main_arg2))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v9) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v13)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_FinalP_FinalPIdeal : Prop :=
  True

def algebraic_FinalPIdeal_FinalPRefIdeal [hFinalPIdeal : Cert.FinalPIdeal.Facts] [hFinalPRefIdeal : Cert.FinalPRefIdeal.Facts] : Prop :=
  ∀ (m : (ℓ : Loc Cert.FinalPIdeal.nD Cert.FinalPIdeal.τ Cert.FinalPIdeal.sig) → Buf (Elt Ideal) ℓ) (g : Dev Cert.FinalPIdeal.nD → PrngReg)
    (m' : (ℓ : Loc Cert.FinalPRefIdeal.nD Cert.FinalPRefIdeal.τ Cert.FinalPRefIdeal.sig) → Buf (Elt Ideal) ℓ) (g' : Dev Cert.FinalPRefIdeal.nD → PrngReg), Pre_FinalPIdeal m →
    (∀ c : Dev Cert.FinalPIdeal.nD,
      m' ((c.tc : Thread Cert.FinalPRefIdeal.nD Cert.FinalPRefIdeal.τ).loc Cert.FinalPRefIdeal.main_arg0) = m ((c.tc : Thread Cert.FinalPIdeal.nD Cert.FinalPIdeal.τ).loc Cert.FinalPIdeal.main_arg0)
      ∧ m' ((c.tc : Thread Cert.FinalPRefIdeal.nD Cert.FinalPRefIdeal.τ).loc Cert.FinalPRefIdeal.main_arg1) = m ((c.tc : Thread Cert.FinalPIdeal.nD Cert.FinalPIdeal.τ).loc Cert.FinalPIdeal.main_arg1)) →
    ∃ (v0 : (c : Dev Cert.FinalPIdeal.nD) → Buf (Elt Ideal) ((c.tc : Thread Cert.FinalPIdeal.nD Cert.FinalPIdeal.τ).loc Cert.FinalPIdeal.main_v1)),
      θ_run (Cert.FinalPIdeal.defs (F := Ideal)) (onTc (τ := Cert.FinalPIdeal.τ) (Cert.FinalPIdeal.main (F := Ideal))) ⟨m, fun _ => 0, g⟩ (fun r => ∀ c : Dev Cert.FinalPIdeal.nD,
          r.2.mem ((c.tc : Thread Cert.FinalPIdeal.nD Cert.FinalPIdeal.τ).loc Cert.FinalPIdeal.main_v1) = v0 c
          ∧ r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
          ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1))
      ∧ θ_run (Cert.FinalPRefIdeal.defs (F := Ideal)) (onTc (τ := Cert.FinalPRefIdeal.τ) (Cert.FinalPRefIdeal.main (F := Ideal))) ⟨m', fun _ => 0, g'⟩ (fun r => ∀ c : Dev Cert.FinalPRefIdeal.nD,
          r.2.mem ((c.tc : Thread Cert.FinalPRefIdeal.nD Cert.FinalPRefIdeal.τ).loc Cert.FinalPRefIdeal.main_v16) = v0 c
          ∧ r.2.mem ((c.tc : Thread Cert.FinalPRefIdeal.nD Cert.FinalPRefIdeal.τ).loc Cert.FinalPRefIdeal.main_arg0) = m' ((c.tc : Thread Cert.FinalPRefIdeal.nD Cert.FinalPRefIdeal.τ).loc Cert.FinalPRefIdeal.main_arg0)
          ∧ r.2.mem ((c.tc : Thread Cert.FinalPRefIdeal.nD Cert.FinalPRefIdeal.τ).loc Cert.FinalPRefIdeal.main_arg1) = m' ((c.tc : Thread Cert.FinalPRefIdeal.nD Cert.FinalPRefIdeal.τ).loc Cert.FinalPRefIdeal.main_arg1))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)) →
    ∃ (v0 : (c : Dev Cert.FinalSIdeal.nD) → Buf (Elt Ideal) ((c.tc : Thread Cert.FinalSIdeal.nD Cert.FinalSIdeal.τ).loc Cert.FinalSIdeal.main_v1)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v1) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v16) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1))

def preserves_DnPostP_DnPostPIdeal : Prop :=
  True

def algebraic_DnPostPIdeal_DnPostPRefIdeal [hDnPostPIdeal : Cert.DnPostPIdeal.Facts] [hDnPostPRefIdeal : Cert.DnPostPRefIdeal.Facts] : Prop :=
  ∀ (m : (ℓ : Loc Cert.DnPostPIdeal.nD Cert.DnPostPIdeal.τ Cert.DnPostPIdeal.sig) → Buf (Elt Ideal) ℓ) (g : Dev Cert.DnPostPIdeal.nD → PrngReg)
    (m' : (ℓ : Loc Cert.DnPostPRefIdeal.nD Cert.DnPostPRefIdeal.τ Cert.DnPostPRefIdeal.sig) → Buf (Elt Ideal) ℓ) (g' : Dev Cert.DnPostPRefIdeal.nD → PrngReg), Pre_DnPostPIdeal m →
    (∀ c : Dev Cert.DnPostPIdeal.nD,
      m' ((c.tc : Thread Cert.DnPostPRefIdeal.nD Cert.DnPostPRefIdeal.τ).loc Cert.DnPostPRefIdeal.main_arg0) = m ((c.tc : Thread Cert.DnPostPIdeal.nD Cert.DnPostPIdeal.τ).loc Cert.DnPostPIdeal.main_arg0)
      ∧ m' ((c.tc : Thread Cert.DnPostPRefIdeal.nD Cert.DnPostPRefIdeal.τ).loc Cert.DnPostPRefIdeal.main_arg1) = m ((c.tc : Thread Cert.DnPostPIdeal.nD Cert.DnPostPIdeal.τ).loc Cert.DnPostPIdeal.main_arg1)
      ∧ m' ((c.tc : Thread Cert.DnPostPRefIdeal.nD Cert.DnPostPRefIdeal.τ).loc Cert.DnPostPRefIdeal.main_arg2) = m ((c.tc : Thread Cert.DnPostPIdeal.nD Cert.DnPostPIdeal.τ).loc Cert.DnPostPIdeal.main_arg2)
      ∧ m' ((c.tc : Thread Cert.DnPostPRefIdeal.nD Cert.DnPostPRefIdeal.τ).loc Cert.DnPostPRefIdeal.main_arg3) = m ((c.tc : Thread Cert.DnPostPIdeal.nD Cert.DnPostPIdeal.τ).loc Cert.DnPostPIdeal.main_arg3)) →
    ∃ (v0 : (c : Dev Cert.DnPostPIdeal.nD) → Buf (Elt Ideal) ((c.tc : Thread Cert.DnPostPIdeal.nD Cert.DnPostPIdeal.τ).loc Cert.DnPostPIdeal.main_v1)),
      θ_run (Cert.DnPostPIdeal.defs (F := Ideal)) (onTc (τ := Cert.DnPostPIdeal.τ) (Cert.DnPostPIdeal.main (F := Ideal))) ⟨m, fun _ => 0, g⟩ (fun r => ∀ c : Dev Cert.DnPostPIdeal.nD,
          r.2.mem ((c.tc : Thread Cert.DnPostPIdeal.nD Cert.DnPostPIdeal.τ).loc Cert.DnPostPIdeal.main_v1) = v0 c
          ∧ r.2.mem ((c.tc : Thread Cert.DnPostPIdeal.nD Cert.DnPostPIdeal.τ).loc Cert.DnPostPIdeal.main_arg0) = m ((c.tc : Thread Cert.DnPostPIdeal.nD Cert.DnPostPIdeal.τ).loc Cert.DnPostPIdeal.main_arg0)
          ∧ r.2.mem ((c.tc : Thread Cert.DnPostPIdeal.nD Cert.DnPostPIdeal.τ).loc Cert.DnPostPIdeal.main_arg1) = m ((c.tc : Thread Cert.DnPostPIdeal.nD Cert.DnPostPIdeal.τ).loc Cert.DnPostPIdeal.main_arg1)
          ∧ r.2.mem ((c.tc : Thread Cert.DnPostPIdeal.nD Cert.DnPostPIdeal.τ).loc Cert.DnPostPIdeal.main_arg2) = m ((c.tc : Thread Cert.DnPostPIdeal.nD Cert.DnPostPIdeal.τ).loc Cert.DnPostPIdeal.main_arg2)
          ∧ r.2.mem ((c.tc : Thread Cert.DnPostPIdeal.nD Cert.DnPostPIdeal.τ).loc Cert.DnPostPIdeal.main_arg3) = m ((c.tc : Thread Cert.DnPostPIdeal.nD Cert.DnPostPIdeal.τ).loc Cert.DnPostPIdeal.main_arg3))
      ∧ θ_run (Cert.DnPostPRefIdeal.defs (F := Ideal)) (onTc (τ := Cert.DnPostPRefIdeal.τ) (Cert.DnPostPRefIdeal.main (F := Ideal))) ⟨m', fun _ => 0, g'⟩ (fun r => ∀ c : Dev Cert.DnPostPRefIdeal.nD,
          r.2.mem ((c.tc : Thread Cert.DnPostPRefIdeal.nD Cert.DnPostPRefIdeal.τ).loc Cert.DnPostPRefIdeal.main_v20) = v0 c
          ∧ r.2.mem ((c.tc : Thread Cert.DnPostPRefIdeal.nD Cert.DnPostPRefIdeal.τ).loc Cert.DnPostPRefIdeal.main_arg0) = m' ((c.tc : Thread Cert.DnPostPRefIdeal.nD Cert.DnPostPRefIdeal.τ).loc Cert.DnPostPRefIdeal.main_arg0)
          ∧ r.2.mem ((c.tc : Thread Cert.DnPostPRefIdeal.nD Cert.DnPostPRefIdeal.τ).loc Cert.DnPostPRefIdeal.main_arg1) = m' ((c.tc : Thread Cert.DnPostPRefIdeal.nD Cert.DnPostPRefIdeal.τ).loc Cert.DnPostPRefIdeal.main_arg1)
          ∧ r.2.mem ((c.tc : Thread Cert.DnPostPRefIdeal.nD Cert.DnPostPRefIdeal.τ).loc Cert.DnPostPRefIdeal.main_arg2) = m' ((c.tc : Thread Cert.DnPostPRefIdeal.nD Cert.DnPostPRefIdeal.τ).loc Cert.DnPostPRefIdeal.main_arg2)
          ∧ r.2.mem ((c.tc : Thread Cert.DnPostPRefIdeal.nD Cert.DnPostPRefIdeal.τ).loc Cert.DnPostPRefIdeal.main_arg3) = m' ((c.tc : Thread Cert.DnPostPRefIdeal.nD Cert.DnPostPRefIdeal.τ).loc Cert.DnPostPRefIdeal.main_arg3))

def preserves_DnPostS_DnPostSIdeal : Prop :=
  True

def algebraic_DnPostSIdeal_DnPostSRefIdeal [hDnPostSIdeal : Cert.DnPostSIdeal.Facts] [hDnPostSRefIdeal : Cert.DnPostSRefIdeal.Facts] : Prop :=
  ∀ (m : (ℓ : Loc Cert.DnPostSIdeal.nD Cert.DnPostSIdeal.τ Cert.DnPostSIdeal.sig) → Buf (Elt Ideal) ℓ) (g : Dev Cert.DnPostSIdeal.nD → PrngReg)
    (m' : (ℓ : Loc Cert.DnPostSRefIdeal.nD Cert.DnPostSRefIdeal.τ Cert.DnPostSRefIdeal.sig) → Buf (Elt Ideal) ℓ) (g' : Dev Cert.DnPostSRefIdeal.nD → PrngReg), Pre_DnPostSIdeal m →
    (∀ c : Dev Cert.DnPostSIdeal.nD,
      m' ((c.tc : Thread Cert.DnPostSRefIdeal.nD Cert.DnPostSRefIdeal.τ).loc Cert.DnPostSRefIdeal.main_arg0) = m ((c.tc : Thread Cert.DnPostSIdeal.nD Cert.DnPostSIdeal.τ).loc Cert.DnPostSIdeal.main_arg0)
      ∧ m' ((c.tc : Thread Cert.DnPostSRefIdeal.nD Cert.DnPostSRefIdeal.τ).loc Cert.DnPostSRefIdeal.main_arg1) = m ((c.tc : Thread Cert.DnPostSIdeal.nD Cert.DnPostSIdeal.τ).loc Cert.DnPostSIdeal.main_arg1)
      ∧ m' ((c.tc : Thread Cert.DnPostSRefIdeal.nD Cert.DnPostSRefIdeal.τ).loc Cert.DnPostSRefIdeal.main_arg2) = m ((c.tc : Thread Cert.DnPostSIdeal.nD Cert.DnPostSIdeal.τ).loc Cert.DnPostSIdeal.main_arg2)
      ∧ m' ((c.tc : Thread Cert.DnPostSRefIdeal.nD Cert.DnPostSRefIdeal.τ).loc Cert.DnPostSRefIdeal.main_arg3) = m ((c.tc : Thread Cert.DnPostSIdeal.nD Cert.DnPostSIdeal.τ).loc Cert.DnPostSIdeal.main_arg3)) →
    ∃ (v0 : (c : Dev Cert.DnPostSIdeal.nD) → Buf (Elt Ideal) ((c.tc : Thread Cert.DnPostSIdeal.nD Cert.DnPostSIdeal.τ).loc Cert.DnPostSIdeal.main_v1)),
      θ_run (Cert.DnPostSIdeal.defs (F := Ideal)) (onTc (τ := Cert.DnPostSIdeal.τ) (Cert.DnPostSIdeal.main (F := Ideal))) ⟨m, fun _ => 0, g⟩ (fun r => ∀ c : Dev Cert.DnPostSIdeal.nD,
          r.2.mem ((c.tc : Thread Cert.DnPostSIdeal.nD Cert.DnPostSIdeal.τ).loc Cert.DnPostSIdeal.main_v1) = v0 c
          ∧ r.2.mem ((c.tc : Thread Cert.DnPostSIdeal.nD Cert.DnPostSIdeal.τ).loc Cert.DnPostSIdeal.main_arg0) = m ((c.tc : Thread Cert.DnPostSIdeal.nD Cert.DnPostSIdeal.τ).loc Cert.DnPostSIdeal.main_arg0)
          ∧ r.2.mem ((c.tc : Thread Cert.DnPostSIdeal.nD Cert.DnPostSIdeal.τ).loc Cert.DnPostSIdeal.main_arg1) = m ((c.tc : Thread Cert.DnPostSIdeal.nD Cert.DnPostSIdeal.τ).loc Cert.DnPostSIdeal.main_arg1)
          ∧ r.2.mem ((c.tc : Thread Cert.DnPostSIdeal.nD Cert.DnPostSIdeal.τ).loc Cert.DnPostSIdeal.main_arg2) = m ((c.tc : Thread Cert.DnPostSIdeal.nD Cert.DnPostSIdeal.τ).loc Cert.DnPostSIdeal.main_arg2)
          ∧ r.2.mem ((c.tc : Thread Cert.DnPostSIdeal.nD Cert.DnPostSIdeal.τ).loc Cert.DnPostSIdeal.main_arg3) = m ((c.tc : Thread Cert.DnPostSIdeal.nD Cert.DnPostSIdeal.τ).loc Cert.DnPostSIdeal.main_arg3))
      ∧ θ_run (Cert.DnPostSRefIdeal.defs (F := Ideal)) (onTc (τ := Cert.DnPostSRefIdeal.τ) (Cert.DnPostSRefIdeal.main (F := Ideal))) ⟨m', fun _ => 0, g'⟩ (fun r => ∀ c : Dev Cert.DnPostSRefIdeal.nD,
          r.2.mem ((c.tc : Thread Cert.DnPostSRefIdeal.nD Cert.DnPostSRefIdeal.τ).loc Cert.DnPostSRefIdeal.main_v20) = v0 c
          ∧ r.2.mem ((c.tc : Thread Cert.DnPostSRefIdeal.nD Cert.DnPostSRefIdeal.τ).loc Cert.DnPostSRefIdeal.main_arg0) = m' ((c.tc : Thread Cert.DnPostSRefIdeal.nD Cert.DnPostSRefIdeal.τ).loc Cert.DnPostSRefIdeal.main_arg0)
          ∧ r.2.mem ((c.tc : Thread Cert.DnPostSRefIdeal.nD Cert.DnPostSRefIdeal.τ).loc Cert.DnPostSRefIdeal.main_arg1) = m' ((c.tc : Thread Cert.DnPostSRefIdeal.nD Cert.DnPostSRefIdeal.τ).loc Cert.DnPostSRefIdeal.main_arg1)
          ∧ r.2.mem ((c.tc : Thread Cert.DnPostSRefIdeal.nD Cert.DnPostSRefIdeal.τ).loc Cert.DnPostSRefIdeal.main_arg2) = m' ((c.tc : Thread Cert.DnPostSRefIdeal.nD Cert.DnPostSRefIdeal.τ).loc Cert.DnPostSRefIdeal.main_arg2)
          ∧ r.2.mem ((c.tc : Thread Cert.DnPostSRefIdeal.nD Cert.DnPostSRefIdeal.τ).loc Cert.DnPostSRefIdeal.main_arg3) = m' ((c.tc : Thread Cert.DnPostSRefIdeal.nD Cert.DnPostSRefIdeal.τ).loc Cert.DnPostSRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v52_0)) (v1 : (c : Dev Cert.PrepIdeal.nD) → Buf (Elt Ideal) ((c.tc : Thread Cert.PrepIdeal.nD Cert.PrepIdeal.τ).loc Cert.PrepIdeal.main_v52_1)) (v2 : (c : Dev Cert.PrepIdeal.nD) → Buf (Elt Ideal) ((c.tc : Thread Cert.PrepIdeal.nD Cert.PrepIdeal.τ).loc Cert.PrepIdeal.main_v52_2)) (v3 : (c : Dev Cert.PrepIdeal.nD) → Buf (Elt Ideal) ((c.tc : Thread Cert.PrepIdeal.nD Cert.PrepIdeal.τ).loc Cert.PrepIdeal.main_v52_3)) (v4 : (c : Dev Cert.PrepIdeal.nD) → Buf (Elt Ideal) ((c.tc : Thread Cert.PrepIdeal.nD Cert.PrepIdeal.τ).loc Cert.PrepIdeal.main_v52_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v52_0) = v0 c
          ∧ r.2.mem ((c.tc : Thread Cert.PrepIdeal.nD Cert.PrepIdeal.τ).loc Cert.PrepIdeal.main_v52_1) = v1 c
          ∧ r.2.mem ((c.tc : Thread Cert.PrepIdeal.nD Cert.PrepIdeal.τ).loc Cert.PrepIdeal.main_v52_2) = v2 c
          ∧ r.2.mem ((c.tc : Thread Cert.PrepIdeal.nD Cert.PrepIdeal.τ).loc Cert.PrepIdeal.main_v52_3) = v3 c
          ∧ r.2.mem ((c.tc : Thread Cert.PrepIdeal.nD Cert.PrepIdeal.τ).loc Cert.PrepIdeal.main_v52_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v168) = v0 c
          ∧ r.2.mem ((c.tc : Thread Cert.PrepRefIdeal.nD Cert.PrepRefIdeal.τ).loc Cert.PrepRefIdeal.main_v169) = v1 c
          ∧ r.2.mem ((c.tc : Thread Cert.PrepRefIdeal.nD Cert.PrepRefIdeal.τ).loc Cert.PrepRefIdeal.main_v170) = v2 c
          ∧ r.2.mem ((c.tc : Thread Cert.PrepRefIdeal.nD Cert.PrepRefIdeal.τ).loc Cert.PrepRefIdeal.main_v171) = v3 c
          ∧ r.2.mem ((c.tc : Thread Cert.PrepRefIdeal.nD Cert.PrepRefIdeal.τ).loc Cert.PrepRefIdeal.main_v172) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def Claim : Prop :=
  ∃ (hAttnP : Cert.AttnP.Facts) (hAttnPIdeal : Cert.AttnPIdeal.Facts) (hAttnPRefIdeal : Cert.AttnPRefIdeal.Facts) (hAttnS : Cert.AttnS.Facts) (hAttnSIdeal : Cert.AttnSIdeal.Facts) (hAttnSRefIdeal : Cert.AttnSRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hFinalP : Cert.FinalP.Facts) (hFinalPIdeal : Cert.FinalPIdeal.Facts) (hFinalPRefIdeal : Cert.FinalPRefIdeal.Facts) (hFinalS : Cert.FinalS.Facts) (hFinalSIdeal : Cert.FinalSIdeal.Facts) (hFinalSRefIdeal : Cert.FinalSRefIdeal.Facts) (hDnPostP : Cert.DnPostP.Facts) (hDnPostPIdeal : Cert.DnPostPIdeal.Facts) (hDnPostPRefIdeal : Cert.DnPostPRefIdeal.Facts) (hDnPostS : Cert.DnPostS.Facts) (hDnPostSIdeal : Cert.DnPostSIdeal.Facts) (hDnPostSRefIdeal : Cert.DnPostSRefIdeal.Facts) (hPrep : Cert.Prep.Facts) (hPrepIdeal : Cert.PrepIdeal.Facts) (hPrepRefIdeal : Cert.PrepRefIdeal.Facts),
    quiescent_AttnP (hAttnP := hAttnP)
    ∧ quiescent_AttnPIdeal (hAttnPIdeal := hAttnPIdeal)
    ∧ quiescent_AttnPRefIdeal (hAttnPRefIdeal := hAttnPRefIdeal)
    ∧ quiescent_AttnS (hAttnS := hAttnS)
    ∧ quiescent_AttnSIdeal (hAttnSIdeal := hAttnSIdeal)
    ∧ quiescent_AttnSRefIdeal (hAttnSRefIdeal := hAttnSRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm (hNorm := hNorm)
    ∧ quiescent_NormIdeal (hNormIdeal := hNormIdeal)
    ∧ quiescent_NormRefIdeal (hNormRefIdeal := hNormRefIdeal)
    ∧ quiescent_FinalP (hFinalP := hFinalP)
    ∧ quiescent_FinalPIdeal (hFinalPIdeal := hFinalPIdeal)
    ∧ quiescent_FinalPRefIdeal (hFinalPRefIdeal := hFinalPRefIdeal)
    ∧ quiescent_FinalS (hFinalS := hFinalS)
    ∧ quiescent_FinalSIdeal (hFinalSIdeal := hFinalSIdeal)
    ∧ quiescent_FinalSRefIdeal (hFinalSRefIdeal := hFinalSRefIdeal)
    ∧ quiescent_DnPostP (hDnPostP := hDnPostP)
    ∧ quiescent_DnPostPIdeal (hDnPostPIdeal := hDnPostPIdeal)
    ∧ quiescent_DnPostPRefIdeal (hDnPostPRefIdeal := hDnPostPRefIdeal)
    ∧ quiescent_DnPostS (hDnPostS := hDnPostS)
    ∧ quiescent_DnPostSIdeal (hDnPostSIdeal := hDnPostSIdeal)
    ∧ quiescent_DnPostSRefIdeal (hDnPostSRefIdeal := hDnPostSRefIdeal)
    ∧ quiescent_Prep (hPrep := hPrep)
    ∧ quiescent_PrepIdeal (hPrepIdeal := hPrepIdeal)
    ∧ quiescent_PrepRefIdeal (hPrepRefIdeal := hPrepRefIdeal)
    ∧ preserves_AttnP_AttnPIdeal
    ∧ algebraic_AttnPIdeal_AttnPRefIdeal (hAttnPIdeal := hAttnPIdeal) (hAttnPRefIdeal := hAttnPRefIdeal)
    ∧ preserves_AttnS_AttnSIdeal
    ∧ algebraic_AttnSIdeal_AttnSRefIdeal (hAttnSIdeal := hAttnSIdeal) (hAttnSRefIdeal := hAttnSRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Norm_NormIdeal
    ∧ algebraic_NormIdeal_NormRefIdeal (hNormIdeal := hNormIdeal) (hNormRefIdeal := hNormRefIdeal)
    ∧ preserves_FinalP_FinalPIdeal
    ∧ algebraic_FinalPIdeal_FinalPRefIdeal (hFinalPIdeal := hFinalPIdeal) (hFinalPRefIdeal := hFinalPRefIdeal)
    ∧ preserves_FinalS_FinalSIdeal
    ∧ algebraic_FinalSIdeal_FinalSRefIdeal (hFinalSIdeal := hFinalSIdeal) (hFinalSRefIdeal := hFinalSRefIdeal)
    ∧ preserves_DnPostP_DnPostPIdeal
    ∧ algebraic_DnPostPIdeal_DnPostPRefIdeal (hDnPostPIdeal := hDnPostPIdeal) (hDnPostPRefIdeal := hDnPostPRefIdeal)
    ∧ preserves_DnPostS_DnPostSIdeal
    ∧ algebraic_DnPostSIdeal_DnPostSRefIdeal (hDnPostSIdeal := hDnPostSIdeal) (hDnPostSRefIdeal := hDnPostSRefIdeal)
    ∧ preserves_Prep_PrepIdeal
    ∧ algebraic_PrepIdeal_PrepRefIdeal (hPrepIdeal := hPrepIdeal) (hPrepRefIdeal := hPrepRefIdeal)
-- ==== AttnP.lean ====
abbrev S16512x512 : Shape := ⟨2, ![16512, 512]⟩
abbrev S16512x256 : Shape := ⟨2, ![16512, 256]⟩
abbrev S16512 : Shape := ⟨1, ![16512]⟩
abbrev S_ : Shape := ⟨0, ![]⟩
abbrev S32 : Shape := ⟨1, ![32]⟩
abbrev S16512x1 : Shape := ⟨2, ![16512, 1]⟩
abbrev S1x32 : Shape := ⟨2, ![1, 32]⟩
abbrev S16512x32 : Shape := ⟨2, ![16512, 32]⟩
abbrev S16512x128 : Shape := ⟨2, ![16512, 128]⟩
abbrev S43x384 : Shape := ⟨2, ![43, 384]⟩
abbrev S384x256 : Shape := ⟨2, ![384, 256]⟩
abbrev S384x128 : Shape := ⟨2, ![384, 128]⟩
abbrev S768x128 : Shape := ⟨2, ![768, 128]⟩
abbrev S768x1 : Shape := ⟨2, ![768, 1]⟩
abbrev S768x384 : Shape := ⟨2, ![768, 384]⟩
abbrev S1x384 : Shape := ⟨2, ![1, 384]⟩
abbrev S768 : Shape := ⟨1, ![768]⟩

abbrev nBuf : Space → Nat
  | .hbm => 117
  | .vmem => 9
  | .smem => 0
  | _ => 0

abbrev bufTy : (tb : Table) → Fin (tcTables nBuf tb) → BufTy
  | .hbm, ⟨0, _⟩ => ⟨S16512x512, .bf16⟩
  | .hbm, ⟨1, _⟩ => ⟨S16512x256, .bf16⟩
  | .hbm, ⟨2, _⟩ => ⟨S16512x256, .bf16⟩
  | .hbm, ⟨3, _⟩ => ⟨S16512, .i32⟩
  | .hbm, ⟨4, _⟩ => ⟨S_, .i32⟩
  | .hbm, ⟨5, _⟩ => ⟨S16512, .i32⟩
  | .hbm, ⟨6, _⟩ => ⟨S16512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16512, .i32⟩
  | .hbm, ⟨11, _⟩ => ⟨S16512, .i32⟩
  | .hbm, ⟨12, _⟩ => ⟨S_, .i32⟩
  | .hbm, ⟨13, _⟩ => ⟨S16512, .i32⟩
  | .hbm, ⟨14, _⟩ => ⟨S16512, .i32⟩
  | .hbm, ⟨15, _⟩ => ⟨S_, .i32⟩
  | .hbm, ⟨16, _⟩ => ⟨S16512, .i32⟩
  | .hbm, ⟨17, _⟩ => ⟨S16512, .i1⟩
  | .hbm, ⟨18, _⟩ => ⟨S_, .i32⟩
  | .hbm, ⟨19, _⟩ => ⟨S16512, .i32⟩
  | .hbm, ⟨20, _⟩ => ⟨S16512, .i1⟩
  | .hbm, ⟨21, _⟩ => ⟨S16512, .i1⟩
  | .hbm, ⟨22, _⟩ => ⟨S_, .i32⟩
  | .hbm, ⟨23, _⟩ => ⟨S_, .i32⟩
  | .hbm, ⟨24, _⟩ => ⟨S16512, .i32⟩
  | .hbm, ⟨25, _⟩ => ⟨S16512, .i32⟩
  | .hbm, ⟨26, _⟩ => ⟨S16512, .i32⟩
  | .hbm, ⟨27, _⟩ => ⟨S_, .i32⟩
  | .hbm, ⟨28, _⟩ => ⟨S16512, .i32⟩
  | .hbm, ⟨29, _⟩ => ⟨S16512, .i1⟩
  | .hbm, ⟨30, _⟩ => ⟨S16512, .i32⟩
  | .hbm, ⟨31, _⟩ => ⟨S16512, .i32⟩
  | .hbm, ⟨32, _⟩ => ⟨S_, .i32⟩
  | .hbm, ⟨33, _⟩ => ⟨S16512, .i32⟩
  | .hbm, ⟨34, _⟩ => ⟨S16512, .i1⟩
  | .hbm, ⟨35, _⟩ => ⟨S16512, .i1⟩
  | .hbm, ⟨36, _⟩ => ⟨S_, .i32⟩
  | .hbm, ⟨37, _⟩ => ⟨S16512, .i32⟩
  | .hbm, ⟨38, _⟩ => ⟨S16512, .i32⟩
  | .hbm, ⟨39, _⟩ => ⟨S16512, .i32⟩
  | .hbm, ⟨40, _⟩ => ⟨S_, .i32⟩
  | .hbm, ⟨41, _⟩ => ⟨S_, .i32⟩
  | .hbm, ⟨42, _⟩ => ⟨S16512, .i32⟩
  | .hbm, ⟨43, _⟩ => ⟨S16512, .i32⟩
  | .hbm, ⟨44, _⟩ => ⟨S16512, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S16512, .i32⟩
  | .hbm, ⟨52, _⟩ => ⟨S16512, .i32⟩
  | .hbm, ⟨53, _⟩ => ⟨S_, .i32⟩
  | .hbm, ⟨54, _⟩ => ⟨S16512, .i32⟩
  | .hbm, ⟨55, _⟩ => ⟨S16512, .i1⟩
  | .hbm, ⟨56, _⟩ => ⟨S_, .i32⟩
  | .hbm, ⟨57, _⟩ => ⟨S16512, .i32⟩
  | .hbm, ⟨58, _⟩ => ⟨S16512, .i1⟩
  | .hbm, ⟨59, _⟩ => ⟨S_, .i32⟩
  | .hbm, ⟨60, _⟩ => ⟨S_, .i1⟩
  | .hbm, ⟨61, _⟩ => ⟨S16512, .i1⟩
  | .hbm, ⟨62, _⟩ => ⟨S16512, .i1⟩
  | .hbm, ⟨63, _⟩ => ⟨S16512, .i1⟩
  | .hbm, ⟨64, _⟩ => ⟨S16512, .i32⟩
  | .hbm, ⟨65, _⟩ => ⟨S16512, .i32⟩
  | .hbm, ⟨66, _⟩ => ⟨S16512, .i32⟩
  | .hbm, ⟨67, _⟩ => ⟨S_, .i32⟩
  | .hbm, ⟨68, _⟩ => ⟨S_, .i32⟩
  | .hbm, ⟨69, _⟩ => ⟨S16512, .i32⟩
  | .hbm, ⟨70, _⟩ => ⟨S16512, .i32⟩
  | .hbm, ⟨71, _⟩ => ⟨S16512, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S16512x1, .f32⟩
  | .hbm, ⟨81, _⟩ => ⟨S1x32, .f32⟩
  | .hbm, ⟨82, _⟩ => ⟨S16512x32, .f32⟩
  | .hbm, ⟨83, _⟩ => ⟨S16512x32, .f32⟩
  | .hbm, ⟨84, _⟩ => ⟨S16512x32, .f32⟩
  | .hbm, ⟨85, _⟩ => ⟨S16512x1, .f32⟩
  | .hbm, ⟨86, _⟩ => ⟨S1x32, .f32⟩
  | .hbm, ⟨87, _⟩ => ⟨S16512x32, .f32⟩
  | .hbm, ⟨88, _⟩ => ⟨S16512x32, .f32⟩
  | .hbm, ⟨89, _⟩ => ⟨S16512x32, .f32⟩
  | .hbm, ⟨90, _⟩ => ⟨S16512x32, .f32⟩
  | .hbm, ⟨91, _⟩ => ⟨S16512x32, .f32⟩
  | .hbm, ⟨92, _⟩ => ⟨S16512x32, .f32⟩
  | .hbm, ⟨93, _⟩ => ⟨S16512x32, .f32⟩
  | .hbm, ⟨94, _⟩ => ⟨S16512x128, .f32⟩
  | .hbm, ⟨95, _⟩ => ⟨S16512x32, .f32⟩
  | .hbm, ⟨96, _⟩ => ⟨S16512x32, .f32⟩
  | .hbm, ⟨97, _⟩ => ⟨S16512x32, .f32⟩
  | .hbm, ⟨98, _⟩ => ⟨S16512x32, .f32⟩
  | .hbm, ⟨99, _⟩ => ⟨S16512x32, .f32⟩
  | .hbm, ⟨100, _⟩ => ⟨S16512x32, .f32⟩
  | .hbm, ⟨101, _⟩ => ⟨S16512x128, .f32⟩
  | .hbm, ⟨102, _⟩ => ⟨S_, .i32⟩
  | .hbm, ⟨103, _⟩ => ⟨S16512, .i32⟩
  | .hbm, ⟨104, _⟩ => ⟨S16512, .i1⟩
  | .hbm, ⟨105, _⟩ => ⟨S_, .i32⟩
  | .hbm, ⟨106, _⟩ => ⟨S16512, .i32⟩
  | .hbm, ⟨107, _⟩ => ⟨S16512, .i1⟩
  | .hbm, ⟨108, _⟩ => ⟨S16512, .i1⟩
  | .hbm, ⟨109, _⟩ => ⟨S_, .f32⟩
  | .hbm, ⟨110, _⟩ => ⟨S_, .f32⟩
  | .hbm, ⟨111, _⟩ => ⟨S16512, .f32⟩
  | .hbm, ⟨112, _⟩ => ⟨S16512, .f32⟩
  | .hbm, ⟨113, _⟩ => ⟨S16512, .f32⟩
  | .hbm, ⟨114, _⟩ => ⟨S16512, .f32⟩
  | .hbm, ⟨115, _⟩ => ⟨S43x384, .f32⟩
  | .hbm, ⟨116, _⟩ => ⟨S16512x512, .bf16⟩
  | .local _ .vmem, ⟨0, _⟩ => ⟨S384x256, .bf16⟩
  | .local _ .vmem, ⟨1, _⟩ => ⟨S384x256, .bf16⟩
  | .local _ .vmem, ⟨2, _⟩ => ⟨S16512x128, .bf16⟩
  | .local _ .vmem, ⟨3, _⟩ => ⟨S16512x128, .bf16⟩
  | .local _ .vmem, ⟨4, _⟩ => ⟨S16512x128, .bf16⟩
  | .local _ .vmem, ⟨5, _⟩ => ⟨S16512x128, .bf16⟩
  | .local _ .vmem, ⟨6, _⟩ => ⟨S43x384, .f32⟩
  | .local _ .vmem, ⟨7, _⟩ => ⟨S384x256, .bf16⟩
  | .local _ .vmem, ⟨8, _⟩ => ⟨S384x256, .bf16⟩
  | _, _ => ⟨S16512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_c_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v9 : Ref sig .tc := ⟨.hbm, 39, rfl⟩
abbrev main_c_5 : Ref sig .tc := ⟨.hbm, 40, rfl⟩
abbrev main_call2_v0 : Ref sig .tc := ⟨.hbm, 41, rfl⟩
abbrev main_call2_v1 : Ref sig .tc := ⟨.hbm, 42, rfl⟩
abbrev main_v10 : Ref sig .tc := ⟨.hbm, 43, rfl⟩
abbrev main_v11 : Ref sig .tc := ⟨.hbm, 44, rfl⟩
abbrev main_c_6 : Ref sig .tc := ⟨.hbm, 45, rfl⟩
abbrev main_call3_v0 : Ref sig .tc := ⟨.hbm, 46, rfl⟩
abbrev main_call3_c : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_c_1 : Ref sig .tc := ⟨.hbm, 53, rfl⟩
abbrev main_call3_v5 : Ref sig .tc := ⟨.hbm, 54, rfl⟩
abbrev main_call3_v6 : Ref sig .tc := ⟨.hbm, 55, rfl⟩
abbrev main_call3_c_2 : Ref sig .tc := ⟨.hbm, 56, rfl⟩
abbrev main_call3_v7 : Ref sig .tc := ⟨.hbm, 57, rfl⟩
abbrev main_call3_v8 : Ref sig .tc := ⟨.hbm, 58, rfl⟩
abbrev main_call3_c_3 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_v12 : Ref sig .tc := ⟨.hbm, 66, rfl⟩
abbrev main_c_7 : Ref sig .tc := ⟨.hbm, 67, rfl⟩
abbrev main_call4_v0 : Ref sig .tc := ⟨.hbm, 68, rfl⟩
abbrev main_call4_v1 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_cst : Ref sig .tc := ⟨.hbm, 74, rfl⟩
abbrev main_v17 : Ref sig .tc := ⟨.hbm, 75, rfl⟩
abbrev main_v18 : Ref sig .tc := ⟨.hbm, 76, rfl⟩
abbrev main_cst_8 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_c_9 : Ref sig .tc := ⟨.hbm, 102, rfl⟩
abbrev main_v43 : Ref sig .tc := ⟨.hbm, 103, rfl⟩
abbrev main_v44 : Ref sig .tc := ⟨.hbm, 104, rfl⟩
abbrev main_c_10 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_cst_11 : Ref sig .tc := ⟨.hbm, 109, rfl⟩
abbrev main_cst_12 : Ref sig .tc := ⟨.hbm, 110, rfl⟩
abbrev main_call5_v0 : Ref sig .tc := ⟨.hbm, 111, rfl⟩
abbrev main_call5_v1 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 2, 43], ![false, false, false]⟩

@[reducible] def k0_t1_loop : Scf.Loop 32 :=
  let c0_i32 : BitVec 32 := 0#32
  let c43_i32 : BitVec 32 := 43#32
  let v6 : BitVec 32 := Scalar.addi c0_i32 c43_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c384_i32 : BitVec 32 := 384#32
  let v16 : BitVec 32 := Scalar.muli arg8 c384_i32
  v16
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c384_i32 : BitVec 32 := 384#32
  let v16 : BitVec 32 := Scalar.muli arg8 c384_i32
  let v17 : BitVec 32 := v16
  let v18 : Index := Scalar.indexCast v17
  let c0_9 : Index := 0#32
  ![v18.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let v23 : Index := Scalar.indexCast arg8
  let c0_12 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.muli arg0 c43_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.muli arg0 c43_i32
  let v1 : BitVec 32 := Scalar.addi v0 arg2
  let c0_i32 : BitVec 32 := 0#32
  ![v1.toNat, arg1.toNat]

abbrev stage0_0 : Fin 2 → Memref sig .tc .vmem S384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S43x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnPIdeal.lean ====
variable {F : FTy → Type} [FloatOps F] [Named F]
def κ : String → Option EReal := fun
  | "mask" => some ⊥
  | _ => none
-- ==== AttnPRefIdeal.lean ====
abbrev S16512x512 : Shape := ⟨2, ![16512, 512]⟩
abbrev S16512x256 : Shape := ⟨2, ![16512, 256]⟩
abbrev S1x16512x2x2x128 : Shape := ⟨5, ![1, 16512, 2, 2, 128]⟩
abbrev S1x16512x2x128 : Shape := ⟨4, ![1, 16512, 2, 128]⟩
abbrev S1x16400x2x128 : Shape := ⟨4, ![1, 16400, 2, 128]⟩
abbrev S1x2x16400x16512x2 : Shape := ⟨5, ![1, 2, 16400, 16512, 2]⟩
abbrev S1x2x2x16512x16400 : Shape := ⟨5, ![1, 2, 2, 16512, 16400]⟩
abbrev S_ : Shape := ⟨0, ![]⟩
abbrev S1x2x2x16512 : Shape := ⟨4, ![1, 2, 2, 16512]⟩
abbrev S1x2x2x16512x1 : Shape := ⟨5, ![1, 2, 2, 16512, 1]⟩
abbrev S1x2x2x16512x128 : Shape := ⟨5, ![1, 2, 2, 16512, 128]⟩

abbrev nBuf : Space → Nat
  | .hbm => 28
  | .vmem => 0
  | .smem => 0
  | _ => 0

abbrev bufTy : (tb : Table) → Fin (tcTables nBuf tb) → BufTy
  | .hbm, ⟨0, _⟩ => ⟨S16512x512, .bf16⟩
  | .hbm, ⟨1, _⟩ => ⟨S16512x256, .bf16⟩
  | .hbm, ⟨2, _⟩ => ⟨S16512x256, .bf16⟩
  | .hbm, ⟨3, _⟩ => ⟨S16512x512, .f32⟩
  | .hbm, ⟨4, _⟩ => ⟨S1x16512x2x2x128, .f32⟩
  | .hbm, ⟨5, _⟩ => ⟨S16512x256, .f32⟩
  | .hbm, ⟨6, _⟩ => ⟨S1x16512x2x128, .f32⟩
  | .hbm, ⟨7, _⟩ => ⟨S1x16400x2x128, .f32⟩
  | .hbm, ⟨8, _⟩ => ⟨S16512x256, .f32⟩
  | .hbm, ⟨9, _⟩ => ⟨S1x16512x2x128, .f32⟩
  | .hbm, ⟨10, _⟩ => ⟨S1x16400x2x128, .f32⟩
  | .hbm, ⟨11, _⟩ => ⟨S1x2x16400x16512x2, .f32⟩
  | .hbm, ⟨12, _⟩ => ⟨S1x2x2x16512x16400, .f32⟩
  | .hbm, ⟨13, _⟩ => ⟨S_, .f32⟩
  | .hbm, ⟨14, _⟩ => ⟨S1x2x2x16512, .f32⟩
  | .hbm, ⟨15, _⟩ => ⟨S1x2x2x16512x1, .f32⟩
  | .hbm, ⟨16, _⟩ => ⟨S1x2x2x16512x16400, .f32⟩
  | .hbm, ⟨17, _⟩ => ⟨S1x2x2x16512x16400, .f32⟩
  | .hbm, ⟨18, _⟩ => ⟨S1x2x2x16512x16400, .f32⟩
  | .hbm, ⟨19, _⟩ => ⟨S_, .f32⟩
  | .hbm, ⟨20, _⟩ => ⟨S1x2x2x16512, .f32⟩
  | .hbm, ⟨21, _⟩ => ⟨S1x2x2x16512x128, .f32⟩
  | .hbm, ⟨22, _⟩ => ⟨S1x2x2x16512x1, .f32⟩
  | .hbm, ⟨23, _⟩ => ⟨S1x2x2x16512x128, .f32⟩
  | .hbm, ⟨24, _⟩ => ⟨S1x2x2x16512x128, .f32⟩
  | .hbm, ⟨25, _⟩ => ⟨S1x16512x2x2x128, .f32⟩
  | .hbm, ⟨26, _⟩ => ⟨S16512x512, .f32⟩
  | .hbm, ⟨27, _⟩ => ⟨S16512x512, .bf16⟩
  | _, _ => ⟨S16512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== AttnS.lean ====
abbrev S17408x512 : Shape := ⟨2, ![17408, 512]⟩
abbrev S17408x256 : Shape := ⟨2, ![17408, 256]⟩
abbrev S2176 : Shape := ⟨1, ![2176]⟩
abbrev S_ : Shape := ⟨0, ![]⟩
abbrev S32 : Shape := ⟨1, ![32]⟩
abbrev S2176x1 : Shape := ⟨2, ![2176, 1]⟩
abbrev S1x32 : Shape := ⟨2, ![1, 32]⟩
abbrev S2176x32 : Shape := ⟨2, ![2176, 32]⟩
abbrev S2176x128 : Shape := ⟨2, ![2176, 128]⟩
abbrev S1x2176 : Shape := ⟨2, ![1, 2176]⟩
abbrev S128x256 : Shape := ⟨2, ![128, 256]⟩
abbrev S128x128 : Shape := ⟨2, ![128, 128]⟩
abbrev S256x128 : Shape := ⟨2, ![256, 128]⟩
abbrev S256x1 : Shape := ⟨2, ![256, 1]⟩
abbrev S256x2176 : Shape := ⟨2, ![256, 2176]⟩
abbrev S256 : Shape := ⟨1, ![256]⟩

abbrev nBuf : Space → Nat
  | .hbm => 117
  | .vmem => 9
  | .smem => 0
  | _ => 0

abbrev bufTy : (tb : Table) → Fin (tcTables nBuf tb) → BufTy
  | .hbm, ⟨0, _⟩ => ⟨S17408x512, .bf16⟩
  | .hbm, ⟨1, _⟩ => ⟨S17408x256, .bf16⟩
  | .hbm, ⟨2, _⟩ => ⟨S17408x256, .bf16⟩
  | .hbm, ⟨3, _⟩ => ⟨S2176, .i32⟩
  | .hbm, ⟨4, _⟩ => ⟨S_, .i32⟩
  | .hbm, ⟨5, _⟩ => ⟨S2176, .i32⟩
  | .hbm, ⟨6, _⟩ => ⟨S2176, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2176, .i32⟩
  | .hbm, ⟨11, _⟩ => ⟨S2176, .i32⟩
  | .hbm, ⟨12, _⟩ => ⟨S_, .i32⟩
  | .hbm, ⟨13, _⟩ => ⟨S2176, .i32⟩
  | .hbm, ⟨14, _⟩ => ⟨S2176, .i32⟩
  | .hbm, ⟨15, _⟩ => ⟨S_, .i32⟩
  | .hbm, ⟨16, _⟩ => ⟨S2176, .i32⟩
  | .hbm, ⟨17, _⟩ => ⟨S2176, .i1⟩
  | .hbm, ⟨18, _⟩ => ⟨S_, .i32⟩
  | .hbm, ⟨19, _⟩ => ⟨S2176, .i32⟩
  | .hbm, ⟨20, _⟩ => ⟨S2176, .i1⟩
  | .hbm, ⟨21, _⟩ => ⟨S2176, .i1⟩
  | .hbm, ⟨22, _⟩ => ⟨S_, .i32⟩
  | .hbm, ⟨23, _⟩ => ⟨S_, .i32⟩
  | .hbm, ⟨24, _⟩ => ⟨S2176, .i32⟩
  | .hbm, ⟨25, _⟩ => ⟨S2176, .i32⟩
  | .hbm, ⟨26, _⟩ => ⟨S2176, .i32⟩
  | .hbm, ⟨27, _⟩ => ⟨S_, .i32⟩
  | .hbm, ⟨28, _⟩ => ⟨S2176, .i32⟩
  | .hbm, ⟨29, _⟩ => ⟨S2176, .i1⟩
  | .hbm, ⟨30, _⟩ => ⟨S2176, .i32⟩
  | .hbm, ⟨31, _⟩ => ⟨S2176, .i32⟩
  | .hbm, ⟨32, _⟩ => ⟨S_, .i32⟩
  | .hbm, ⟨33, _⟩ => ⟨S2176, .i32⟩
  | .hbm, ⟨34, _⟩ => ⟨S2176, .i1⟩
  | .hbm, ⟨35, _⟩ => ⟨S2176, .i1⟩
  | .hbm, ⟨36, _⟩ => ⟨S_, .i32⟩
  | .hbm, ⟨37, _⟩ => ⟨S2176, .i32⟩
  | .hbm, ⟨38, _⟩ => ⟨S2176, .i32⟩
  | .hbm, ⟨39, _⟩ => ⟨S2176, .i32⟩
  | .hbm, ⟨40, _⟩ => ⟨S_, .i32⟩
  | .hbm, ⟨41, _⟩ => ⟨S_, .i32⟩
  | .hbm, ⟨42, _⟩ => ⟨S2176, .i32⟩
  | .hbm, ⟨43, _⟩ => ⟨S2176, .i32⟩
  | .hbm, ⟨44, _⟩ => ⟨S2176, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S2176, .i32⟩
  | .hbm, ⟨52, _⟩ => ⟨S2176, .i32⟩
  | .hbm, ⟨53, _⟩ => ⟨S_, .i32⟩
  | .hbm, ⟨54, _⟩ => ⟨S2176, .i32⟩
  | .hbm, ⟨55, _⟩ => ⟨S2176, .i1⟩
  | .hbm, ⟨56, _⟩ => ⟨S_, .i32⟩
  | .hbm, ⟨57, _⟩ => ⟨S2176, .i32⟩
  | .hbm, ⟨58, _⟩ => ⟨S2176, .i1⟩
  | .hbm, ⟨59, _⟩ => ⟨S_, .i32⟩
  | .hbm, ⟨60, _⟩ => ⟨S_, .i1⟩
  | .hbm, ⟨61, _⟩ => ⟨S2176, .i1⟩
  | .hbm, ⟨62, _⟩ => ⟨S2176, .i1⟩
  | .hbm, ⟨63, _⟩ => ⟨S2176, .i1⟩
  | .hbm, ⟨64, _⟩ => ⟨S2176, .i32⟩
  | .hbm, ⟨65, _⟩ => ⟨S2176, .i32⟩
  | .hbm, ⟨66, _⟩ => ⟨S2176, .i32⟩
  | .hbm, ⟨67, _⟩ => ⟨S_, .i32⟩
  | .hbm, ⟨68, _⟩ => ⟨S_, .i32⟩
  | .hbm, ⟨69, _⟩ => ⟨S2176, .i32⟩
  | .hbm, ⟨70, _⟩ => ⟨S2176, .i32⟩
  | .hbm, ⟨71, _⟩ => ⟨S2176, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S2176x1, .f32⟩
  | .hbm, ⟨81, _⟩ => ⟨S1x32, .f32⟩
  | .hbm, ⟨82, _⟩ => ⟨S2176x32, .f32⟩
  | .hbm, ⟨83, _⟩ => ⟨S2176x32, .f32⟩
  | .hbm, ⟨84, _⟩ => ⟨S2176x32, .f32⟩
  | .hbm, ⟨85, _⟩ => ⟨S2176x1, .f32⟩
  | .hbm, ⟨86, _⟩ => ⟨S1x32, .f32⟩
  | .hbm, ⟨87, _⟩ => ⟨S2176x32, .f32⟩
  | .hbm, ⟨88, _⟩ => ⟨S2176x32, .f32⟩
  | .hbm, ⟨89, _⟩ => ⟨S2176x32, .f32⟩
  | .hbm, ⟨90, _⟩ => ⟨S2176x32, .f32⟩
  | .hbm, ⟨91, _⟩ => ⟨S2176x32, .f32⟩
  | .hbm, ⟨92, _⟩ => ⟨S2176x32, .f32⟩
  | .hbm, ⟨93, _⟩ => ⟨S2176x32, .f32⟩
  | .hbm, ⟨94, _⟩ => ⟨S2176x128, .f32⟩
  | .hbm, ⟨95, _⟩ => ⟨S2176x32, .f32⟩
  | .hbm, ⟨96, _⟩ => ⟨S2176x32, .f32⟩
  | .hbm, ⟨97, _⟩ => ⟨S2176x32, .f32⟩
  | .hbm, ⟨98, _⟩ => ⟨S2176x32, .f32⟩
  | .hbm, ⟨99, _⟩ => ⟨S2176x32, .f32⟩
  | .hbm, ⟨100, _⟩ => ⟨S2176x32, .f32⟩
  | .hbm, ⟨101, _⟩ => ⟨S2176x128, .f32⟩
  | .hbm, ⟨102, _⟩ => ⟨S_, .i32⟩
  | .hbm, ⟨103, _⟩ => ⟨S2176, .i32⟩
  | .hbm, ⟨104, _⟩ => ⟨S2176, .i1⟩
  | .hbm, ⟨105, _⟩ => ⟨S_, .i32⟩
  | .hbm, ⟨106, _⟩ => ⟨S2176, .i32⟩
  | .hbm, ⟨107, _⟩ => ⟨S2176, .i1⟩
  | .hbm, ⟨108, _⟩ => ⟨S2176, .i1⟩
  | .hbm, ⟨109, _⟩ => ⟨S_, .f32⟩
  | .hbm, ⟨110, _⟩ => ⟨S_, .f32⟩
  | .hbm, ⟨111, _⟩ => ⟨S2176, .f32⟩
  | .hbm, ⟨112, _⟩ => ⟨S2176, .f32⟩
  | .hbm, ⟨113, _⟩ => ⟨S2176, .f32⟩
  | .hbm, ⟨114, _⟩ => ⟨S2176, .f32⟩
  | .hbm, ⟨115, _⟩ => ⟨S1x2176, .f32⟩
  | .hbm, ⟨116, _⟩ => ⟨S17408x512, .bf16⟩
  | .local _ .vmem, ⟨0, _⟩ => ⟨S128x256, .bf16⟩
  | .local _ .vmem, ⟨1, _⟩ => ⟨S128x256, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S1x2176, .f32⟩
  | .local _ .vmem, ⟨7, _⟩ => ⟨S128x256, .bf16⟩
  | .local _ .vmem, ⟨8, _⟩ => ⟨S128x256, .bf16⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_c_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v9 : Ref sig .tc := ⟨.hbm, 39, rfl⟩
abbrev main_c_5 : Ref sig .tc := ⟨.hbm, 40, rfl⟩
abbrev main_call2_v0 : Ref sig .tc := ⟨.hbm, 41, rfl⟩
abbrev main_call2_v1 : Ref sig .tc := ⟨.hbm, 42, rfl⟩
abbrev main_v10 : Ref sig .tc := ⟨.hbm, 43, rfl⟩
abbrev main_v11 : Ref sig .tc := ⟨.hbm, 44, rfl⟩
abbrev main_c_6 : Ref sig .tc := ⟨.hbm, 45, rfl⟩
abbrev main_call3_v0 : Ref sig .tc := ⟨.hbm, 46, rfl⟩
abbrev main_call3_c : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_c_1 : Ref sig .tc := ⟨.hbm, 53, rfl⟩
abbrev main_call3_v5 : Ref sig .tc := ⟨.hbm, 54, rfl⟩
abbrev main_call3_v6 : Ref sig .tc := ⟨.hbm, 55, rfl⟩
abbrev main_call3_c_2 : Ref sig .tc := ⟨.hbm, 56, rfl⟩
abbrev main_call3_v7 : Ref sig .tc := ⟨.hbm, 57, rfl⟩
abbrev main_call3_v8 : Ref sig .tc := ⟨.hbm, 58, rfl⟩
abbrev main_call3_c_3 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_v12 : Ref sig .tc := ⟨.hbm, 66, rfl⟩
abbrev main_c_7 : Ref sig .tc := ⟨.hbm, 67, rfl⟩
abbrev main_call4_v0 : Ref sig .tc := ⟨.hbm, 68, rfl⟩
abbrev main_call4_v1 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_cst : Ref sig .tc := ⟨.hbm, 74, rfl⟩
abbrev main_v17 : Ref sig .tc := ⟨.hbm, 75, rfl⟩
abbrev main_v18 : Ref sig .tc := ⟨.hbm, 76, rfl⟩
abbrev main_cst_8 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_c_9 : Ref sig .tc := ⟨.hbm, 102, rfl⟩
abbrev main_v43 : Ref sig .tc := ⟨.hbm, 103, rfl⟩
abbrev main_v44 : Ref sig .tc := ⟨.hbm, 104, rfl⟩
abbrev main_c_10 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_cst_11 : Ref sig .tc := ⟨.hbm, 109, rfl⟩
abbrev main_cst_12 : Ref sig .tc := ⟨.hbm, 110, rfl⟩
abbrev main_call5_v0 : Ref sig .tc := ⟨.hbm, 111, rfl⟩
abbrev main_call5_v1 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 2, 17], ![false, false, false]⟩

def k0_mult1 : BitVec 32 :=
  let c0_i32 : BitVec 32 := 0#32
  c0_i32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnSIdeal.lean ====
variable {F : FTy → Type} [FloatOps F] [Named F]
def κ : String → Option EReal := fun
  | "mask" => some ⊥
  | _ => none
-- ==== AttnSRefIdeal.lean ====
abbrev S17408x512 : Shape := ⟨2, ![17408, 512]⟩
abbrev S17408x256 : Shape := ⟨2, ![17408, 256]⟩
abbrev S8x2176x2x2x128 : Shape := ⟨5, ![8, 2176, 2, 2, 128]⟩
abbrev S8x2176x2x128 : Shape := ⟨4, ![8, 2176, 2, 128]⟩
abbrev S8x2064x2x128 : Shape := ⟨4, ![8, 2064, 2, 128]⟩
abbrev S8x2x2064x2176x2 : Shape := ⟨5, ![8, 2, 2064, 2176, 2]⟩
abbrev S8x2x2x2176x2064 : Shape := ⟨5, ![8, 2, 2, 2176, 2064]⟩
abbrev S_ : Shape := ⟨0, ![]⟩
abbrev S8x2x2x2176 : Shape := ⟨4, ![8, 2, 2, 2176]⟩
abbrev S8x2x2x2176x1 : Shape := ⟨5, ![8, 2, 2, 2176, 1]⟩
abbrev S8x2x2x2176x128 : Shape := ⟨5, ![8, 2, 2, 2176, 128]⟩

abbrev nBuf : Space → Nat
  | .hbm => 28
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S17408x256, .bf16⟩
  | .hbm, ⟨2, _⟩ => ⟨S17408x256, .bf16⟩
  | .hbm, ⟨3, _⟩ => ⟨S17408x512, .f32⟩
  | .hbm, ⟨4, _⟩ => ⟨S8x2176x2x2x128, .f32⟩
  | .hbm, ⟨5, _⟩ => ⟨S17408x256, .f32⟩
  | .hbm, ⟨6, _⟩ => ⟨S8x2176x2x128, .f32⟩
  | .hbm, ⟨7, _⟩ => ⟨S8x2064x2x128, .f32⟩
  | .hbm, ⟨8, _⟩ => ⟨S17408x256, .f32⟩
  | .hbm, ⟨9, _⟩ => ⟨S8x2176x2x128, .f32⟩
  | .hbm, ⟨10, _⟩ => ⟨S8x2064x2x128, .f32⟩
  | .hbm, ⟨11, _⟩ => ⟨S8x2x2064x2176x2, .f32⟩
  | .hbm, ⟨12, _⟩ => ⟨S8x2x2x2176x2064, .f32⟩
  | .hbm, ⟨13, _⟩ => ⟨S_, .f32⟩
  | .hbm, ⟨14, _⟩ => ⟨S8x2x2x2176, .f32⟩
  | .hbm, ⟨15, _⟩ => ⟨S8x2x2x2176x1, .f32⟩
  | .hbm, ⟨16, _⟩ => ⟨S8x2x2x2176x2064, .f32⟩
  | .hbm, ⟨17, _⟩ => ⟨S8x2x2x2176x2064, .f32⟩
  | .hbm, ⟨18, _⟩ => ⟨S8x2x2x2176x2064, .f32⟩
  | .hbm, ⟨19, _⟩ => ⟨S_, .f32⟩
  | .hbm, ⟨20, _⟩ => ⟨S8x2x2x2176, .f32⟩
  | .hbm, ⟨21, _⟩ => ⟨S8x2x2x2176x128, .f32⟩
  | .hbm, ⟨22, _⟩ => ⟨S8x2x2x2176x1, .f32⟩
  | .hbm, ⟨23, _⟩ => ⟨S8x2x2x2176x128, .f32⟩
  | .hbm, ⟨24, _⟩ => ⟨S8x2x2x2176x128, .f32⟩
  | .hbm, ⟨25, _⟩ => ⟨S8x2176x2x2x128, .f32⟩
  | .hbm, ⟨26, _⟩ => ⟨S17408x512, .f32⟩
  | .hbm, ⟨27, _⟩ => ⟨S17408x512, .bf16⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== GateUp.lean ====
abbrev S33920x4096 : Shape := ⟨2, ![33920, 4096]⟩
abbrev S4x4096x2048 : Shape := ⟨3, ![4, 4096, 2048]⟩
abbrev S33920x2048 : Shape := ⟨2, ![33920, 2048]⟩
abbrev S640x4096 : Shape := ⟨2, ![640, 4096]⟩
abbrev S1x4096x512 : Shape := ⟨3, ![1, 4096, 512]⟩
abbrev S640x512 : Shape := ⟨2, ![640, 512]⟩
abbrev S4096x512 : Shape := ⟨2, ![4096, 512]⟩

abbrev nBuf : Space → Nat
  | .hbm => 6
  | .vmem => 8
  | .smem => 0
  | _ => 0

abbrev bufTy : (tb : Table) → Fin (tcTables nBuf tb) → BufTy
  | .hbm, ⟨0, _⟩ => ⟨S33920x4096, .bf16⟩
  | .hbm, ⟨1, _⟩ => ⟨S4x4096x2048, .f32⟩
  | .hbm, ⟨2, _⟩ => ⟨S4x4096x2048, .f32⟩
  | .hbm, ⟨3, _⟩ => ⟨S4x4096x2048, .bf16⟩
  | .hbm, ⟨4, _⟩ => ⟨S4x4096x2048, .bf16⟩
  | .hbm, ⟨5, _⟩ => ⟨S33920x2048, .bf16⟩
  | .local _ .vmem, ⟨0, _⟩ => ⟨S640x4096, .bf16⟩
  | .local _ .vmem, ⟨1, _⟩ => ⟨S640x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S640x512, .bf16⟩
  | .local _ .vmem, ⟨7, _⟩ => ⟨S640x512, .bf16⟩
  | _, _ => ⟨S33920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 53], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S33920x4096 : Shape := ⟨2, ![33920, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S33920x2048 : Shape := ⟨2, ![33920, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S33920x4096, .bf16⟩
  | .hbm, ⟨1, _⟩ => ⟨S4x4096x2048, .f32⟩
  | .hbm, ⟨2, _⟩ => ⟨S4x4096x2048, .f32⟩
  | .hbm, ⟨3, _⟩ => ⟨S33920x4096, .f32⟩
  | .hbm, ⟨4, _⟩ => ⟨S1x4096x2048, .f32⟩
  | .hbm, ⟨5, _⟩ => ⟨S4096x2048, .f32⟩
  | .hbm, ⟨6, _⟩ => ⟨S33920x2048, .f32⟩
  | .hbm, ⟨7, _⟩ => ⟨S33920x2048, .f32⟩
  | .hbm, ⟨8, _⟩ => ⟨S33920x2048, .f32⟩
  | .hbm, ⟨9, _⟩ => ⟨S_, .f32⟩
  | .hbm, ⟨10, _⟩ => ⟨S33920x2048, .f32⟩
  | .hbm, ⟨11, _⟩ => ⟨S33920x2048, .f32⟩
  | .hbm, ⟨12, _⟩ => ⟨S_, .f32⟩
  | .hbm, ⟨13, _⟩ => ⟨S33920x2048, .f32⟩
  | .hbm, ⟨14, _⟩ => ⟨S33920x2048, .f32⟩
  | .hbm, ⟨15, _⟩ => ⟨S33920x2048, .f32⟩
  | .hbm, ⟨16, _⟩ => ⟨S1x4096x2048, .f32⟩
  | .hbm, ⟨17, _⟩ => ⟨S4096x2048, .f32⟩
  | .hbm, ⟨18, _⟩ => ⟨S33920x2048, .f32⟩
  | .hbm, ⟨19, _⟩ => ⟨S33920x2048, .f32⟩
  | .hbm, ⟨20, _⟩ => ⟨S33920x2048, .bf16⟩
  | _, _ => ⟨S33920x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S33920x4096 : Shape := ⟨2, ![33920, 4096]⟩
abbrev S33920x2048 : Shape := ⟨2, ![33920, 2048]⟩
abbrev S4x2048x4096 : Shape := ⟨3, ![4, 2048, 4096]⟩
abbrev S640x1024 : Shape := ⟨2, ![640, 1024]⟩
abbrev S640x2048 : Shape := ⟨2, ![640, 2048]⟩
abbrev S1x2048x1024 : Shape := ⟨3, ![1, 2048, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S33920x4096, .f32⟩
  | .hbm, ⟨1, _⟩ => ⟨S33920x2048, .bf16⟩
  | .hbm, ⟨2, _⟩ => ⟨S4x2048x4096, .f32⟩
  | .hbm, ⟨3, _⟩ => ⟨S4x2048x4096, .bf16⟩
  | .hbm, ⟨4, _⟩ => ⟨S33920x4096, .f32⟩
  | .local _ .vmem, ⟨0, _⟩ => ⟨S640x1024, .f32⟩
  | .local _ .vmem, ⟨1, _⟩ => ⟨S640x1024, .f32⟩
  | .local _ .vmem, ⟨2, _⟩ => ⟨S640x2048, .bf16⟩
  | .local _ .vmem, ⟨3, _⟩ => ⟨S640x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S640x1024, .f32⟩
  | .local _ .vmem, ⟨7, _⟩ => ⟨S640x1024, .f32⟩
  | _, _ => ⟨S33920x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 53], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S33920x4096 : Shape := ⟨2, ![33920, 4096]⟩
abbrev S33920x2048 : Shape := ⟨2, ![33920, 2048]⟩
abbrev S4x2048x4096 : Shape := ⟨3, ![4, 2048, 4096]⟩
abbrev S1x2048x4096 : Shape := ⟨3, ![1, 2048, 4096]⟩
abbrev S2048x4096 : Shape := ⟨2, ![2048, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S33920x4096, .f32⟩
  | .hbm, ⟨1, _⟩ => ⟨S33920x2048, .bf16⟩
  | .hbm, ⟨2, _⟩ => ⟨S4x2048x4096, .f32⟩
  | .hbm, ⟨3, _⟩ => ⟨S33920x2048, .f32⟩
  | .hbm, ⟨4, _⟩ => ⟨S1x2048x4096, .f32⟩
  | .hbm, ⟨5, _⟩ => ⟨S2048x4096, .f32⟩
  | .hbm, ⟨6, _⟩ => ⟨S33920x4096, .f32⟩
  | .hbm, ⟨7, _⟩ => ⟨S_, .f32⟩
  | .hbm, ⟨8, _⟩ => ⟨S33920x4096, .f32⟩
  | .hbm, ⟨9, _⟩ => ⟨S33920x4096, .f32⟩
  | .hbm, ⟨10, _⟩ => ⟨S33920x4096, .f32⟩
  | _, _ => ⟨S33920x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InProj.lean ====
abbrev S33920x4096 : Shape := ⟨2, ![33920, 4096]⟩
abbrev S4x4096x6688 : Shape := ⟨3, ![4, 4096, 6688]⟩
abbrev S4x4096x512 : Shape := ⟨3, ![4, 4096, 512]⟩
abbrev S4x4096x256 : Shape := ⟨3, ![4, 4096, 256]⟩
abbrev S4x4096x3072 : Shape := ⟨3, ![4, 4096, 3072]⟩
abbrev S4x4096x1024 : Shape := ⟨3, ![4, 4096, 1024]⟩
abbrev S4x4096x16 : Shape := ⟨3, ![4, 4096, 16]⟩
abbrev S_ : Shape := ⟨0, ![]⟩
abbrev S4x4096x224 : Shape := ⟨3, ![4, 4096, 224]⟩
abbrev S4x4096x6912 : Shape := ⟨3, ![4, 4096, 6912]⟩
abbrev S33920x6912 : Shape := ⟨2, ![33920, 6912]⟩
abbrev S640x4096 : Shape := ⟨2, ![640, 4096]⟩
abbrev S1x4096x768 : Shape := ⟨3, ![1, 4096, 768]⟩
abbrev S640x768 : Shape := ⟨2, ![640, 768]⟩
abbrev S4096x768 : Shape := ⟨2, ![4096, 768]⟩

abbrev nBuf : Space → Nat
  | .hbm => 17
  | .vmem => 6
  | .smem => 0
  | _ => 0

abbrev bufTy : (tb : Table) → Fin (tcTables nBuf tb) → BufTy
  | .hbm, ⟨0, _⟩ => ⟨S33920x4096, .bf16⟩
  | .hbm, ⟨1, _⟩ => ⟨S4x4096x6688, .f32⟩
  | .hbm, ⟨2, _⟩ => ⟨S4x4096x512, .f32⟩
  | .hbm, ⟨3, _⟩ => ⟨S4x4096x256, .f32⟩
  | .hbm, ⟨4, _⟩ => ⟨S4x4096x256, .f32⟩
  | .hbm, ⟨5, _⟩ => ⟨S4x4096x3072, .f32⟩
  | .hbm, ⟨6, _⟩ => ⟨S4x4096x1024, .f32⟩
  | .hbm, ⟨7, _⟩ => ⟨S4x4096x16, .f32⟩
  | .hbm, ⟨8, _⟩ => ⟨S4x4096x16, .f32⟩
  | .hbm, ⟨9, _⟩ => ⟨S4x4096x512, .f32⟩
  | .hbm, ⟨10, _⟩ => ⟨S4x4096x512, .f32⟩
  | .hbm, ⟨11, _⟩ => ⟨S4x4096x512, .f32⟩
  | .hbm, ⟨12, _⟩ => ⟨S_, .f32⟩
  | .hbm, ⟨13, _⟩ => ⟨S4x4096x224, .f32⟩
  | .hbm, ⟨14, _⟩ => ⟨S4x4096x6912, .f32⟩
  | .hbm, ⟨15, _⟩ => ⟨S4x4096x6912, .bf16⟩
  | .hbm, ⟨16, _⟩ => ⟨S33920x6912, .f32⟩
  | .local _ .vmem, ⟨0, _⟩ => ⟨S640x4096, .bf16⟩
  | .local _ .vmem, ⟨1, _⟩ => ⟨S640x4096, .bf16⟩
  | .local _ .vmem, ⟨2, _⟩ => ⟨S1x4096x768, .bf16⟩
  | .local _ .vmem, ⟨3, _⟩ => ⟨S1x4096x768, .bf16⟩
  | .local _ .vmem, ⟨4, _⟩ => ⟨S640x768, .f32⟩
  | .local _ .vmem, ⟨5, _⟩ => ⟨S640x768, .f32⟩
  | _, _ => ⟨S33920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 53], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S33920x4096 : Shape := ⟨2, ![33920, 4096]⟩
abbrev S4x4096x6688 : Shape := ⟨3, ![4, 4096, 6688]⟩
abbrev S1x4096x6688 : Shape := ⟨3, ![1, 4096, 6688]⟩
abbrev S4096x6688 : Shape := ⟨2, ![4096, 6688]⟩
abbrev S33920x6688 : Shape := ⟨2, ![33920, 6688]⟩
abbrev S33920x512 : Shape := ⟨2, ![33920, 512]⟩
abbrev S33920x256 : Shape := ⟨2, ![33920, 256]⟩
abbrev S33920x3072 : Shape := ⟨2, ![33920, 3072]⟩
abbrev S33920x1024 : Shape := ⟨2, ![33920, 1024]⟩
abbrev S33920x16 : Shape := ⟨2, ![33920, 16]⟩
abbrev S_ : Shape := ⟨0, ![]⟩
abbrev S33920x224 : Shape := ⟨2, ![33920, 224]⟩
abbrev S33920x6912 : Shape := ⟨2, ![33920, 6912]⟩

abbrev nBuf : Space → Nat
  | .hbm => 19
  | .vmem => 0
  | .smem => 0
  | _ => 0

abbrev bufTy : (tb : Table) → Fin (tcTables nBuf tb) → BufTy
  | .hbm, ⟨0, _⟩ => ⟨S33920x4096, .bf16⟩
  | .hbm, ⟨1, _⟩ => ⟨S4x4096x6688, .f32⟩
  | .hbm, ⟨2, _⟩ => ⟨S33920x4096, .f32⟩
  | .hbm, ⟨3, _⟩ => ⟨S1x4096x6688, .f32⟩
  | .hbm, ⟨4, _⟩ => ⟨S4096x6688, .f32⟩
  | .hbm, ⟨5, _⟩ => ⟨S33920x6688, .f32⟩
  | .hbm, ⟨6, _⟩ => ⟨S33920x512, .f32⟩
  | .hbm, ⟨7, _⟩ => ⟨S33920x256, .f32⟩
  | .hbm, ⟨8, _⟩ => ⟨S33920x256, .f32⟩
  | .hbm, ⟨9, _⟩ => ⟨S33920x3072, .f32⟩
  | .hbm, ⟨10, _⟩ => ⟨S33920x1024, .f32⟩
  | .hbm, ⟨11, _⟩ => ⟨S33920x16, .f32⟩
  | .hbm, ⟨12, _⟩ => ⟨S33920x16, .f32⟩
  | .hbm, ⟨13, _⟩ => ⟨S33920x512, .f32⟩
  | .hbm, ⟨14, _⟩ => ⟨S33920x512, .f32⟩
  | .hbm, ⟨15, _⟩ => ⟨S33920x512, .f32⟩
  | .hbm, ⟨16, _⟩ => ⟨S_, .f32⟩
  | .hbm, ⟨17, _⟩ => ⟨S33920x224, .f32⟩
  | .hbm, ⟨18, _⟩ => ⟨S33920x6912, .f32⟩
  | _, _ => ⟨S33920x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== OutProj.lean ====
abbrev S33920x4096 : Shape := ⟨2, ![33920, 4096]⟩
abbrev S33920x2048 : Shape := ⟨2, ![33920, 2048]⟩
abbrev S4x2048x4096 : Shape := ⟨3, ![4, 2048, 4096]⟩
abbrev S640x1024 : Shape := ⟨2, ![640, 1024]⟩
abbrev S640x2048 : Shape := ⟨2, ![640, 2048]⟩
abbrev S1x2048x1024 : Shape := ⟨3, ![1, 2048, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S33920x4096, .f32⟩
  | .hbm, ⟨1, _⟩ => ⟨S33920x2048, .bf16⟩
  | .hbm, ⟨2, _⟩ => ⟨S4x2048x4096, .f32⟩
  | .hbm, ⟨3, _⟩ => ⟨S4x2048x4096, .bf16⟩
  | .hbm, ⟨4, _⟩ => ⟨S33920x4096, .f32⟩
  | .local _ .vmem, ⟨0, _⟩ => ⟨S640x1024, .f32⟩
  | .local _ .vmem, ⟨1, _⟩ => ⟨S640x1024, .f32⟩
  | .local _ .vmem, ⟨2, _⟩ => ⟨S640x2048, .bf16⟩
  | .local _ .vmem, ⟨3, _⟩ => ⟨S640x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S640x1024, .f32⟩
  | .local _ .vmem, ⟨7, _⟩ => ⟨S640x1024, .f32⟩
  | _, _ => ⟨S33920x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 53], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S33920x4096 : Shape := ⟨2, ![33920, 4096]⟩
abbrev S33920x2048 : Shape := ⟨2, ![33920, 2048]⟩
abbrev S4x2048x4096 : Shape := ⟨3, ![4, 2048, 4096]⟩
abbrev S1x2048x4096 : Shape := ⟨3, ![1, 2048, 4096]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S33920x4096, .f32⟩
  | .hbm, ⟨1, _⟩ => ⟨S33920x2048, .bf16⟩
  | .hbm, ⟨2, _⟩ => ⟨S4x2048x4096, .f32⟩
  | .hbm, ⟨3, _⟩ => ⟨S33920x2048, .f32⟩
  | .hbm, ⟨4, _⟩ => ⟨S1x2048x4096, .f32⟩
  | .hbm, ⟨5, _⟩ => ⟨S2048x4096, .f32⟩
  | .hbm, ⟨6, _⟩ => ⟨S33920x4096, .f32⟩
  | .hbm, ⟨7, _⟩ => ⟨S33920x4096, .f32⟩
  | _, _ => ⟨S33920x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Norm.lean ====
abbrev S33920x4096 : Shape := ⟨2, ![33920, 4096]⟩
abbrev S4096 : Shape := ⟨1, ![4096]⟩
abbrev S1x4096 : Shape := ⟨2, ![1, 4096]⟩
abbrev S320x4096 : Shape := ⟨2, ![320, 4096]⟩
abbrev S320 : Shape := ⟨1, ![320]⟩
abbrev S320x1 : Shape := ⟨2, ![320, 1]⟩

abbrev nBuf : Space → Nat
  | .hbm => 4
  | .vmem => 5
  | .smem => 0
  | _ => 0

abbrev bufTy : (tb : Table) → Fin (tcTables nBuf tb) → BufTy
  | .hbm, ⟨0, _⟩ => ⟨S33920x4096, .f32⟩
  | .hbm, ⟨1, _⟩ => ⟨S4096, .f32⟩
  | .hbm, ⟨2, _⟩ => ⟨S1x4096, .f32⟩
  | .hbm, ⟨3, _⟩ => ⟨S33920x4096, .bf16⟩
  | .local _ .vmem, ⟨0, _⟩ => ⟨S320x4096, .f32⟩
  | .local _ .vmem, ⟨1, _⟩ => ⟨S320x4096, .f32⟩
  | .local _ .vmem, ⟨2, _⟩ => ⟨S1x4096, .f32⟩
  | .local _ .vmem, ⟨3, _⟩ => ⟨S320x4096, .bf16⟩
  | .local _ .vmem, ⟨4, _⟩ => ⟨S320x4096, .bf16⟩
  | _, _ => ⟨S33920x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![106], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S33920x4096 : Shape := ⟨2, ![33920, 4096]⟩
abbrev S4096 : Shape := ⟨1, ![4096]⟩
abbrev S_ : Shape := ⟨0, ![]⟩
abbrev S33920 : Shape := ⟨1, ![33920]⟩
abbrev S33920x1 : Shape := ⟨2, ![33920, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S33920x4096, .f32⟩
  | .hbm, ⟨1, _⟩ => ⟨S4096, .f32⟩
  | .hbm, ⟨2, _⟩ => ⟨S33920x4096, .f32⟩
  | .hbm, ⟨3, _⟩ => ⟨S_, .f32⟩
  | .hbm, ⟨4, _⟩ => ⟨S33920, .f32⟩
  | .hbm, ⟨5, _⟩ => ⟨S33920x1, .f32⟩
  | .hbm, ⟨6, _⟩ => ⟨S_, .f32⟩
  | .hbm, ⟨7, _⟩ => ⟨S33920x1, .f32⟩
  | .hbm, ⟨8, _⟩ => ⟨S33920x1, .f32⟩
  | .hbm, ⟨9, _⟩ => ⟨S_, .f32⟩
  | .hbm, ⟨10, _⟩ => ⟨S33920x1, .f32⟩
  | .hbm, ⟨11, _⟩ => ⟨S33920x1, .f32⟩
  | .hbm, ⟨12, _⟩ => ⟨S33920x1, .f32⟩
  | .hbm, ⟨13, _⟩ => ⟨S33920x4096, .f32⟩
  | .hbm, ⟨14, _⟩ => ⟨S33920x4096, .f32⟩
  | .hbm, ⟨15, _⟩ => ⟨S1x4096, .f32⟩
  | .hbm, ⟨16, _⟩ => ⟨S33920x4096, .f32⟩
  | .hbm, ⟨17, _⟩ => ⟨S33920x4096, .f32⟩
  | .hbm, ⟨18, _⟩ => ⟨S33920x4096, .bf16⟩
  | _, _ => ⟨S33920x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinalP.lean ====
abbrev S33920x4096 : Shape := ⟨2, ![33920, 4096]⟩
abbrev S4096 : Shape := ⟨1, ![4096]⟩
abbrev S1x4096 : Shape := ⟨2, ![1, 4096]⟩
abbrev S1x16384x4096 : Shape := ⟨3, ![1, 16384, 4096]⟩
abbrev S64x4096 : Shape := ⟨2, ![64, 4096]⟩
abbrev S1x64x4096 : Shape := ⟨3, ![1, 64, 4096]⟩
abbrev S64 : Shape := ⟨1, ![64]⟩
abbrev S64x1 : Shape := ⟨2, ![64, 1]⟩

abbrev nBuf : Space → Nat
  | .hbm => 4
  | .vmem => 5
  | .smem => 0
  | _ => 0

abbrev bufTy : (tb : Table) → Fin (tcTables nBuf tb) → BufTy
  | .hbm, ⟨0, _⟩ => ⟨S33920x4096, .f32⟩
  | .hbm, ⟨1, _⟩ => ⟨S4096, .f32⟩
  | .hbm, ⟨2, _⟩ => ⟨S1x4096, .f32⟩
  | .hbm, ⟨3, _⟩ => ⟨S1x16384x4096, .f32⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S1x64x4096, .f32⟩
  | .local _ .vmem, ⟨4, _⟩ => ⟨S1x64x4096, .f32⟩
  | _, _ => ⟨S33920x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 256], ![false, false]⟩

def cc0_transform_0 (i : grid0.Coords) : Fin 2 → Nat :=
  let arg0 : BitVec 32 := BitVec.ofNat 32 (i 0).val
  let arg1 : BitVec 32 := BitVec.ofNat 32 (i 1).val
  let c258_i32 : BitVec 32 := 258#32
  let v0 : BitVec 32 := Scalar.muli arg0 c258_i32
  let c0_i32 : BitVec 32 := 0#32
  let v1 : BitVec 32 := Scalar.addi c0_i32 v0
  let c1_i32 : BitVec 32 := 1#32
  let v2 : BitVec 32 := Scalar.addi v1 c1_i32
  let v3 : BitVec 32 := Scalar.addi v2 arg1
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalPRefIdeal.lean ====
abbrev S33920x4096 : Shape := ⟨2, ![33920, 4096]⟩
abbrev S4096 : Shape := ⟨1, ![4096]⟩
abbrev S16512x4096 : Shape := ⟨2, ![16512, 4096]⟩
abbrev S1x16512x4096 : Shape := ⟨3, ![1, 16512, 4096]⟩
abbrev S1x16400x4096 : Shape := ⟨3, ![1, 16400, 4096]⟩
abbrev S_ : Shape := ⟨0, ![]⟩
abbrev S1x16400 : Shape := ⟨2, ![1, 16400]⟩
abbrev S1x16400x1 : Shape := ⟨3, ![1, 16400, 1]⟩
abbrev S1x1x4096 : Shape := ⟨3, ![1, 1, 4096]⟩
abbrev S1x16384x4096 : Shape := ⟨3, ![1, 16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S33920x4096, .f32⟩
  | .hbm, ⟨1, _⟩ => ⟨S4096, .f32⟩
  | .hbm, ⟨2, _⟩ => ⟨S16512x4096, .f32⟩
  | .hbm, ⟨3, _⟩ => ⟨S1x16512x4096, .f32⟩
  | .hbm, ⟨4, _⟩ => ⟨S1x16400x4096, .f32⟩
  | .hbm, ⟨5, _⟩ => ⟨S1x16400x4096, .f32⟩
  | .hbm, ⟨6, _⟩ => ⟨S_, .f32⟩
  | .hbm, ⟨7, _⟩ => ⟨S1x16400, .f32⟩
  | .hbm, ⟨8, _⟩ => ⟨S1x16400x1, .f32⟩
  | .hbm, ⟨9, _⟩ => ⟨S_, .f32⟩
  | .hbm, ⟨10, _⟩ => ⟨S1x16400x1, .f32⟩
  | .hbm, ⟨11, _⟩ => ⟨S1x16400x1, .f32⟩
  | .hbm, ⟨12, _⟩ => ⟨S_, .f32⟩
  | .hbm, ⟨13, _⟩ => ⟨S1x16400x1, .f32⟩
  | .hbm, ⟨14, _⟩ => ⟨S1x16400x1, .f32⟩
  | .hbm, ⟨15, _⟩ => ⟨S1x16400x1, .f32⟩
  | .hbm, ⟨16, _⟩ => ⟨S1x16400x4096, .f32⟩
  | .hbm, ⟨17, _⟩ => ⟨S1x16400x4096, .f32⟩
  | .hbm, ⟨18, _⟩ => ⟨S1x1x4096, .f32⟩
  | .hbm, ⟨19, _⟩ => ⟨S1x16400x4096, .f32⟩
  | .hbm, ⟨20, _⟩ => ⟨S1x16400x4096, .f32⟩
  | .hbm, ⟨21, _⟩ => ⟨S1x16384x4096, .f32⟩
  | _, _ => ⟨S33920x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== FinalS.lean ====
abbrev S33920x4096 : Shape := ⟨2, ![33920, 4096]⟩
abbrev S4096 : Shape := ⟨1, ![4096]⟩
abbrev S1x4096 : Shape := ⟨2, ![1, 4096]⟩
abbrev S8x2048x4096 : Shape := ⟨3, ![8, 2048, 4096]⟩
abbrev S64x4096 : Shape := ⟨2, ![64, 4096]⟩
abbrev S1x64x4096 : Shape := ⟨3, ![1, 64, 4096]⟩
abbrev S64 : Shape := ⟨1, ![64]⟩
abbrev S64x1 : Shape := ⟨2, ![64, 1]⟩

abbrev nBuf : Space → Nat
  | .hbm => 4
  | .vmem => 5
  | .smem => 0
  | _ => 0

abbrev bufTy : (tb : Table) → Fin (tcTables nBuf tb) → BufTy
  | .hbm, ⟨0, _⟩ => ⟨S33920x4096, .f32⟩
  | .hbm, ⟨1, _⟩ => ⟨S4096, .f32⟩
  | .hbm, ⟨2, _⟩ => ⟨S1x4096, .f32⟩
  | .hbm, ⟨3, _⟩ => ⟨S8x2048x4096, .f32⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S1x64x4096, .f32⟩
  | .local _ .vmem, ⟨4, _⟩ => ⟨S1x64x4096, .f32⟩
  | _, _ => ⟨S33920x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.muli arg0 c34_i32
  let c258_i32 : BitVec 32 := 258#32
  let v1 : BitVec 32 := Scalar.addi c258_i32 v0
  let c1_i32 : BitVec 32 := 1#32
  let v2 : BitVec 32 := Scalar.addi v1 c1_i32
  let v3 : BitVec 32 := Scalar.addi v2 arg1
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalSRefIdeal.lean ====
abbrev S33920x4096 : Shape := ⟨2, ![33920, 4096]⟩
abbrev S4096 : Shape := ⟨1, ![4096]⟩
abbrev S17408x4096 : Shape := ⟨2, ![17408, 4096]⟩
abbrev S8x2176x4096 : Shape := ⟨3, ![8, 2176, 4096]⟩
abbrev S8x2064x4096 : Shape := ⟨3, ![8, 2064, 4096]⟩
abbrev S_ : Shape := ⟨0, ![]⟩
abbrev S8x2064 : Shape := ⟨2, ![8, 2064]⟩
abbrev S8x2064x1 : Shape := ⟨3, ![8, 2064, 1]⟩
abbrev S1x1x4096 : Shape := ⟨3, ![1, 1, 4096]⟩
abbrev S8x2048x4096 : Shape := ⟨3, ![8, 2048, 4096]⟩

abbrev nBuf : Space → Nat
  | .hbm => 22
  | .vmem => 0
  | .smem => 0
  | _ => 0

abbrev bufTy : (tb : Table) → Fin (tcTables nBuf tb) → BufTy
  | .hbm, ⟨0, _⟩ => ⟨S33920x4096, .f32⟩
  | .hbm, ⟨1, _⟩ => ⟨S4096, .f32⟩
  | .hbm, ⟨2, _⟩ => ⟨S17408x4096, .f32⟩
  | .hbm, ⟨3, _⟩ => ⟨S8x2176x4096, .f32⟩
  | .hbm, ⟨4, _⟩ => ⟨S8x2064x4096, .f32⟩
  | .hbm, ⟨5, _⟩ => ⟨S8x2064x4096, .f32⟩
  | .hbm, ⟨6, _⟩ => ⟨S_, .f32⟩
  | .hbm, ⟨7, _⟩ => ⟨S8x2064, .f32⟩
  | .hbm, ⟨8, _⟩ => ⟨S8x2064x1, .f32⟩
  | .hbm, ⟨9, _⟩ => ⟨S_, .f32⟩
  | .hbm, ⟨10, _⟩ => ⟨S8x2064x1, .f32⟩
  | .hbm, ⟨11, _⟩ => ⟨S8x2064x1, .f32⟩
  | .hbm, ⟨12, _⟩ => ⟨S_, .f32⟩
  | .hbm, ⟨13, _⟩ => ⟨S8x2064x1, .f32⟩
  | .hbm, ⟨14, _⟩ => ⟨S8x2064x1, .f32⟩
  | .hbm, ⟨15, _⟩ => ⟨S8x2064x1, .f32⟩
  | .hbm, ⟨16, _⟩ => ⟨S8x2064x4096, .f32⟩
  | .hbm, ⟨17, _⟩ => ⟨S8x2064x4096, .f32⟩
  | .hbm, ⟨18, _⟩ => ⟨S1x1x4096, .f32⟩
  | .hbm, ⟨19, _⟩ => ⟨S8x2064x4096, .f32⟩
  | .hbm, ⟨20, _⟩ => ⟨S8x2064x4096, .f32⟩
  | .hbm, ⟨21, _⟩ => ⟨S8x2048x4096, .f32⟩
  | _, _ => ⟨S33920x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== DnPostP.lean ====
abbrev S16512x1024 : Shape := ⟨2, ![16512, 1024]⟩
abbrev S33920x6912 : Shape := ⟨2, ![33920, 6912]⟩
abbrev S128 : Shape := ⟨1, ![128]⟩
abbrev S1x128 : Shape := ⟨2, ![1, 128]⟩
abbrev S128x1024 : Shape := ⟨2, ![128, 1024]⟩
abbrev S128x128 : Shape := ⟨2, ![128, 128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S33920x6912, .f32⟩
  | .hbm, ⟨3, _⟩ => ⟨S128, .f32⟩
  | .hbm, ⟨4, _⟩ => ⟨S1x128, .f32⟩
  | .hbm, ⟨5, _⟩ => ⟨S16512x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128, .f32⟩
  | .local _ .vmem, ⟨7, _⟩ => ⟨S128x1024, .bf16⟩
  | .local _ .vmem, ⟨8, _⟩ => ⟨S128x1024, .bf16⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c4_i32 : BitVec 32 := 4#32
  let c0_i32_0 : BitVec 32 := 0#32
  ![v0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DnPostPRefIdeal.lean ====
abbrev S16512x1024 : Shape := ⟨2, ![16512, 1024]⟩
abbrev S33920x6912 : Shape := ⟨2, ![33920, 6912]⟩
abbrev S128 : Shape := ⟨1, ![128]⟩
abbrev S16512x8x128 : Shape := ⟨3, ![16512, 8, 128]⟩
abbrev S_ : Shape := ⟨0, ![]⟩
abbrev S16512x8 : Shape := ⟨2, ![16512, 8]⟩
abbrev S16512x8x1 : Shape := ⟨3, ![16512, 8, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S33920x6912, .f32⟩
  | .hbm, ⟨3, _⟩ => ⟨S128, .f32⟩
  | .hbm, ⟨4, _⟩ => ⟨S16512x1024, .f32⟩
  | .hbm, ⟨5, _⟩ => ⟨S16512x8x128, .f32⟩
  | .hbm, ⟨6, _⟩ => ⟨S16512x1024, .f32⟩
  | .hbm, ⟨7, _⟩ => ⟨S16512x8x128, .f32⟩
  | .hbm, ⟨8, _⟩ => ⟨S16512x8x128, .f32⟩
  | .hbm, ⟨9, _⟩ => ⟨S_, .f32⟩
  | .hbm, ⟨10, _⟩ => ⟨S16512x8, .f32⟩
  | .hbm, ⟨11, _⟩ => ⟨S16512x8x1, .f32⟩
  | .hbm, ⟨12, _⟩ => ⟨S_, .f32⟩
  | .hbm, ⟨13, _⟩ => ⟨S16512x8x1, .f32⟩
  | .hbm, ⟨14, _⟩ => ⟨S16512x8x1, .f32⟩
  | .hbm, ⟨15, _⟩ => ⟨S_, .f32⟩
  | .hbm, ⟨16, _⟩ => ⟨S16512x8x1, .f32⟩
  | .hbm, ⟨17, _⟩ => ⟨S16512x8x1, .f32⟩
  | .hbm, ⟨18, _⟩ => ⟨S16512x8x1, .f32⟩
  | .hbm, ⟨19, _⟩ => ⟨S16512x8x128, .f32⟩
  | .hbm, ⟨20, _⟩ => ⟨S16512x8x128, .f32⟩
  | .hbm, ⟨21, _⟩ => ⟨S1x1x128, .f32⟩
  | .hbm, ⟨22, _⟩ => ⟨S16512x8x128, .f32⟩
  | .hbm, ⟨23, _⟩ => ⟨S16512x8x128, .f32⟩
  | .hbm, ⟨24, _⟩ => ⟨S16512x8x128, .f32⟩
  | .hbm, ⟨25, _⟩ => ⟨S16512x8x128, .f32⟩
  | .hbm, ⟨26, _⟩ => ⟨S_, .f32⟩
  | .hbm, ⟨27, _⟩ => ⟨S16512x8x128, .f32⟩
  | .hbm, ⟨28, _⟩ => ⟨S16512x8x128, .f32⟩
  | .hbm, ⟨29, _⟩ => ⟨S_, .f32⟩
  | .hbm, ⟨30, _⟩ => ⟨S16512x8x128, .f32⟩
  | .hbm, ⟨31, _⟩ => ⟨S16512x8x128, .f32⟩
  | .hbm, ⟨32, _⟩ => ⟨S16512x8x128, .f32⟩
  | .hbm, ⟨33, _⟩ => ⟨S16512x8x128, .f32⟩
  | .hbm, ⟨34, _⟩ => ⟨S16512x1024, .f32⟩
  | .hbm, ⟨35, _⟩ => ⟨S16512x1024, .bf16⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== DnPostS.lean ====
abbrev S17408x1024 : Shape := ⟨2, ![17408, 1024]⟩
abbrev S33920x6912 : Shape := ⟨2, ![33920, 6912]⟩
abbrev S128 : Shape := ⟨1, ![128]⟩
abbrev S1x128 : Shape := ⟨2, ![1, 128]⟩
abbrev S128x1024 : Shape := ⟨2, ![128, 1024]⟩
abbrev S128x128 : Shape := ⟨2, ![128, 128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S33920x6912, .f32⟩
  | .hbm, ⟨3, _⟩ => ⟨S128, .f32⟩
  | .hbm, ⟨4, _⟩ => ⟨S1x128, .f32⟩
  | .hbm, ⟨5, _⟩ => ⟨S17408x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128, .f32⟩
  | .local _ .vmem, ⟨7, _⟩ => ⟨S128x1024, .bf16⟩
  | .local _ .vmem, ⟨8, _⟩ => ⟨S128x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c129_i32 : BitVec 32 := 129#32
  let v0 : BitVec 32 := Scalar.addi c129_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DnPostSRefIdeal.lean ====
abbrev S17408x1024 : Shape := ⟨2, ![17408, 1024]⟩
abbrev S33920x6912 : Shape := ⟨2, ![33920, 6912]⟩
abbrev S128 : Shape := ⟨1, ![128]⟩
abbrev S17408x8x128 : Shape := ⟨3, ![17408, 8, 128]⟩
abbrev S_ : Shape := ⟨0, ![]⟩
abbrev S17408x8 : Shape := ⟨2, ![17408, 8]⟩
abbrev S17408x8x1 : Shape := ⟨3, ![17408, 8, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S33920x6912, .f32⟩
  | .hbm, ⟨3, _⟩ => ⟨S128, .f32⟩
  | .hbm, ⟨4, _⟩ => ⟨S17408x1024, .f32⟩
  | .hbm, ⟨5, _⟩ => ⟨S17408x8x128, .f32⟩
  | .hbm, ⟨6, _⟩ => ⟨S17408x1024, .f32⟩
  | .hbm, ⟨7, _⟩ => ⟨S17408x8x128, .f32⟩
  | .hbm, ⟨8, _⟩ => ⟨S17408x8x128, .f32⟩
  | .hbm, ⟨9, _⟩ => ⟨S_, .f32⟩
  | .hbm, ⟨10, _⟩ => ⟨S17408x8, .f32⟩
  | .hbm, ⟨11, _⟩ => ⟨S17408x8x1, .f32⟩
  | .hbm, ⟨12, _⟩ => ⟨S_, .f32⟩
  | .hbm, ⟨13, _⟩ => ⟨S17408x8x1, .f32⟩
  | .hbm, ⟨14, _⟩ => ⟨S17408x8x1, .f32⟩
  | .hbm, ⟨15, _⟩ => ⟨S_, .f32⟩
  | .hbm, ⟨16, _⟩ => ⟨S17408x8x1, .f32⟩
  | .hbm, ⟨17, _⟩ => ⟨S17408x8x1, .f32⟩
  | .hbm, ⟨18, _⟩ => ⟨S17408x8x1, .f32⟩
  | .hbm, ⟨19, _⟩ => ⟨S17408x8x128, .f32⟩
  | .hbm, ⟨20, _⟩ => ⟨S17408x8x128, .f32⟩
  | .hbm, ⟨21, _⟩ => ⟨S1x1x128, .f32⟩
  | .hbm, ⟨22, _⟩ => ⟨S17408x8x128, .f32⟩
  | .hbm, ⟨23, _⟩ => ⟨S17408x8x128, .f32⟩
  | .hbm, ⟨24, _⟩ => ⟨S17408x8x128, .f32⟩
  | .hbm, ⟨25, _⟩ => ⟨S17408x8x128, .f32⟩
  | .hbm, ⟨26, _⟩ => ⟨S_, .f32⟩
  | .hbm, ⟨27, _⟩ => ⟨S17408x8x128, .f32⟩
  | .hbm, ⟨28, _⟩ => ⟨S17408x8x128, .f32⟩
  | .hbm, ⟨29, _⟩ => ⟨S_, .f32⟩
  | .hbm, ⟨30, _⟩ => ⟨S17408x8x128, .f32⟩
  | .hbm, ⟨31, _⟩ => ⟨S17408x8x128, .f32⟩
  | .hbm, ⟨32, _⟩ => ⟨S17408x8x128, .f32⟩
  | .hbm, ⟨33, _⟩ => ⟨S17408x8x128, .f32⟩
  | .hbm, ⟨34, _⟩ => ⟨S17408x1024, .f32⟩
  | .hbm, ⟨35, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Prep.lean ====
abbrev S33920x6912 : Shape := ⟨2, ![33920, 6912]⟩
abbrev S128 : Shape := ⟨1, ![128]⟩
abbrev S16512 : Shape := ⟨1, ![16512]⟩
abbrev S_ : Shape := ⟨0, ![]⟩
abbrev S32 : Shape := ⟨1, ![32]⟩
abbrev S16512x1 : Shape := ⟨2, ![16512, 1]⟩
abbrev S1x32 : Shape := ⟨2, ![1, 32]⟩
abbrev S16512x32 : Shape := ⟨2, ![16512, 32]⟩
abbrev S16512x128 : Shape := ⟨2, ![16512, 128]⟩
abbrev S1x128 : Shape := ⟨2, ![1, 128]⟩
abbrev S16512x512 : Shape := ⟨2, ![16512, 512]⟩
abbrev S16512x256 : Shape := ⟨2, ![16512, 256]⟩
abbrev S16512x1024 : Shape := ⟨2, ![16512, 1024]⟩
abbrev S128x1024 : Shape := ⟨2, ![128, 1024]⟩
abbrev S128x512 : Shape := ⟨2, ![128, 512]⟩
abbrev S128x128 : Shape := ⟨2, ![128, 128]⟩
abbrev S128x256 : Shape := ⟨2, ![128, 256]⟩
abbrev S128x1 : Shape := ⟨2, ![128, 1]⟩

abbrev nBuf : Space → Nat
  | .hbm => 122
  | .vmem => 24
  | .smem => 0
  | _ => 0

abbrev bufTy : (tb : Table) → Fin (tcTables nBuf tb) → BufTy
  | .hbm, ⟨0, _⟩ => ⟨S33920x6912, .f32⟩
  | .hbm, ⟨1, _⟩ => ⟨S128, .f32⟩
  | .hbm, ⟨2, _⟩ => ⟨S128, .f32⟩
  | .hbm, ⟨3, _⟩ => ⟨S16512, .i32⟩
  | .hbm, ⟨4, _⟩ => ⟨S_, .i32⟩
  | .hbm, ⟨5, _⟩ => ⟨S16512, .i32⟩
  | .hbm, ⟨6, _⟩ => ⟨S16512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16512, .i32⟩
  | .hbm, ⟨11, _⟩ => ⟨S16512, .i32⟩
  | .hbm, ⟨12, _⟩ => ⟨S_, .i32⟩
  | .hbm, ⟨13, _⟩ => ⟨S16512, .i32⟩
  | .hbm, ⟨14, _⟩ => ⟨S16512, .i32⟩
  | .hbm, ⟨15, _⟩ => ⟨S_, .i32⟩
  | .hbm, ⟨16, _⟩ => ⟨S16512, .i32⟩
  | .hbm, ⟨17, _⟩ => ⟨S16512, .i1⟩
  | .hbm, ⟨18, _⟩ => ⟨S_, .i32⟩
  | .hbm, ⟨19, _⟩ => ⟨S16512, .i32⟩
  | .hbm, ⟨20, _⟩ => ⟨S16512, .i1⟩
  | .hbm, ⟨21, _⟩ => ⟨S16512, .i1⟩
  | .hbm, ⟨22, _⟩ => ⟨S_, .i32⟩
  | .hbm, ⟨23, _⟩ => ⟨S_, .i32⟩
  | .hbm, ⟨24, _⟩ => ⟨S16512, .i32⟩
  | .hbm, ⟨25, _⟩ => ⟨S16512, .i32⟩
  | .hbm, ⟨26, _⟩ => ⟨S16512, .i32⟩
  | .hbm, ⟨27, _⟩ => ⟨S_, .i32⟩
  | .hbm, ⟨28, _⟩ => ⟨S16512, .i32⟩
  | .hbm, ⟨29, _⟩ => ⟨S16512, .i1⟩
  | .hbm, ⟨30, _⟩ => ⟨S16512, .i32⟩
  | .hbm, ⟨31, _⟩ => ⟨S16512, .i32⟩
  | .hbm, ⟨32, _⟩ => ⟨S_, .i32⟩
  | .hbm, ⟨33, _⟩ => ⟨S16512, .i32⟩
  | .hbm, ⟨34, _⟩ => ⟨S16512, .i1⟩
  | .hbm, ⟨35, _⟩ => ⟨S16512, .i1⟩
  | .hbm, ⟨36, _⟩ => ⟨S_, .i32⟩
  | .hbm, ⟨37, _⟩ => ⟨S16512, .i32⟩
  | .hbm, ⟨38, _⟩ => ⟨S16512, .i32⟩
  | .hbm, ⟨39, _⟩ => ⟨S16512, .i32⟩
  | .hbm, ⟨40, _⟩ => ⟨S_, .i32⟩
  | .hbm, ⟨41, _⟩ => ⟨S_, .i32⟩
  | .hbm, ⟨42, _⟩ => ⟨S16512, .i32⟩
  | .hbm, ⟨43, _⟩ => ⟨S16512, .i32⟩
  | .hbm, ⟨44, _⟩ => ⟨S16512, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S16512, .i32⟩
  | .hbm, ⟨52, _⟩ => ⟨S16512, .i32⟩
  | .hbm, ⟨53, _⟩ => ⟨S_, .i32⟩
  | .hbm, ⟨54, _⟩ => ⟨S16512, .i32⟩
  | .hbm, ⟨55, _⟩ => ⟨S16512, .i1⟩
  | .hbm, ⟨56, _⟩ => ⟨S_, .i32⟩
  | .hbm, ⟨57, _⟩ => ⟨S16512, .i32⟩
  | .hbm, ⟨58, _⟩ => ⟨S16512, .i1⟩
  | .hbm, ⟨59, _⟩ => ⟨S_, .i32⟩
  | .hbm, ⟨60, _⟩ => ⟨S_, .i1⟩
  | .hbm, ⟨61, _⟩ => ⟨S16512, .i1⟩
  | .hbm, ⟨62, _⟩ => ⟨S16512, .i1⟩
  | .hbm, ⟨63, _⟩ => ⟨S16512, .i1⟩
  | .hbm, ⟨64, _⟩ => ⟨S16512, .i32⟩
  | .hbm, ⟨65, _⟩ => ⟨S16512, .i32⟩
  | .hbm, ⟨66, _⟩ => ⟨S16512, .i32⟩
  | .hbm, ⟨67, _⟩ => ⟨S_, .i32⟩
  | .hbm, ⟨68, _⟩ => ⟨S_, .i32⟩
  | .hbm, ⟨69, _⟩ => ⟨S16512, .i32⟩
  | .hbm, ⟨70, _⟩ => ⟨S16512, .i32⟩
  | .hbm, ⟨71, _⟩ => ⟨S16512, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S16512x1, .f32⟩
  | .hbm, ⟨81, _⟩ => ⟨S1x32, .f32⟩
  | .hbm, ⟨82, _⟩ => ⟨S16512x32, .f32⟩
  | .hbm, ⟨83, _⟩ => ⟨S16512x32, .f32⟩
  | .hbm, ⟨84, _⟩ => ⟨S16512x32, .f32⟩
  | .hbm, ⟨85, _⟩ => ⟨S16512x1, .f32⟩
  | .hbm, ⟨86, _⟩ => ⟨S1x32, .f32⟩
  | .hbm, ⟨87, _⟩ => ⟨S16512x32, .f32⟩
  | .hbm, ⟨88, _⟩ => ⟨S16512x32, .f32⟩
  | .hbm, ⟨89, _⟩ => ⟨S16512x32, .f32⟩
  | .hbm, ⟨90, _⟩ => ⟨S16512x32, .f32⟩
  | .hbm, ⟨91, _⟩ => ⟨S16512x32, .f32⟩
  | .hbm, ⟨92, _⟩ => ⟨S16512x32, .f32⟩
  | .hbm, ⟨93, _⟩ => ⟨S16512x32, .f32⟩
  | .hbm, ⟨94, _⟩ => ⟨S16512x128, .f32⟩
  | .hbm, ⟨95, _⟩ => ⟨S16512x32, .f32⟩
  | .hbm, ⟨96, _⟩ => ⟨S16512x32, .f32⟩
  | .hbm, ⟨97, _⟩ => ⟨S16512x32, .f32⟩
  | .hbm, ⟨98, _⟩ => ⟨S16512x32, .f32⟩
  | .hbm, ⟨99, _⟩ => ⟨S16512x32, .f32⟩
  | .hbm, ⟨100, _⟩ => ⟨S16512x32, .f32⟩
  | .hbm, ⟨101, _⟩ => ⟨S16512x128, .f32⟩
  | .hbm, ⟨102, _⟩ => ⟨S_, .i32⟩
  | .hbm, ⟨103, _⟩ => ⟨S16512, .i32⟩
  | .hbm, ⟨104, _⟩ => ⟨S16512, .i1⟩
  | .hbm, ⟨105, _⟩ => ⟨S_, .i32⟩
  | .hbm, ⟨106, _⟩ => ⟨S16512, .i32⟩
  | .hbm, ⟨107, _⟩ => ⟨S16512, .i1⟩
  | .hbm, ⟨108, _⟩ => ⟨S16512, .i1⟩
  | .hbm, ⟨109, _⟩ => ⟨S_, .f32⟩
  | .hbm, ⟨110, _⟩ => ⟨S_, .f32⟩
  | .hbm, ⟨111, _⟩ => ⟨S16512, .f32⟩
  | .hbm, ⟨112, _⟩ => ⟨S16512, .f32⟩
  | .hbm, ⟨113, _⟩ => ⟨S16512, .f32⟩
  | .hbm, ⟨114, _⟩ => ⟨S16512, .f32⟩
  | .hbm, ⟨115, _⟩ => ⟨S1x128, .f32⟩
  | .hbm, ⟨116, _⟩ => ⟨S1x128, .f32⟩
  | .hbm, ⟨117, _⟩ => ⟨S16512x512, .bf16⟩
  | .hbm, ⟨118, _⟩ => ⟨S16512x256, .bf16⟩
  | .hbm, ⟨119, _⟩ => ⟨S16512x256, .bf16⟩
  | .hbm, ⟨120, _⟩ => ⟨S16512x512, .bf16⟩
  | .hbm, ⟨121, _⟩ => ⟨S16512x1024, .bf16⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S128x512, .bf16⟩
  | .local _ .vmem, ⟨15, _⟩ => ⟨S128x512, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S128x512, .bf16⟩
  | .local _ .vmem, ⟨21, _⟩ => ⟨S128x512, .bf16⟩
  | .local _ .vmem, ⟨22, _⟩ => ⟨S128x1024, .bf16⟩
  | .local _ .vmem, ⟨23, _⟩ => ⟨S128x1024, .bf16⟩
  | _, _ => ⟨S33920x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_c_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v9 : Ref sig .tc := ⟨.hbm, 39, rfl⟩
abbrev main_c_5 : Ref sig .tc := ⟨.hbm, 40, rfl⟩
abbrev main_call2_v0 : Ref sig .tc := ⟨.hbm, 41, rfl⟩
abbrev main_call2_v1 : Ref sig .tc := ⟨.hbm, 42, rfl⟩
abbrev main_v10 : Ref sig .tc := ⟨.hbm, 43, rfl⟩
abbrev main_v11 : Ref sig .tc := ⟨.hbm, 44, rfl⟩
abbrev main_c_6 : Ref sig .tc := ⟨.hbm, 45, rfl⟩
abbrev main_call3_v0 : Ref sig .tc := ⟨.hbm, 46, rfl⟩
abbrev main_call3_c : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_c_1 : Ref sig .tc := ⟨.hbm, 53, rfl⟩
abbrev main_call3_v5 : Ref sig .tc := ⟨.hbm, 54, rfl⟩
abbrev main_call3_v6 : Ref sig .tc := ⟨.hbm, 55, rfl⟩
abbrev main_call3_c_2 : Ref sig .tc := ⟨.hbm, 56, rfl⟩
abbrev main_call3_v7 : Ref sig .tc := ⟨.hbm, 57, rfl⟩
abbrev main_call3_v8 : Ref sig .tc := ⟨.hbm, 58, rfl⟩
abbrev main_call3_c_3 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_v12 : Ref sig .tc := ⟨.hbm, 66, rfl⟩
abbrev main_c_7 : Ref sig .tc := ⟨.hbm, 67, rfl⟩
abbrev main_call4_v0 : Ref sig .tc := ⟨.hbm, 68, rfl⟩
abbrev main_call4_v1 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_cst : Ref sig .tc := ⟨.hbm, 74, rfl⟩
abbrev main_v17 : Ref sig .tc := ⟨.hbm, 75, rfl⟩
abbrev main_v18 : Ref sig .tc := ⟨.hbm, 76, rfl⟩
abbrev main_cst_8 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_c_9 : Ref sig .tc := ⟨.hbm, 102, rfl⟩
abbrev main_v43 : Ref sig .tc := ⟨.hbm, 103, rfl⟩
abbrev main_v44 : Ref sig .tc := ⟨.hbm, 104, rfl⟩
abbrev main_c_10 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_cst_11 : Ref sig .tc := ⟨.hbm, 109, rfl⟩
abbrev main_cst_12 : Ref sig .tc := ⟨.hbm, 110, rfl⟩
abbrev main_call5_v0 : Ref sig .tc := ⟨.hbm, 111, rfl⟩
abbrev main_call5_v1 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52_0 : Ref sig .tc := ⟨.hbm, 117, rfl⟩
abbrev main_v52_1 : Ref sig .tc := ⟨.hbm, 118, rfl⟩
abbrev main_v52_2 : Ref sig .tc := ⟨.hbm, 119, rfl⟩
abbrev main_v52_3 : Ref sig .tc := ⟨.hbm, 120, rfl⟩
abbrev main_v52_4 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![1, 129], ![false, false]⟩

def cc0_transform_0 (i : grid0.Coords) : Fin 2 → Nat :=
  let arg0 : BitVec 32 := BitVec.ofNat 32 (i 0).val
  let arg1 : BitVec 32 := BitVec.ofNat 32 (i 1).val
  let c129_i32 : BitVec 32 := 129#32
  let v0 : BitVec 32 := Scalar.muli arg0 c129_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c129_i32 : BitVec 32 := 129#32
  let v0 : BitVec 32 := Scalar.muli arg0 c129_i32
  let c0_i32 : BitVec 32 := 0#32
  let v1 : BitVec 32 := Scalar.addi c0_i32 v0
  let v2 : BitVec 32 := Scalar.addi v1 arg1
  let c10_i32 : BitVec 32 := 10#32
  let c0_i32_0 : BitVec 32 := 0#32
  ![v2.toNat, c10_i32.toNat]

def cc0_transform_2 (i : grid0.Coords) : Fin 2 → Nat :=
  let arg0 : BitVec 32 := BitVec.ofNat 32 (i 0).val
  let arg1 : BitVec 32 := BitVec.ofNat 32 (i 1).val
  let c129_i32 : BitVec 32 := 129#32
  let v0 : BitVec 32 := Scalar.muli arg0 c129_i32
  let c0_i32 : BitVec 32 := 0#32
  let v1 : BitVec 32 := Scalar.addi c0_i32 v0
  let v2 : BitVec 32 := Scalar.addi v1 arg1
  let c11_i32 : BitVec 32 := 11#32
  let c0_i32_0 : BitVec 32 := 0#32
  ![v2.toNat, c11_i32.toNat]

def cc0_transform_3 (i : grid0.Coords) : Fin 2 → Nat :=
  let arg0 : BitVec 32 := BitVec.ofNat 32 (i 0).val
  let arg1 : BitVec 32 := BitVec.ofNat 32 (i 1).val
  let c129_i32 : BitVec 32 := 129#32
  let v0 : BitVec 32 := Scalar.muli arg0 c129_i32
  let c0_i32 : BitVec 32 := 0#32
  let v1 : BitVec 32 := Scalar.addi c0_i32 v0
  let v2 : BitVec 32 := Scalar.addi v1 arg1
  let c12_i32 : BitVec 32 := 12#32
  let c0_i32_0 : BitVec 32 := 0#32
  ![v2.toNat, c12_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c129_i32 : BitVec 32 := 129#32
  let v0 : BitVec 32 := Scalar.muli arg0 c129_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c129_i32 : BitVec 32 := 129#32
  let v0 : BitVec 32 := Scalar.muli arg0 c129_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c129_i32 : BitVec 32 := 129#32
  let v0 : BitVec 32 := Scalar.muli arg0 c129_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c129_i32 : BitVec 32 := 129#32
  let v0 : BitVec 32 := Scalar.muli arg0 c129_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c129_i32 : BitVec 32 := 129#32
  let v0 : BitVec 32 := Scalar.muli arg0 c129_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PrepRefIdeal.lean ====
abbrev S33920x6912 : Shape := ⟨2, ![33920, 6912]⟩
abbrev S128 : Shape := ⟨1, ![128]⟩
abbrev S16384 : Shape := ⟨1, ![16384]⟩
abbrev S_ : Shape := ⟨0, ![]⟩
abbrev S64 : Shape := ⟨1, ![64]⟩
abbrev S16512 : Shape := ⟨1, ![16512]⟩
abbrev S16512x6912 : Shape := ⟨2, ![16512, 6912]⟩
abbrev S16512x512 : Shape := ⟨2, ![16512, 512]⟩
abbrev S16512x4x128 : Shape := ⟨3, ![16512, 4, 128]⟩
abbrev S16512x4 : Shape := ⟨2, ![16512, 4]⟩
abbrev S16512x4x1 : Shape := ⟨3, ![16512, 4, 1]⟩
abbrev S1x1x128 : Shape := ⟨3, ![1, 1, 128]⟩
abbrev S16512x4x64 : Shape := ⟨3, ![16512, 4, 64]⟩
abbrev S32 : Shape := ⟨1, ![32]⟩
abbrev S16512x1 : Shape := ⟨2, ![16512, 1]⟩
abbrev S1x32 : Shape := ⟨2, ![1, 32]⟩
abbrev S16512x32 : Shape := ⟨2, ![16512, 32]⟩
abbrev S16512x1x32 : Shape := ⟨3, ![16512, 1, 32]⟩
abbrev S16512x4x32 : Shape := ⟨3, ![16512, 4, 32]⟩
abbrev S16512x256 : Shape := ⟨2, ![16512, 256]⟩
abbrev S16512x2x128 : Shape := ⟨3, ![16512, 2, 128]⟩
abbrev S16512x2 : Shape := ⟨2, ![16512, 2]⟩
abbrev S16512x2x1 : Shape := ⟨3, ![16512, 2, 1]⟩
abbrev S16512x2x64 : Shape := ⟨3, ![16512, 2, 64]⟩
abbrev S16512x2x32 : Shape := ⟨3, ![16512, 2, 32]⟩
abbrev S16512x1024 : Shape := ⟨2, ![16512, 1024]⟩

abbrev nBuf : Space → Nat
  | .hbm => 231
  | .vmem => 0
  | .smem => 0
  | _ => 0

abbrev hbmTy0_0 (i : Nat) : BufTy := match i % 128 with
  | 0 => ⟨S33920x6912, .f32⟩
  | 1 => ⟨S128, .f32⟩
  | 2 => ⟨S128, .f32⟩
  | 3 => ⟨S16384, .i32⟩
  | 4 => ⟨S_, .i32⟩
  | 5 => ⟨S64, .i32⟩
  | 6 => ⟨S_, .i32⟩
  | 7 => ⟨S_, .i32⟩
  | 8 => ⟨S16384, .i32⟩
  | 9 => ⟨S16384, .i32⟩
  | 10 => ⟨S16384, .i32⟩
  | 11 => ⟨S_, .i32⟩
  | 12 => ⟨S16384, .i32⟩
  | 13 => ⟨S16384, .i1⟩
  | 14 => ⟨S16384, .i32⟩
  | 15 => ⟨S16384, .i32⟩
  | 16 => ⟨S_, .i32⟩
  | 17 => ⟨S16384, .i32⟩
  | 18 => ⟨S16384, .i1⟩
  | 19 => ⟨S16384, .i1⟩
  | 20 => ⟨S_, .i32⟩
  | 21 => ⟨S16384, .i32⟩
  | 22 => ⟨S16384, .i32⟩
  | 23 => ⟨S16384, .i32⟩
  | 24 => ⟨S16512, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S16384, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i1⟩
  | 39 => ⟨S_, .i32⟩
  | 40 => ⟨S_, .i1⟩
  | 41 => ⟨S16384, .i1⟩
  | 42 => ⟨S16384, .i1⟩
  | 43 => ⟨S16384, .i1⟩
  | 44 => ⟨S16384, .i32⟩
  | 45 => ⟨S16384, .i32⟩
  | 46 => ⟨S16384, .i32⟩
  | 47 => ⟨S16512, .i32⟩
  | 48 => ⟨S16512x6912, .f32⟩
  | 49 => ⟨S16512x512, .f32⟩
  | 50 => ⟨S16512x4x128, .f32⟩
  | 51 => ⟨S16512x4x128, .f32⟩
  | 52 => ⟨S_, .f32⟩
  | 53 => ⟨S16512x4, .f32⟩
  | 54 => ⟨S16512x4x1, .f32⟩
  | 55 => ⟨S_, .f32⟩
  | 56 => ⟨S16512x4x1, .f32⟩
  | 57 => ⟨S16512x4x1, .f32⟩
  | 58 => ⟨S_, .f32⟩
  | 59 => ⟨S16512x4x1, .f32⟩
  | 60 => ⟨S16512x4x1, .f32⟩
  | 61 => ⟨S16512x4x1, .f32⟩
  | 62 => ⟨S16512x4x128, .f32⟩
  | 63 => ⟨S16512x4x128, .f32⟩
  | 64 => ⟨S1x1x128, .f32⟩
  | 65 => ⟨S16512x4x128, .f32⟩
  | 66 => ⟨S16512x4x128, .f32⟩
  | 67 => ⟨S16512x4x64, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S16512, .f32⟩
  | 77 => ⟨S16512x1, .f32⟩
  | 78 => ⟨S1x32, .f32⟩
  | 79 => ⟨S16512x32, .f32⟩
  | 80 => ⟨S16512x32, .f32⟩
  | 81 => ⟨S16512x32, .f32⟩
  | 82 => ⟨S16512x32, .f32⟩
  | 83 => ⟨S16512x1x32, .f32⟩
  | 84 => ⟨S16512x32, .f32⟩
  | 85 => ⟨S16512x1x32, .f32⟩
  | 86 => ⟨S16512x4x32, .f32⟩
  | 87 => ⟨S16512x4x32, .f32⟩
  | 88 => ⟨S16512x4x32, .f32⟩
  | 89 => ⟨S16512x4x32, .f32⟩
  | 90 => ⟨S16512x4x32, .f32⟩
  | 91 => ⟨S16512x4x32, .f32⟩
  | 92 => ⟨S16512x4x32, .f32⟩
  | 93 => ⟨S16512x4x32, .f32⟩
  | 94 => ⟨S16512x4x32, .f32⟩
  | 95 => ⟨S16512x4x32, .f32⟩
  | 96 => ⟨S16512x4x32, .f32⟩
  | 97 => ⟨S16512x4x32, .f32⟩
  | 98 => ⟨S16512x4x64, .f32⟩
  | 99 => ⟨S16512x4x64, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S16512, .f32⟩
  | 109 => ⟨S16512x1, .f32⟩
  | 110 => ⟨S1x32, .f32⟩
  | 111 => ⟨S16512x32, .f32⟩
  | 112 => ⟨S16512x32, .f32⟩
  | 113 => ⟨S16512x32, .f32⟩
  | 114 => ⟨S16512x32, .f32⟩
  | 115 => ⟨S16512x1x32, .f32⟩
  | 116 => ⟨S16512x32, .f32⟩
  | 117 => ⟨S16512x1x32, .f32⟩
  | 118 => ⟨S16512x4x32, .f32⟩
  | 119 => ⟨S16512x4x32, .f32⟩
  | 120 => ⟨S16512x4x32, .f32⟩
  | 121 => ⟨S16512x4x32, .f32⟩
  | 122 => ⟨S16512x4x32, .f32⟩
  | 123 => ⟨S16512x4x32, .f32⟩
  | 124 => ⟨S16512x4x32, .f32⟩
  | 125 => ⟨S16512x4x32, .f32⟩
  | 126 => ⟨S16512x4x32, .f32⟩
  | 127 => ⟨S16512x4x32, .f32⟩
  | _ => ⟨S33920x6912, .f32⟩

abbrev hbmTy0_1 (i : Nat) : BufTy := match i % 128 with
  | 0 => ⟨S16512x4x32, .f32⟩
  | 1 => ⟨S16512x4x32, .f32⟩
  | 2 => ⟨S16512x4x64, .f32⟩
  | 3 => ⟨S16512x4x128, .f32⟩
  | 4 => ⟨S_, .f32⟩
  | 5 => ⟨S16512x4x128, .f32⟩
  | 6 => ⟨S16512x4x128, .f32⟩
  | 7 => ⟨S16512x256, .f32⟩
  | 8 => ⟨S16512x2x128, .f32⟩
  | 9 => ⟨S16512x2x128, .f32⟩
  | 10 => ⟨S_, .f32⟩
  | 11 => ⟨S16512x2, .f32⟩
  | 12 => ⟨S16512x2x1, .f32⟩
  | 13 => ⟨S_, .f32⟩
  | 14 => ⟨S16512x2x1, .f32⟩
  | 15 => ⟨S16512x2x1, .f32⟩
  | 16 => ⟨S_, .f32⟩
  | 17 => ⟨S16512x2x1, .f32⟩
  | 18 => ⟨S16512x2x1, .f32⟩
  | 19 => ⟨S16512x2x1, .f32⟩
  | 20 => ⟨S16512x2x128, .f32⟩
  | 21 => ⟨S16512x2x128, .f32⟩
  | 22 => ⟨S1x1x128, .f32⟩
  | 23 => ⟨S16512x2x128, .f32⟩
  | 24 => ⟨S16512x2x128, .f32⟩
  | 25 => ⟨S16512x2x64, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S16512, .f32⟩
  | 35 => ⟨S16512x1, .f32⟩
  | 36 => ⟨S1x32, .f32⟩
  | 37 => ⟨S16512x32, .f32⟩
  | 38 => ⟨S16512x32, .f32⟩
  | 39 => ⟨S16512x32, .f32⟩
  | 40 => ⟨S16512x32, .f32⟩
  | 41 => ⟨S16512x1x32, .f32⟩
  | 42 => ⟨S16512x32, .f32⟩
  | 43 => ⟨S16512x1x32, .f32⟩
  | 44 => ⟨S16512x2x32, .f32⟩
  | 45 => ⟨S16512x2x32, .f32⟩
  | 46 => ⟨S16512x2x32, .f32⟩
  | 47 => ⟨S16512x2x32, .f32⟩
  | 48 => ⟨S16512x2x32, .f32⟩
  | 49 => ⟨S16512x2x32, .f32⟩
  | 50 => ⟨S16512x2x32, .f32⟩
  | 51 => ⟨S16512x2x32, .f32⟩
  | 52 => ⟨S16512x2x32, .f32⟩
  | 53 => ⟨S16512x2x32, .f32⟩
  | 54 => ⟨S16512x2x32, .f32⟩
  | 55 => ⟨S16512x2x32, .f32⟩
  | 56 => ⟨S16512x2x64, .f32⟩
  | 57 => ⟨S16512x2x64, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S16512, .f32⟩
  | 67 => ⟨S16512x1, .f32⟩
  | 68 => ⟨S1x32, .f32⟩
  | 69 => ⟨S16512x32, .f32⟩
  | 70 => ⟨S16512x32, .f32⟩
  | 71 => ⟨S16512x32, .f32⟩
  | 72 => ⟨S16512x32, .f32⟩
  | 73 => ⟨S16512x1x32, .f32⟩
  | 74 => ⟨S16512x32, .f32⟩
  | 75 => ⟨S16512x1x32, .f32⟩
  | 76 => ⟨S16512x2x32, .f32⟩
  | 77 => ⟨S16512x2x32, .f32⟩
  | 78 => ⟨S16512x2x32, .f32⟩
  | 79 => ⟨S16512x2x32, .f32⟩
  | 80 => ⟨S16512x2x32, .f32⟩
  | 81 => ⟨S16512x2x32, .f32⟩
  | 82 => ⟨S16512x2x32, .f32⟩
  | 83 => ⟨S16512x2x32, .f32⟩
  | 84 => ⟨S16512x2x32, .f32⟩
  | 85 => ⟨S16512x2x32, .f32⟩
  | 86 => ⟨S16512x2x32, .f32⟩
  | 87 => ⟨S16512x2x32, .f32⟩
  | 88 => ⟨S16512x2x64, .f32⟩
  | 89 => ⟨S16512x2x128, .f32⟩
  | 90 => ⟨S16512x512, .f32⟩
  | 91 => ⟨S16512x256, .f32⟩
  | 92 => ⟨S16512x256, .f32⟩
  | 93 => ⟨S16512x512, .f32⟩
  | 94 => ⟨S_, .f32⟩
  | 95 => ⟨S16512x512, .f32⟩
  | 96 => ⟨S16512x512, .f32⟩
  | 97 => ⟨S16512x1024, .f32⟩
  | 98 => ⟨S16512x512, .bf16⟩
  | 99 => ⟨S16512x256, .bf16⟩
  | 100 => ⟨S16512x256, .bf16⟩
  | 101 => ⟨S16512x512, .bf16⟩
  | 102 => ⟨S16512x1024, .bf16⟩
  | _ => ⟨S33920x6912, .f32⟩

abbrev hbmTy (i : Nat) : BufTy := match i / 128 with
  | 0 => hbmTy0_0 i
  | 1 => hbmTy0_1 i
  | _ => ⟨S33920x6912, .f32⟩

abbrev bufTy : (tb : Table) → Fin (tcTables nBuf tb) → BufTy
  | .hbm, ⟨i, _⟩ => hbmTy i
  | _, _ => ⟨S33920x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_1 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_v10 : Ref sig .tc := ⟨.hbm, 53, rfl⟩
abbrev main_v11 : Ref sig .tc := ⟨.hbm, 54, rfl⟩
abbrev main_cst_2 : Ref sig .tc := ⟨.hbm, 55, rfl⟩
abbrev main_v12 : Ref sig .tc := ⟨.hbm, 56, rfl⟩
abbrev main_v13 : Ref sig .tc := ⟨.hbm, 57, rfl⟩
abbrev main_cst_3 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_cst_4 : Ref sig .tc := ⟨.hbm, 70, rfl⟩
abbrev main_v25 : Ref sig .tc := ⟨.hbm, 71, rfl⟩
abbrev main_v26 : Ref sig .tc := ⟨.hbm, 72, rfl⟩
abbrev main_cst_5 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_6 : Ref sig .tc := ⟨.hbm, 102, rfl⟩
abbrev main_v55 : Ref sig .tc := ⟨.hbm, 103, rfl⟩
abbrev main_v56 : Ref sig .tc := ⟨.hbm, 104, rfl⟩
abbrev main_cst_7 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_8 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_9 : Ref sig .tc := ⟨.hbm, 138, rfl⟩
abbrev main_v88 : Ref sig .tc := ⟨.hbm, 139, rfl⟩
abbrev main_v89 : Ref sig .tc := ⟨.hbm, 140, rfl⟩
abbrev main_cst_10 : Ref sig .tc := ⟨.hbm, 141, rfl⟩
abbrev main_v90 : Ref sig .tc := ⟨.hbm, 142, rfl⟩
abbrev main_v91 : Ref sig .tc := ⟨.hbm, 143, rfl⟩
abbrev main_cst_11 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_12 : Ref sig .tc := ⟨.hbm, 156, rfl⟩
abbrev main_v103 : Ref sig .tc := ⟨.hbm, 157, rfl⟩
abbrev main_v104 : Ref sig .tc := ⟨.hbm, 158, rfl⟩
abbrev main_cst_13 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_14 : Ref sig .tc := ⟨.hbm, 188, rfl⟩
abbrev main_v133 : Ref sig .tc := ⟨.hbm, 189, rfl⟩
abbrev main_v134 : Ref sig .tc := ⟨.hbm, 190, rfl⟩
abbrev main_cst_15 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_cst_16 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩

abbrev nD : Nat := 1
abbrev τ : Topo := Topo.v7x

variable {F : FTy → Type} [FloatOps F]
-- ==== Proof.Softmax.lean ====
/-
The softmax of one row of scores, taken a chunk of keys at a time: what the running maximum, the running
denominator and the running weighted sum are, and what they come to when the keys at both ends are masked. Everything is
over the reals extended by the infinities, with no finiteness assumed: a masked score is `⊥` and weighs nothing.
-/
module

public import Idealize.ShloMosaic.PureOps.Ideal
public import Idealize.ShloMosaic.Lib.WordCmp

@[expose] public section

noncomputable section

namespace Cert.Softmax

open Idealize.ShloMosaic

/-- The exponential is never negative. -/
theorem exp_nonneg (x : EReal) : 0 ≤ Ideal.exp x := by
  induction x using EReal.rec with
  | bot => exact le_refl _
  | coe r => exact EReal.coe_nonneg.2 (Real.exp_pos r).le
  | top => exact le_top

/-- A factor that carries a smaller maximum over to a larger one is finite. -/
theorem exp_sub_ne_top {a b : EReal} (h : a ≤ b) : Ideal.exp (a - b) ≠ ⊤ := by
  induction a using EReal.rec <;> induction b using EReal.rec <;>
    first
      | (exfalso; simp at h; done)
      | (rename_i x y; rw [← EReal.coe_sub]; exact EReal.coe_ne_top _)
      | (simp [Ideal.exp]; done)
      | exact EReal.zero_ne_top

/-- Carrying a weight from one maximum to a larger one is a multiplication. -/
theorem exp_carry {s a b : EReal} (hs : s ≤ a) (hab : a ≤ b) :
    Ideal.exp (a - b) * Ideal.exp (s - a) = Ideal.exp (s - b) := by
  induction s using EReal.rec <;> induction a using EReal.rec <;> induction b using EReal.rec <;>
    first
      | (exfalso; simp at hs; done)
      | (exfalso; simp at hab; done)
      | (rename_i x y z
         rw [← EReal.coe_sub, ← EReal.coe_sub, ← EReal.coe_sub]
         change ((Real.exp _ : ℝ) : EReal) * ((Real.exp _ : ℝ) : EReal) = ((Real.exp _ : ℝ) : EReal)
         rw [← EReal.coe_mul, ← Real.exp_add]
         congr 2; ring)
      | exact zero_mul _
      | exact mul_zero _

/-- A finite factor that isn't negative goes through a sum. -/
theorem factor_sum {α : Type} {t : EReal} (h : 0 ≤ t) (h' : t ≠ ⊤) (S : Finset α) (f : α → EReal) :
    t * ∑ i ∈ S, f i = ∑ i ∈ S, t * f i := by
  classical
  induction S using Finset.induction_on with
  | empty => simp
  | insert i S hi ih =>
    rw [Finset.sum_insert hi, Finset.sum_insert hi, EReal.left_distrib_of_nonneg_of_ne_top h h', ih]

/-- The greatest of the first `n` scores. -/
def peak (s : ℕ → EReal) (n : ℕ) : EReal := (Finset.range n).sup s

/-- The first `n` values weighted by the exponentials of their scores below the peak. -/
def mass (s u : ℕ → EReal) (n : ℕ) : EReal := ∑ i ∈ Finset.range n, Ideal.exp (s i - peak s n) * u i

/-- The peak of more keys: that of the earlier ones and that of the new chunk. -/
theorem peak_step (s : ℕ → EReal) (n c : ℕ) :
    peak s (n + c) = max (peak s n) (Finset.univ.sup fun j : Fin c => s (n + j.val)) := by
  apply le_antisymm
  · refine Finset.sup_le fun i hi => ?_
    rw [Finset.mem_range] at hi
    by_cases h : i < n
    · exact le_max_of_le_left (Finset.le_sup (f := s) (Finset.mem_range.2 h))
    · have : s i = (fun j : Fin c => s (n + j.val)) ⟨i - n, by omega⟩ := by
        show s i = s (n + (i - n)); congr 1; omega
      rw [this]
      exact le_max_of_le_right (Finset.le_sup (f := fun j : Fin c => s (n + j.val)) (Finset.mem_univ _))
  · refine max_le (Finset.sup_mono (Finset.range_subset_range.2 (by omega))) (Finset.sup_le fun j _ => ?_)
    exact Finset.le_sup (f := s) (Finset.mem_range.2 (by omega))

/-- The weighted sum of more keys: the earlier one carried to the new peak, and the new chunk's. -/
theorem mass_step (s u : ℕ → EReal) (n c : ℕ) :
    mass s u (n + c) = Ideal.exp (peak s n - peak s (n + c)) * mass s u n
      + ∑ j : Fin c, Ideal.exp (s (n + j.val) - peak s (n + c)) * u (n + j.val) := by
  have hle : peak s n ≤ peak s (n + c) := by rw [peak_step]; exact le_max_left _ _
  unfold mass
  rw [Finset.sum_range_add, factor_sum (exp_nonneg _) (exp_sub_ne_top hle), Finset.sum_range (n := c)]
  congr 1
  refine Finset.sum_congr rfl fun i hi => ?_
  rw [← mul_assoc]; exact congrArg (· * u i) (exp_carry (b := peak s (n + c)) (Finset.le_sup (f := s) hi) hle).symm

/-- Before the first key the peak is `⊥`. -/
theorem peak_zero (s : ℕ → EReal) : peak s 0 = ⊥ := rfl

/-- Before the first key the weighted sum is nothing. -/
theorem mass_zero (s u : ℕ → EReal) : mass s u 0 = 0 := rfl

/-- With the first `a` and the last `b` keys masked, the peak is that of the `n` keys between. -/
theorem peak_masked (s : ℕ → EReal) (a n b : ℕ) (h₁ : ∀ i < a, s i = ⊥) (h₂ : ∀ i < b, s (a + n + i) = ⊥) :
    peak s (a + n + b) = Finset.univ.sup fun j : Fin n => s (a + j.val) := by
  have z₁ : peak s a = ⊥ := by
    refine Finset.sup_eq_bot_iff _ _ |>.2 fun i hi => h₁ i (Finset.mem_range.1 hi)
  have z₂ : (Finset.univ.sup fun j : Fin b => s (a + n + j.val)) = ⊥ :=
    Finset.sup_eq_bot_iff _ _ |>.2 fun j _ => h₂ j.val j.isLt
  rw [peak_step, peak_step, z₁, z₂, max_bot_right, max_bot_left]

/-- A masked key weighs nothing. -/
theorem masked_weight (p u : EReal) : Ideal.exp (⊥ - p) * u = 0 := by
  rw [EReal.bot_sub]; exact zero_mul u

/-- With the first `a` and the last `b` keys masked, the weighted sum is that of the `n` keys between. -/
theorem mass_masked (s u : ℕ → EReal) (a n b : ℕ) (h₁ : ∀ i < a, s i = ⊥) (h₂ : ∀ i < b, s (a + n + i) = ⊥) :
    mass s u (a + n + b) = ∑ j : Fin n, Ideal.exp (s (a + j.val) - Finset.univ.sup fun j : Fin n => s (a + j.val)) * u (a + j.val) := by
  unfold mass
  rw [peak_masked s a n b h₁ h₂, Finset.sum_range_add, Finset.sum_range_add,
    Finset.sum_eq_zero (s := Finset.range a), Finset.sum_eq_zero (s := Finset.range b), zero_add, add_zero,
    Finset.sum_range (n := n)]
  · intro i hi; rw [h₂ i (Finset.mem_range.1 hi), masked_weight]
  · intro i hi; rw [h₁ i (Finset.mem_range.1 hi), masked_weight]

/-- The denominator is the weighted sum of ones. -/
theorem mass_one (s : ℕ → EReal) (n : ℕ) : mass s (fun _ => 1) n = ∑ i ∈ Finset.range n, Ideal.exp (s i - peak s n) :=
  Finset.sum_congr rfl fun _ _ => mul_one _

/-- The word of negative infinity denotes `⊥`. -/
theorem minus_infinity : Ideal.ofBits .f32 (0xFF800000#32) = ⊥ := by
  show Ideal.ieee 8 23 (0xFF800000#32) = ⊥
  simp [Ideal.ieee]

/-- A maximum folded from `⊥` is the supremum. -/
theorem fold_max {n : ℕ} (f : Fin n → EReal) : Finset.univ.fold max ⊥ f = Finset.univ.sup f := rfl

/-- What attention gives for one query and one column: the values weighted by the exponentials of the scores below
their peak, over the sum of these weights. -/
def attend {n : ℕ} (s v : Fin n → EReal) : EReal :=
  Ideal.div (∑ j, Ideal.exp (s j - Finset.univ.sup s) * v j) (∑ j, Ideal.exp (s j - Finset.univ.sup s))

/-- With the first `a` and the last `b` keys masked, the quotient of weighted sum and denominator is the attention over
the `n` keys between. -/
theorem attend_masked (s u : ℕ → EReal) (a n b : ℕ) (h₁ : ∀ i < a, s i = ⊥) (h₂ : ∀ i < b, s (a + n + i) = ⊥) :
    Ideal.div (mass s u (a + n + b)) (mass s (fun _ => 1) (a + n + b))
      = attend (fun j : Fin n => s (a + j.val)) (fun j => u (a + j.val)) := by
  rw [mass_masked s u a n b h₁ h₂, mass_masked s (fun _ => 1) a n b h₁ h₂]
  unfold attend
  simp only [mul_one]

/-- One chunk's new maximum, with the scores as a function on the chunk. -/
theorem chunk_peak (s : ℕ → EReal) (n : ℕ) {c : ℕ} (f : Fin c → EReal) (hf : ∀ j, f j = s (n + j.val)) :
    max (peak s n) (Finset.univ.fold max ⊥ f) = peak s (n + c) := by
  rw [peak_step, fold_max]; congr 1; exact Finset.sup_congr rfl fun j _ => hf j

/-- One chunk's new weighted sum, with the scores and the values as functions on the chunk. -/
theorem chunk_mass (s u : ℕ → EReal) (n : ℕ) {c : ℕ} (f g : Fin c → EReal) (hf : ∀ j, f j = s (n + j.val))
    (hg : ∀ j, g j = u (n + j.val)) :
    Ideal.exp (peak s n - peak s (n + c)) * mass s u n + ∑ j, Ideal.exp (f j - peak s (n + c)) * g j
      = mass s u (n + c) := by
  rw [mass_step]; congr 1; exact Finset.sum_congr rfl fun j _ => by rw [hf j, hg j]

/-- One chunk's new denominator. -/
theorem chunk_total (s : ℕ → EReal) (n : ℕ) {c : ℕ} (f : Fin c → EReal) (hf : ∀ j, f j = s (n + j.val)) :
    Ideal.exp (peak s n - peak s (n + c)) * mass s (fun _ => 1) n + ∑ j, Ideal.exp (f j - peak s (n + c))
      = mass s (fun _ => 1) (n + c) := by
  rw [← chunk_mass s (fun _ => 1) n f (fun _ => 1) hf fun _ => rfl]; simp only [mul_one]

/-- The host's padding indicator at a position below 2³¹: 0 between the bounds, 1 outside. -/
theorem indicator_at (i lo hi : ℕ) (h : i < 2 ^ 31) (hl : lo < 2 ^ 31) (hh : hi < 2 ^ 31) :
    Scalar.select (IntOp.andi (IntOp.cmpi .sge (BitVec.ofNat 32 i) (BitVec.ofNat 32 lo))
        (IntOp.cmpi .slt (BitVec.ofNat 32 i) (BitVec.ofNat 32 hi))) (0 : EReal) 1
      = if lo ≤ i ∧ i < hi then (0 : EReal) else 1 := by
  rw [Idealize.ShloMosaic.WordCmp.cmpi_slt_ofNat (by simpa using h) (by simpa using hh),
    Idealize.ShloMosaic.WordCmp.cmpi_sge_ofNat (by simpa using h) (by simpa using hl)]
  by_cases h₁ : lo ≤ i <;> by_cases h₂ : i < hi <;> simp [h₁, h₂, Scalar.select, IntOp.andi]

/-- The mask added to a score: nothing where the indicator is 0, `⊥` where it is 1. -/
theorem masked_score (x : EReal) (p : Prop) [Decidable p] :
    x + (if p then (0 : EReal) else 1) * ⊥ = if p then x else ⊥ := by
  split
  · rw [zero_mul, add_zero]
  · rw [one_mul, EReal.add_bot]

/-- The scores of a row of `n` keys, masked beyond the last. -/
def beyond {n : ℕ} (f : Fin n → EReal) (i : ℕ) : EReal := if h : i < n then f ⟨i, h⟩ else ⊥

/-- Below its length the continued family is the family. -/
theorem beyond_of_lt {n : ℕ} (f : Fin n → EReal) {i : ℕ} (h : i < n) : beyond f i = f ⟨i, h⟩ := dif_pos h

/-- A family's entry is the continued family's, counted from zero. -/
theorem beyond_val {n : ℕ} (f : Fin n → EReal) (j : Fin n) : f j = beyond f (0 + j.val) := by
  rw [zero_add]; exact (beyond_of_lt f j.isLt).symm

/-- All keys in one chunk: what the chunk leaves is the quotient of weighted sum and denominator. -/
theorem one_chunk {n : ℕ} (f g : Fin n → EReal) :
    Ideal.div
        (Ideal.exp (⊥ - max ⊥ (Finset.univ.fold max ⊥ f)) * 0 + ∑ j, Ideal.exp (f j - max ⊥ (Finset.univ.fold max ⊥ f)) * g j)
        (Ideal.exp (⊥ - max ⊥ (Finset.univ.fold max ⊥ f)) * 0 + ∑ j, Ideal.exp (f j - max ⊥ (Finset.univ.fold max ⊥ f)))
      = Ideal.div (mass (beyond f) (beyond g) n) (mass (beyond f) (fun _ => 1) n) := by
  have p := chunk_peak (beyond f) 0 f (beyond_val f)
  have w := chunk_mass (beyond f) (beyond g) 0 f g (beyond_val f) (beyond_val g)
  have t := chunk_total (beyond f) 0 f (beyond_val f)
  rw [peak_zero] at p w t
  rw [mass_zero, ← p, zero_add] at w t
  rw [w, t]

end Cert.Softmax

end
-- ==== Proof.AttnPTrip.lean ====
module

public import proofs.«01_k».proof.Proof.Gen.AttnPIdeal.Value
public import proofs.«01_k».proof.Proof.Gen.AttnPRefIdeal.Read

public import proofs.«01_k».proof.Proof.Softmax
public import Idealize.ShloMosaic.Lib.StableHlo.ReadAt
public import Idealize.ShloMosaic.Lib.Pipeline.ValueKit

@[expose] public section

set_option maxRecDepth 16384

noncomputable section

namespace Cert.AttnPIdeal.Tile

open Cert.AttnPIdeal Cert.AttnPIdeal.Gen Idealize.ShloMosaic Idealize.ShloMosaic.TcCoe Idealize.SL.Sem
open Idealize.ShloMosaic.Pipeline (Dat)

variable (m : (ℓ : Loc nD τ sig) → Buf (Elt Ideal) ℓ)

open Cert.Softmax

/-- The scores of row `r` of the two stacked query tiles against a chunk's keys, masked keys at `⊥`. -/
def scores (q₀ q₁ k : Vec Ideal S384x128 .bf16) (b : Vec Ideal S1x384 .f32) (r : Fin 768) (j : Fin 384) : EReal :=
  (∑ e : Fin 128, (if h : r.val < 384 then (q₀ (ix2 ⟨r.val, h⟩ e) : EReal) else q₁ (ix2 ⟨r.val - 384, by omega⟩ e)) * (k (ix2 j e) : EReal))
    + (b (ix2 0 j) : EReal) * ⊥

/-- A trip's score at one entry: the product of query and key, with the token's mark times the mask. -/
theorem scores_at (q₀ q₁ k : Vec Ideal S384x128 .bf16) (b : Vec Ideal S1x384 .f32) (y : S768x384.Idx) :
    k0_pay4 (F := Ideal) q₀ q₁ k b y = scores q₀ q₁ k b (y 0) (y 1) := by
  pointwise [k0_pay4]
  rw [IdealRules.named_const.ideal_named_scalar Cert.AttnPIdeal.κ "mask" _ ⊥ rfl]
  rfl

/-- An index of a column is given by its row. -/
theorem column (y : S768x1.Idx) : y = ix2 (y 0) 0 := by
  funext a
  match a with
  | ⟨0, _⟩ => rfl
  | ⟨1, _⟩ => exact Fin.ext (show (y 1).val = 0 from by have h : (y 1).val < 1 := (y 1).isLt; omega)

/-- The peak after a trip: the larger of the one before it and of the row's scores. -/
theorem peak_at (q₀ q₁ k : Vec Ideal S384x128 .bf16) (b : Vec Ideal S1x384 .f32) (M : FVec Ideal S768x1 .f32) (y : S768x1.Idx) :
    k0_pay5 (F := Ideal) q₀ q₁ M k b y = max (M (ix2 (y 0) 0)) (Finset.univ.fold max ⊥ (scores q₀ q₁ k b (y 0))) := by
  pointwise [k0_pay5, scores_at]
  rw [minus_infinity, show M y = M (ix2 (y 0) 0) from congrArg M (column y)]

/-- A trip's weight at one entry: the exponential of its score less the peak. -/
theorem weight_at (q₀ q₁ k : Vec Ideal S384x128 .bf16) (b : Vec Ideal S1x384 .f32) (M : FVec Ideal S768x1 .f32) (y : S768x384.Idx) :
    k0_pay6 (F := Ideal) q₀ q₁ M k b y = Ideal.exp (scores q₀ q₁ k b (y 0) (y 1)
      - max (M (ix2 (y 0) 0)) (Finset.univ.fold max ⊥ (scores q₀ q₁ k b (y 0)))) := by
  pointwise [k0_pay6, scores_at, peak_at]

/-- The factor which the carried values get when the peak grows. -/
theorem carry_at (q₀ q₁ k : Vec Ideal S384x128 .bf16) (b : Vec Ideal S1x384 .f32) (M : FVec Ideal S768x1 .f32) (y : S768x1.Idx) :
    k0_pay7 (F := Ideal) q₀ q₁ M k b y = Ideal.exp (M (ix2 (y 0) 0)
      - max (M (ix2 (y 0) 0)) (Finset.univ.fold max ⊥ (scores q₀ q₁ k b (y 0)))) := by
  pointwise [k0_pay7, peak_at]
  rw [show M y = M (ix2 (y 0) 0) from congrArg M (column y)]

/-- The mass after a trip, at one row. -/
theorem total_at (q₀ q₁ k : Vec Ideal S384x128 .bf16) (b : Vec Ideal S1x384 .f32) (M L : FVec Ideal S768x1 .f32) (y : S768x1.Idx) :
    k0_pay8 (F := Ideal) q₀ q₁ M L k b y = Ideal.exp (M (ix2 (y 0) 0)
        - max (M (ix2 (y 0) 0)) (Finset.univ.fold max ⊥ (scores q₀ q₁ k b (y 0)))) * L (ix2 (y 0) 0)
      + ∑ j : Fin 384, Ideal.exp (scores q₀ q₁ k b (y 0) j - max (M (ix2 (y 0) 0)) (Finset.univ.fold max ⊥ (scores q₀ q₁ k b (y 0)))) := by
  pointwise [k0_pay8, carry_at, weight_at]
  rw [show L y = L (ix2 (y 0) 0) from congrArg L (column y)]

/-- The weighted sum of the values after a trip, at one entry. -/
theorem sum_at (q₀ q₁ k v : Vec Ideal S384x128 .bf16) (b : Vec Ideal S1x384 .f32) (M : FVec Ideal S768x1 .f32)
    (A : FVec Ideal S768x128 .f32) (y : S768x128.Idx) :
    k0_pay9 (F := Ideal) q₀ q₁ M A k v b y = Ideal.exp (M (ix2 (y 0) 0)
        - max (M (ix2 (y 0) 0)) (Finset.univ.fold max ⊥ (scores q₀ q₁ k b (y 0)))) * A (ix2 (y 0) (y 1))
      + ∑ j : Fin 384, Ideal.exp (scores q₀ q₁ k b (y 0) j - max (M (ix2 (y 0) 0)) (Finset.univ.fold max ⊥ (scores q₀ q₁ k b (y 0))))
          * v (ix2 j (y 1)) := by
  pointwise [k0_pay9, carry_at, weight_at]

/-- After any number of chunks the carried row holds the peak, the denominator and the weighted sum of the keys so far. -/
theorem carried (q₀ q₁ : Vec Ideal S384x128 .bf16) (K U : ℕ → Vec Ideal S384x128 .bf16) (B : ℕ → Vec Ideal S1x384 .f32)
    (st : ℕ → FVec Ideal S768x1 .f32 × FVec Ideal S768x1 .f32 × FVec Ideal S768x128 .f32)
    (h0 : st 0 = (k0_pay1 (F := Ideal), k0_pay2 (F := Ideal), k0_pay3 (F := Ideal)))
    (hst : ∀ k < 43, st (k + 1) = (k0_pay5 (F := Ideal) q₀ q₁ (st k).1 (K k) (B k), k0_pay8 (F := Ideal) q₀ q₁ (st k).1 (st k).2.1 (K k) (B k),
      k0_pay9 (F := Ideal) q₀ q₁ (st k).1 (st k).2.2 (K k) (U k) (B k)))
    (r : Fin 768) (e : Fin 128) (s u : ℕ → EReal)
    (hs : ∀ k < 43, ∀ j : Fin 384, scores q₀ q₁ (K k) (B k) r j = s (k * 384 + j.val))
    (hu : ∀ k < 43, ∀ j : Fin 384, U k (ix2 j e) = u (k * 384 + j.val)) :
    ∀ k ≤ 43, (st k).1 (ix2 r 0) = peak s (k * 384) ∧ (st k).2.1 (ix2 r 0) = mass s (fun _ => 1) (k * 384)
      ∧ (st k).2.2 (ix2 r e) = mass s u (k * 384) := by
  intro k
  induction k with
  | zero =>
    intro _
    rw [h0, Nat.zero_mul, peak_zero, mass_zero, mass_zero]
    refine ⟨?_, ?_, ?_⟩
    · pointwise [k0_pay1]; exact minus_infinity
    · pointwise [k0_pay2]
    · pointwise [k0_pay3]
  | succ k ih =>
    intro hk
    obtain ⟨i1, i2, i3⟩ := ih (by omega)
    have p := chunk_peak s (k * 384) (scores q₀ q₁ (K k) (B k) r) (hs k (by omega))
    have w := chunk_mass s u (k * 384) (scores q₀ q₁ (K k) (B k) r) (fun j => U k (ix2 j e)) (hs k (by omega)) (hu k (by omega))
    have t := chunk_total s (k * 384) (scores q₀ q₁ (K k) (B k) r) (hs k (by omega))
    rw [← i1] at p w t
    rw [← p, ← i3] at w
    rw [← p, ← i2] at t
    rw [hst k (by omega), Nat.succ_mul]
    exact ⟨(peak_at _ _ _ _ _ _).trans p, (total_at _ _ _ _ _ _ _).trans t, (sum_at _ _ _ _ _ _ _ _).trans w⟩

end Cert.AttnPIdeal.Tile

end
-- ==== Proof.AttnPRun.lean ====
module

public import proofs.«01_k».proof.Proof.Gen.AttnPIdeal.Value

public import proofs.«01_k».proof.Proof.AttnPTrip
public import Idealize.ShloMosaic.Lib.StableHlo.ReadAt
public import Idealize.ShloMosaic.Lib.Pipeline.ValueKit

@[expose] public section

set_option maxRecDepth 16384

noncomputable section

namespace Cert.AttnPIdeal.Tile

open Cert.AttnPIdeal Cert.AttnPIdeal.Gen Idealize.ShloMosaic Idealize.ShloMosaic.TcCoe Idealize.SL.Sem
open Idealize.ShloMosaic.Pipeline (Dat)

variable (m : (ℓ : Loc nD τ sig) → Buf (Elt Ideal) ℓ)

open Cert.Softmax

/-- The chunk of keys or values trip `k` loads. -/
def keys (x : Vec Ideal S16512x128 .bf16) (k : ℕ) : Vec Ideal S384x128 .bf16 :=
  fun y => x (ix2 ⟨(k * 384 + (y 0).val) % 16512, Nat.mod_lt _ (by decide)⟩ (y 1))

/-- The row of the padding indicator trip `k` loads. -/
def marks (x : Vec Ideal S43x384 .f32) (k : ℕ) : Vec Ideal S1x384 .f32 := fun y => x (ix2 ⟨k % 43, Nat.mod_lt _ (by decide)⟩ (y 1))

/-- The loop makes one trip for each of the 43 chunks of keys. -/
theorem trips_eq : k0_t1_loop.trips = 43 := by decide

/-- The keys and values of a trip begin at its chunk's first row. -/
theorem off1_at : ∀ k : Fin k0_t1_loop.trips, k0_off1 k = ![k.val * 384, 0] := by decide +kernel

/-- The marks of a trip are the row of its number. -/
theorem off2_at : ∀ k : Fin k0_t1_loop.trips, k0_off2 k = ![k.val, 0] := by decide +kernel

/-- What a trip loads of the keys or values: the rows of its chunk. -/
theorem keys_load (x : Vec Ideal S16512x128 .bf16) (k : Fin k0_t1_loop.trips) :
    View.ld x (Rect.unit (s := S16512x128) (k0_off1 k) S384x128.size (k0_off1_inb k)) = keys x k.val := by
  have hk : k.val < 43 := lt_of_lt_of_eq k.isLt trips_eq
  funext y
  have h0 : (y 0).val < 384 := (y 0).isLt
  refine View.ld_unit_apply_of x _ _ _ y _ fun a => ?_
  refine Eq.trans ?_ (congrArg (fun n => n + (y a).val) (congrFun (off1_at k) a).symm)
  match a with
  | ⟨0, _⟩ => exact Nat.mod_eq_of_lt (show k.val * 384 + (y 0).val < 16512 by omega)
  | ⟨1, _⟩ => exact (Nat.zero_add _).symm

/-- What a trip loads of the marks: those of its chunk. -/
theorem marks_load (x : Vec Ideal S43x384 .f32) (k : Fin k0_t1_loop.trips) :
    View.ld x (Rect.unit (s := S43x384) (k0_off2 k) S1x384.size (k0_off2_inb k)) = marks x k.val := by
  have hk : k.val < 43 := lt_of_lt_of_eq k.isLt trips_eq
  funext y
  have h0 : (y 0).val < 1 := (y 0).isLt
  refine View.ld_unit_apply_of x _ _ _ y _ fun a => ?_
  refine Eq.trans ?_ (congrArg (fun n => n + (y a).val) (congrFun (off2_at k) a).symm)
  match a with
  | ⟨0, _⟩ => exact (Nat.mod_eq_of_lt hk).trans (show k.val = k.val + (y 0).val by omega)
  | ⟨1, _⟩ => exact (Nat.zero_add _).symm

/-- One trip: the payloads at the chunk it loads. -/
theorem trip_value (c : Dev nD) (i : grid0.Coords) (arg3 : Memref sig .tc .vmem S384x256 .bf16) (harg3 : arg3.IsWhole)
    (arg4 : Memref sig .tc .vmem S16512x128 .bf16) (harg4 : arg4.IsWhole) (arg5 : Memref sig .tc .vmem S16512x128 .bf16) (harg5 : arg5.IsWhole)
    (arg6 : Memref sig .tc .vmem S43x384 .f32) (harg6 : arg6.IsWhole) (arg7 : Memref sig .tc .vmem S384x256 .bf16) (harg7 : arg7.IsWhole)
    (v0 v1 : Vec Ideal S384x128 .bf16) (x1 x2 : Vec Ideal S16512x128 .bf16) (x3 : Vec Ideal S43x384 .f32) (k : Fin k0_t1_loop.trips)
    (acc : FVec Ideal S768x1 .f32 × FVec Ideal S768x1 .f32 × FVec Ideal S768x128 .f32) :
    tripR_k0_t1 (F := Ideal) Variants.none c none i arg3 harg3 arg4 harg4 arg5 harg5 arg6 harg6 arg7 harg7 v0 v1 (harg4.unread x1) (harg5.unread x2) (harg6.unread x3) k acc
      = (k0_pay5 (F := Ideal) v0 v1 acc.1 (keys x1 k.val) (marks x3 k.val), k0_pay8 (F := Ideal) v0 v1 acc.1 acc.2.1 (keys x1 k.val) (marks x3 k.val),
        k0_pay9 (F := Ideal) v0 v1 acc.1 acc.2.2 (keys x1 k.val) (keys x2 k.val) (marks x3 k.val)) := by
  rw [← keys_load, ← keys_load, ← marks_load]
  unfold tripR_k0_t1 trip_k0_t1
  dsimp only
  sl_unfold_words
  simp only [View.readAt_eq_ld, harg4.read_unread, harg5.read_unread, harg6.read_unread]

/-- The two query tiles side by side in the block. -/
abbrev left (x0 : Vec Ideal S384x256 .bf16) : Vec Ideal S384x128 .bf16 :=
  View.ld x0 (Rect.unit (s := S384x256) ![0, 0] S384x128.size inb_S384x256_S384x128_0_0)

abbrev right (x0 : Vec Ideal S384x256 .bf16) : Vec Ideal S384x128 .bf16 :=
  View.ld x0 (Rect.unit (s := S384x256) ![0, 128] S384x128.size inb_S384x256_S384x128_0_128)

/-- What the loop carries before trip `k`. -/
abbrev state (c : Dev nD) (i : grid0.Coords) (arg3 : Memref sig .tc .vmem S384x256 .bf16) (harg3 : arg3.IsWhole)
    (arg4 : Memref sig .tc .vmem S16512x128 .bf16) (harg4 : arg4.IsWhole) (arg5 : Memref sig .tc .vmem S16512x128 .bf16) (harg5 : arg5.IsWhole)
    (arg6 : Memref sig .tc .vmem S43x384 .f32) (harg6 : arg6.IsWhole) (arg7 : Memref sig .tc .vmem S384x256 .bf16) (harg7 : arg7.IsWhole)
    (x0 : Vec Ideal S384x256 .bf16) (x1 x2 : Vec Ideal S16512x128 .bf16) (x3 : Vec Ideal S43x384 .f32) :
    ℕ → FVec Ideal S768x1 .f32 × FVec Ideal S768x1 .f32 × FVec Ideal S768x128 .f32 :=
  st_k0_t1 (F := Ideal) Variants.none c none i arg3 harg3 arg4 harg4 arg5 harg5 arg6 harg6 arg7 harg7 (left x0) (right x0)
    (harg4.unread x1) (harg5.unread x2) (harg6.unread x3) (k0_pay1 (F := Ideal), k0_pay2 (F := Ideal), k0_pay3 (F := Ideal))

/-- The carried sum over the carried mass, at one entry. -/
theorem quotient_at (L : FVec Ideal S768x1 .f32) (A : FVec Ideal S768x128 .f32) (y : S768x128.Idx) :
    k0_pay10 (F := Ideal) L A y = Ideal.div (A y) (L (ix2 (y 0) 0)) := by
  pointwise [k0_pay10]

/-- The second stored half: the rows from 384. -/
theorem upper_half (v : FVec Ideal S768x128 .f32) (x : S384x128.Idx) (i : S768x128.Idx) (h0 : (i 0).val = 384 + (x 0).val)
    (h1 : (i 1).val = (x 1).val) :
    (truncf .bf16 (extractStridedSlice S384x128 ![384, 0] v slices_S768x128_o384_0_S384x128) bitsLt_bf16_f32 : FVec Ideal S384x128 .bf16) x = v i := by
  pointwise
  blk_ext

/-- The first stored half: the rows before 384. -/
theorem lower_half (v : FVec Ideal S768x128 .f32) (x : S384x128.Idx) (i : S768x128.Idx) (h0 : (i 0).val = (x 0).val)
    (h1 : (i 1).val = (x 1).val) :
    (truncf .bf16 (extractStridedSlice S384x128 ![0, 0] v slices_S768x128_o0_0_S384x128) bitsLt_bf16_f32 : FVec Ideal S384x128 .bf16) x = v i := by
  pointwise
  blk_ext

/-- A stored entry is the quotient of the carried weighted sum and denominator after the last trip. -/
theorem out_value (c : Dev nD) (i : grid0.Coords) (arg3 : Memref sig .tc .vmem S384x256 .bf16) (harg3 : arg3.IsWhole)
    (arg4 : Memref sig .tc .vmem S16512x128 .bf16) (harg4 : arg4.IsWhole) (arg5 : Memref sig .tc .vmem S16512x128 .bf16) (harg5 : arg5.IsWhole)
    (arg6 : Memref sig .tc .vmem S43x384 .f32) (harg6 : arg6.IsWhole) (arg7 : Memref sig .tc .vmem S384x256 .bf16) (harg7 : arg7.IsWhole)
    (x0 : Vec Ideal S384x256 .bf16) (x1 x2 : Vec Ideal S16512x128 .bf16) (x3 : Vec Ideal S43x384 .f32) (y : S384x256.Idx) (p : S768x128.Idx)
    (hp0 : (p 0).val = (y 1).val / 128 * 384 + (y 0).val) (hp1 : (p 1).val = (y 1).val % 128) :
    out0_A_4 (F := Ideal) c i arg3 harg3 arg4 harg4 arg5 harg5 arg6 harg6 arg7 harg7 x0 x1 x2 x3 y
      = Ideal.div ((state c i arg3 harg3 arg4 harg4 arg5 harg5 arg6 harg6 arg7 harg7 x0 x1 x2 x3 43).2.2 p) ((state c i arg3 harg3 arg4 harg4 arg5 harg5 arg6 harg6 arg7 harg7 x0 x1 x2 x3 43).2.1 (ix2 (p 0) 0)) := by
  rw [← quotient_at]
  unfold out0_A_4
  rw [View.read_writes_eq_canon _ _ _ (cover0_A_4 c i arg3 harg3 arg4 harg4 arg5 harg5 arg6 harg6 arg7 harg7 x0 x1 x2 x3)]
  unfold kernelRun0_A
  dsimp only
  sl_unfold_words
  simp only [View.readAt_eq_ld, harg3.read_unread]
  rw [show Scf.trips (0#32) (Scalar.addi 0#32 43#32) 1#32 = 43 from trips_eq]
  canon_tiles x h
  · exact upper_half (k0_pay10 (F := Ideal) (state c i arg3 harg3 arg4 harg4 arg5 harg5 arg6 harg6 arg7 harg7 x0 x1 x2 x3 43).2.1 (state c i arg3 harg3 arg4 harg4 arg5 harg5 arg6 harg6 arg7 harg7 x0 x1 x2 x3 43).2.2) x p (by omega) (by omega)
  · exact lower_half (k0_pay10 (F := Ideal) (state c i arg3 harg3 arg4 harg4 arg5 harg5 arg6 harg6 arg7 harg7 x0 x1 x2 x3 43).2.1 (state c i arg3 harg3 arg4 harg4 arg5 harg5 arg6 harg6 arg7 harg7 x0 x1 x2 x3 43).2.2) x p (by omega) (by omega)

/-- The score row over all keys: chunk by chunk. -/
def row (x0 : Vec Ideal S384x256 .bf16) (x1 : Vec Ideal S16512x128 .bf16) (x3 : Vec Ideal S43x384 .f32) (r : Fin 768) (n : ℕ) : EReal :=
  scores (left x0) (right x0) (keys x1 (n / 384)) (marks x3 (n / 384)) r ⟨n % 384, Nat.mod_lt _ (by decide)⟩

/-- A value column over all keys: chunk by chunk. -/
def values (x2 : Vec Ideal S16512x128 .bf16) (e : Fin 128) (n : ℕ) : EReal := keys x2 (n / 384) (ix2 ⟨n % 384, Nat.mod_lt _ (by decide)⟩ e)

/-- A stored entry: the quotient of the weighted sum and the denominator over all keys. -/
theorem out_mass (c : Dev nD) (i : grid0.Coords) (arg3 : Memref sig .tc .vmem S384x256 .bf16) (harg3 : arg3.IsWhole)
    (arg4 : Memref sig .tc .vmem S16512x128 .bf16) (harg4 : arg4.IsWhole) (arg5 : Memref sig .tc .vmem S16512x128 .bf16) (harg5 : arg5.IsWhole)
    (arg6 : Memref sig .tc .vmem S43x384 .f32) (harg6 : arg6.IsWhole) (arg7 : Memref sig .tc .vmem S384x256 .bf16) (harg7 : arg7.IsWhole)
    (x0 : Vec Ideal S384x256 .bf16) (x1 x2 : Vec Ideal S16512x128 .bf16) (x3 : Vec Ideal S43x384 .f32) (y : S384x256.Idx) (p : S768x128.Idx)
    (hp0 : (p 0).val = (y 1).val / 128 * 384 + (y 0).val) (hp1 : (p 1).val = (y 1).val % 128) :
    out0_A_4 (F := Ideal) c i arg3 harg3 arg4 harg4 arg5 harg5 arg6 harg6 arg7 harg7 x0 x1 x2 x3 y
      = Ideal.div (mass (row x0 x1 x3 (p 0)) (values x2 (p 1)) 16512) (mass (row x0 x1 x3 (p 0)) (fun _ => 1) 16512) := by
  have h := carried (left x0) (right x0) (keys x1) (keys x2) (marks x3) (state c i arg3 harg3 arg4 harg4 arg5 harg5 arg6 harg6 arg7 harg7 x0 x1 x2 x3) (st_k0_t1_zero ..)
    (fun k hk => (st_k0_t1_succ _ _ _ _ _ _ _ _ _ _ _ _ _ _ _ _ _ _ _ _ ⟨k, lt_of_lt_of_eq hk trips_eq.symm⟩).trans (trip_value ..))
    (p 0) (p 1) (row x0 x1 x3 (p 0)) (values x2 (p 1)) (fun k hk j => ?_) (fun k hk j => ?_) 43 (le_refl _)
  · rw [out_value c i arg3 harg3 arg4 harg4 arg5 harg5 arg6 harg6 arg7 harg7 x0 x1 x2 x3 y p hp0 hp1, h.2.1]
    exact congrArg (Ideal.div · _) ((congrArg _ (funext fun a => by match a with | ⟨0, _⟩ => rfl | ⟨1, _⟩ => rfl)).trans h.2.2)
  · have a : (k * 384 + j.val) / 384 = k := by omega
    have b : (⟨(k * 384 + j.val) % 384, Nat.mod_lt _ (by decide)⟩ : Fin 384) = j := Fin.ext (by show (k * 384 + j.val) % 384 = j.val; omega)
    unfold row
    rw [a, b]
  · have a : (k * 384 + j.val) / 384 = k := by omega
    have b : (⟨(k * 384 + j.val) % 384, Nat.mod_lt _ (by decide)⟩ : Fin 384) = j := Fin.ext (by show (k * 384 + j.val) % 384 = j.val; omega)
    unfold values
    rw [a, b]

end Cert.AttnPIdeal.Tile

end
-- ==== Proof.AttnPEntries.lean ====
module

public import proofs.«01_k».proof.Proof.Gen.AttnPIdeal.Value
public import proofs.«01_k».proof.Proof.Gen.AttnPRefIdeal.Read

public import proofs.«01_k».proof.Proof.Softmax
public import Idealize.ShloMosaic.Lib.StableHlo.ReadAt
public import Idealize.ShloMosaic.Lib.Pipeline.ValueKit

@[expose] public section

set_option maxRecDepth 16384

noncomputable section

namespace Cert.AttnPIdeal.Tile

open Cert.AttnPIdeal Cert.AttnPIdeal.Gen Idealize.ShloMosaic Idealize.ShloMosaic.TcCoe Idealize.SL.Sem
open Idealize.ShloMosaic.Pipeline (Dat)

variable (m : (ℓ : Loc nD τ sig) → Buf (Elt Ideal) ℓ)

open Cert.Softmax

/-- The host's padding indicator: 0 at the positions of the meta tokens and the tokens, 1 at the padding. -/
theorem bias_entry (c : Dev nD) (y : S43x384.Idx) :
    V m c main_v50 y = if 48 ≤ (y 0).val * 384 + (y 1).val ∧ (y 0).val * 384 + (y 1).val < 16448 then (0 : EReal) else 1 := by
  unfold V
  after_reads_at
  pointwise [id]
  have h₀ : (y 0).val < 43 := (y 0).isLt
  have h₁ : (y 1).val < 384 := (y 1).isLt
  exact indicator_at _ 48 16448 (by omega) (by decide) (by decide)

/-- Where each tile's windows lie in the arrays: all the tiles one after another, by evaluation. -/
theorem tile_at : ∀ t : Fin cfg0.N,
    win0_0.index t = ![t.val % 43, t.val / 43] ∧ win0_1.index t = ![0, t.val / 43]
      ∧ win0_2.index t = ![0, t.val / 43] ∧ win0_3.index t = ![0, 0]
      ∧ win0_4.index t = ![t.val % 43, t.val / 43] :=
  (by decide +kernel : ∀ t : Fin grid0.N, _)

/-- An entry of the query window is the entry of the queries at the tile's row and head. -/
theorem q_entry (c : Dev nD) (t : Fin cfg0.N) (y : S384x256.Idx) (R : Fin 16512) (C : Fin 512)
    (hR : R.val = t.val % 43 * 384 + (y 0).val) (hC : C.val = t.val / 43 * 256 + (y 1).val) :
    iblk m c 0 t y = m ((c : Thread nD τ).loc main_arg0) (ix2 R C) := by
  blk_point [iblk, V, tile_at t]

/-- An entry of the key window is the entry of the keys at the tile's sequence and head. -/
theorem k_entry (c : Dev nD) (t : Fin cfg0.N) (y : S16512x128.Idx) (R : Fin 16512) (C : Fin 256)
    (hR : R.val = (y 0).val) (hC : C.val = t.val / 43 * 128 + (y 1).val) :
    iblk m c 1 t y = m ((c : Thread nD τ).loc main_arg1) (ix2 R C) := by
  blk_point [iblk, V, tile_at t]

/-- An entry of the value window is the entry of the values at the tile's sequence and head. -/
theorem v_entry (c : Dev nD) (t : Fin cfg0.N) (y : S16512x128.Idx) (R : Fin 16512) (C : Fin 256)
    (hR : R.val = (y 0).val) (hC : C.val = t.val / 43 * 128 + (y 1).val) :
    iblk m c 2 t y = m ((c : Thread nD τ).loc main_arg2) (ix2 R C) := by
  blk_point [iblk, V, tile_at t]

/-- The window of the marks is all of them. -/
theorem b_entry (c : Dev nD) (t : Fin cfg0.N) (y : S43x384.Idx) : iblk m c 3 t y = V m c main_v50 y := by
  blk_point [iblk, tile_at t]

end Cert.AttnPIdeal.Tile

end
-- ==== Proof.AttnPReference.lean ====
module

public import proofs.«01_k».proof.Proof.Gen.AttnPIdeal.Value
public import proofs.«01_k».proof.Proof.Gen.AttnPRefIdeal.Read

public import proofs.«01_k».proof.Proof.Softmax
public import Idealize.ShloMosaic.Lib.StableHlo.ReadAt
public import Idealize.ShloMosaic.Lib.Pipeline.ValueKit

@[expose] public section

set_option maxRecDepth 16384

noncomputable section

namespace Cert.AttnPIdeal.Tile

open Cert.AttnPIdeal Cert.AttnPIdeal.Gen Idealize.ShloMosaic Idealize.ShloMosaic.TcCoe Idealize.SL.Sem
open Idealize.ShloMosaic.Pipeline (Dat)

variable (m : (ℓ : Loc nD τ sig) → Buf (Elt Ideal) ℓ)

open Cert.Softmax

/-- What the reference computes, over the kernel's argument arrays. -/
abbrev expected (c : Dev nD) := Cert.AttnPRefIdeal.Read.val_main_v22 (F := Ideal) (m ((c : Thread nD τ).loc main_arg0)) (m ((c : Thread nD τ).loc main_arg1)) (m ((c : Thread nD τ).loc main_arg2))

/-- The reference at a row and a column: attention over the 16400 tokens. -/
theorem reference_entry (Q : FVec Ideal S16512x512 .bf16) (K U : FVec Ideal S16512x256 .bf16) (z : S16512x512.Idx)
    (hz : (z 0).val < 16512) (hz1 : (z 1).val < 512) :
    Cert.AttnPRefIdeal.Read.val_main_v22 (F := Ideal) Q K U z
    = attend
      (fun j : Fin 16400 => ∑ e : Fin 128,
          K (ix2 ⟨48 + j.val, by omega⟩ ⟨(z 1).val / 256 * 128 + e.val, by omega⟩)
            * Q (ix2 (z 0) ⟨(z 1).val / 256 * 256 + (z 1).val / 128 % 2 * 128 + e.val, by omega⟩))
      (fun j => U (ix2 ⟨48 + j.val, by omega⟩ ⟨(z 1).val / 256 * 128 + (z 1).val % 128, by omega⟩)) := by
  unfold attend
  open Cert.AttnPRefIdeal.Read in
  pointwise [val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0]
  have e : ∀ h, (⟨(z 0).val / 16512 * 16512 + (z 0).val % 16512, h⟩ : Fin 16512) = z 0 := fun h =>
    Fin.ext (Nat.div_add_mod' _ _)
  simp only [e, minus_infinity, fold_max]

end Cert.AttnPIdeal.Tile

end
-- ==== Proof.AttnP.lean ====
module

public import proofs.«01_k».proof.Proof.Gen.AttnPIdeal.Value
public import proofs.«01_k».proof.Proof.Gen.AttnPRefIdeal.Read

public import proofs.«01_k».proof.Proof.AttnPRun
public import proofs.«01_k».proof.Proof.AttnPEntries
public import proofs.«01_k».proof.Proof.AttnPReference
public import Idealize.ShloMosaic.Lib.StableHlo.ReadAt
public import Idealize.ShloMosaic.Lib.Pipeline.ValueKit

@[expose] public section

set_option maxRecDepth 16384

noncomputable section

namespace Cert.AttnPIdeal.Tile

open Cert.AttnPIdeal Cert.AttnPIdeal.Gen Idealize.ShloMosaic Idealize.ShloMosaic.TcCoe Idealize.SL.Sem
open Idealize.ShloMosaic.Pipeline (Dat)

variable (m : (ℓ : Loc nD τ sig) → Buf (Elt Ideal) ℓ)

open Cert.Softmax

/-- The even head's queries, as the tile reads them from its window. -/
theorem left_load (c : Dev nD) (t : Fin cfg0.N) (r : Fin 384) (e : Fin 128) (R : Fin 16512) (C : Fin 512)
    (hR : R.val = t.val % 43 * 384 + r.val) (hC : C.val = t.val / 43 * 256 + e.val) :
    left (iblk m c 0 t) (ix2 r e) = m ((c : Thread nD τ).loc main_arg0) (ix2 R C) := by
  exact q_entry m c t ((Rect.unit (s := S384x256) ![0, 0] S384x128.size inb_S384x256_S384x128_0_0).idx (ix2 r e)) R C
    (hR.trans (congrArg _ (show r.val = 0 + 1 * r.val by omega))) (hC.trans (show _ = _ + (0 + 1 * e.val) by omega))

/-- The odd head's queries, as the tile reads them from its window. -/
theorem right_load (c : Dev nD) (t : Fin cfg0.N) (r : Fin 384) (e : Fin 128) (R : Fin 16512) (C : Fin 512)
    (hR : R.val = t.val % 43 * 384 + r.val) (hC : C.val = t.val / 43 * 256 + 128 + e.val) :
    right (iblk m c 0 t) (ix2 r e) = m ((c : Thread nD τ).loc main_arg0) (ix2 R C) := by
  exact q_entry m c t ((Rect.unit (s := S384x256) ![0, 128] S384x128.size inb_S384x256_S384x128_0_128).idx (ix2 r e)) R C
    (hR.trans (congrArg _ (show r.val = 0 + 1 * r.val by omega))) (hC.trans (show _ = _ + (128 + 1 * e.val) by omega))

/-- A key of the tile's window is that row of the keys, at the head of the tile. -/
theorem key_at (c : Dev nD) (t : Fin cfg0.N) (j : ℕ) (hj : j < 16512) (e : Fin 128) (C : Fin 256) (hC : C.val = t.val / 43 * 128 + e.val) :
    keys (iblk m c 1 t) (j / 384) (ix2 ⟨j % 384, Nat.mod_lt _ (by decide)⟩ e) = m ((c : Thread nD τ).loc main_arg1) (ix2 ⟨j, hj⟩ C) := by
  unfold keys
  exact k_entry m c t _ ⟨j, hj⟩ C (show j = (j / 384 * 384 + j % 384) % 16512 by omega) hC

/-- A value of the tile's window is that row of the values, at the head of the tile. -/
theorem value_at (c : Dev nD) (t : Fin cfg0.N) (j : ℕ) (hj : j < 16512) (e : Fin 128) (C : Fin 256) (hC : C.val = t.val / 43 * 128 + e.val) :
    values (iblk m c 2 t) e j = m ((c : Thread nD τ).loc main_arg2) (ix2 ⟨j, hj⟩ C) := by
  unfold values keys
  exact v_entry m c t _ ⟨j, hj⟩ C (show j = (j / 384 * 384 + j % 384) % 16512 by omega) hC

/-- A mark of the tile's window is the host's mark of that token. -/
theorem mark_at (c : Dev nD) (t : Fin cfg0.N) (j : ℕ) (hj : j < 16512) :
    marks (iblk m c 3 t) (j / 384) (ix2 0 ⟨j % 384, Nat.mod_lt _ (by decide)⟩) = if 48 ≤ j ∧ j < 16448 then (0 : EReal) else 1 := by
  unfold marks
  refine (b_entry m c t _).trans ((bias_entry m c _).trans ?_)
  show (if 48 ≤ j / 384 % 43 * 384 + j % 384 ∧ j / 384 % 43 * 384 + j % 384 < 16448 then (0 : EReal) else 1) = _
  rw [show j / 384 % 43 * 384 + j % 384 = j by omega]

/-- A stored entry is the reference's value at the array's row and column. -/
theorem core (c : Dev nD) (t : Fin cfg0.N) (y : S384x256.Idx) (i : S768x128.Idx) (z : S16512x512.Idx)
    (hi0 : (i 0).val = (y 1).val / 128 * 384 + (y 0).val) (hi1 : (i 1).val = (y 1).val % 128)
    (hz0 : (z 0).val = t.val % 43 * 384 + (y 0).val) (hz1 : (z 1).val = t.val / 43 * 256 + (y 1).val) :
    Ideal.div (mass (row (iblk m c 0 t) (iblk m c 1 t) (iblk m c 3 t) (i 0)) (values (iblk m c 2 t) (i 1)) 16512)
      (mass (row (iblk m c 0 t) (iblk m c 1 t) (iblk m c 3 t) (i 0)) (fun _ => 1) 16512) = expected m c z := by
  have hy0 : (y 0).val < 384 := (y 0).isLt
  have hy1 : (y 1).val < 256 := (y 1).isLt
  have ht : t.val < 86 := t.isLt
  have hs : ∀ j (hj : j < 16512), row (iblk m c 0 t) (iblk m c 1 t) (iblk m c 3 t) (i 0) j
      = if 48 ≤ j ∧ j < 16448 then ∑ e : Fin 128,
          (show FVec Ideal S16512x256 .bf16 from m ((c : Thread nD τ).loc main_arg1)) (ix2 ⟨j, hj⟩ ⟨(z 1).val / 256 * 128 + e.val, by omega⟩)
            * (show FVec Ideal S16512x512 .bf16 from m ((c : Thread nD τ).loc main_arg0)) (ix2 (z 0) ⟨(z 1).val / 256 * 256 + (z 1).val / 128 % 2 * 128 + e.val, by omega⟩)
        else ⊥ := by
    intro j hj
    unfold row scores
    rw [mark_at m c t j hj, masked_score]
    refine if_congr Iff.rfl (Finset.sum_congr rfl fun e _ => ?_) rfl
    rw [mul_comm]
    refine congrArg₂ (fun a b : EReal => a * b) (key_at m c t j hj _ _ (by simp only; omega)) ?_
    split
    · exact left_load m c t _ _ _ _ (by simp only; omega) (by simp only; omega)
    · exact right_load m c t _ _ _ _ (by simp only; omega) (by simp only; omega)
  refine (attend_masked _ _ 48 16400 64 ?_ ?_).trans ?_
  · intro j hj; rw [hs j (by omega), if_neg (by omega)]
  · intro j hj; rw [hs _ (by omega), if_neg (by omega)]
  · refine Eq.trans ?_ (reference_entry _ _ _ z (by omega) (by omega)).symm
    refine congrArg₂ attend (funext fun j => ?_) (funext fun j => ?_)
    · rw [hs _ (by omega), if_pos (by omega)]
    · exact value_at m c t _ (by omega) _ _ (by simp only; omega)

/-- A tile's entry is the reference's value at the array's row and column. -/
theorem point (c : Dev nD) (t : Fin cfg0.N) (y : S384x256.Idx) :
    outsAt0 m c t y = expected m c (((cfg0.win 4).blk t).view.emb y) := by
  have ht : t.val < 86 := t.isLt
  obtain_idx i : S768x128 := [(y 1 : ℕ) / 128 * 384 + (y 0 : ℕ), (y 1 : ℕ) % 128] with hi
  unfold outsAt0
  refine (out_mass c (grid0.coords t) (ms0_0 t) (hs0_0 t) (ms0_1 t) (hs0_1 t) (ms0_2 t) (hs0_2 t) (ms0_3 t) (hs0_3 t) (ms0_4 t)
    (hs0_4 t) (iblk m c 0 t) (iblk m c 1 t) (iblk m c 2 t) (iblk m c 3 t) y i hi0 hi1).trans (core m c t y i _ hi0 hi1 ?_ ?_)
  all_goals (blk_simp [tile_at t] <;> try omega)

/-- What the attention call leaves is the reference's array. -/
theorem final (c : Dev nD) : (dats m 0 c).arrAt 4 cfg0.N = expected m c := by
  refine (dats m 0 c).arrAt_eq_of_covers 4 _ (by decide +kernel) fun t _ y => ?_
  blk_simp
  rw [after0_4]
  exact point m c t y

end Cert.AttnPIdeal.Tile

end
-- ==== Proof.AttnSEntries.lean ====
module

public import proofs.«01_k».proof.Proof.Gen.AttnSIdeal.Value
public import proofs.«01_k».proof.Proof.Gen.AttnSRefIdeal.Read

public import proofs.«01_k».proof.Proof.Softmax
public import Idealize.ShloMosaic.Lib.StableHlo.ReadAt
public import Idealize.ShloMosaic.Lib.Pipeline.ValueKit

@[expose] public section

set_option maxRecDepth 16384

noncomputable section

namespace Cert.AttnSIdeal.Tile

open Cert.AttnSIdeal Cert.AttnSIdeal.Gen Idealize.ShloMosaic Idealize.ShloMosaic.TcCoe Idealize.SL.Sem
open Idealize.ShloMosaic.Pipeline (Dat)

variable (m : (ℓ : Loc nD τ sig) → Buf (Elt Ideal) ℓ)

open Cert.Softmax

/-- The host's padding indicator: 0 at the positions of the meta tokens and the tokens, 1 at the padding. -/
theorem bias_entry (c : Dev nD) (y : S1x2176.Idx) :
    V m c main_v50 y = if 48 ≤ (y 1).val ∧ (y 1).val < 2112 then (0 : EReal) else 1 := by
  unfold V
  after_reads_at
  pointwise [id]
  have h : (y 1).val < 2176 := (y 1).isLt
  exact indicator_at _ 48 2112 (by omega) (by decide) (by decide)

/-- Where each tile's windows lie in the arrays: all the tiles one after another, by evaluation. -/
theorem tile_at : ∀ t : Fin cfg0.N,
    win0_0.index t = ![t.val / 34 * 17 + t.val % 17, t.val / 17 % 2] ∧ win0_1.index t = ![t.val / 34, t.val / 17 % 2]
      ∧ win0_2.index t = ![t.val / 34, t.val / 17 % 2] ∧ win0_3.index t = ![0, 0]
      ∧ win0_4.index t = ![t.val / 34 * 17 + t.val % 17, t.val / 17 % 2] :=
  (by decide +kernel : ∀ t : Fin grid0.N, _)

/-- An entry of the query window is the entry of the queries at the tile's row and head. -/
theorem q_entry (c : Dev nD) (t : Fin cfg0.N) (y : S128x256.Idx) (R : Fin 17408) (C : Fin 512)
    (hR : R.val = (t.val / 34 * 17 + t.val % 17) * 128 + (y 0).val) (hC : C.val = t.val / 17 % 2 * 256 + (y 1).val) :
    iblk m c 0 t y = m ((c : Thread nD τ).loc main_arg0) (ix2 R C) := by
  blk_point [iblk, V, tile_at t]

/-- An entry of the key window is the entry of the keys at the tile's sequence and head. -/
theorem k_entry (c : Dev nD) (t : Fin cfg0.N) (y : S2176x128.Idx) (R : Fin 17408) (C : Fin 256)
    (hR : R.val = t.val / 34 * 2176 + (y 0).val) (hC : C.val = t.val / 17 % 2 * 128 + (y 1).val) :
    iblk m c 1 t y = m ((c : Thread nD τ).loc main_arg1) (ix2 R C) := by
  blk_point [iblk, V, tile_at t]

/-- An entry of the value window is the entry of the values at the tile's sequence and head. -/
theorem v_entry (c : Dev nD) (t : Fin cfg0.N) (y : S2176x128.Idx) (R : Fin 17408) (C : Fin 256)
    (hR : R.val = t.val / 34 * 2176 + (y 0).val) (hC : C.val = t.val / 17 % 2 * 128 + (y 1).val) :
    iblk m c 2 t y = m ((c : Thread nD τ).loc main_arg2) (ix2 R C) := by
  blk_point [iblk, V, tile_at t]

/-- The window of the marks is all of them. -/
theorem b_entry (c : Dev nD) (t : Fin cfg0.N) (y : S1x2176.Idx) : iblk m c 3 t y = V m c main_v50 y := by
  blk_point [iblk, tile_at t]

/-- What the reference computes, over the kernel's argument arrays. -/
abbrev expected (c : Dev nD) := Cert.AttnSRefIdeal.Read.val_main_v22 (F := Ideal) (m ((c : Thread nD τ).loc main_arg0)) (m ((c : Thread nD τ).loc main_arg1)) (m ((c : Thread nD τ).loc main_arg2))

/-- The reference at a row and a column: attention over the 2064 tokens of the row's sample. -/
theorem reference_entry (Q : FVec Ideal S17408x512 .bf16) (K U : FVec Ideal S17408x256 .bf16) (z : S17408x512.Idx)
    (hz : (z 0).val < 17408) (hz1 : (z 1).val < 512) :
    Cert.AttnSRefIdeal.Read.val_main_v22 (F := Ideal) Q K U z
    = attend
      (fun j : Fin 2064 => ∑ e : Fin 128,
          K (ix2 ⟨(z 0).val / 2176 * 2176 + (48 + j.val), by omega⟩ ⟨(z 1).val / 256 * 128 + e.val, by omega⟩)
            * Q (ix2 (z 0) ⟨(z 1).val / 256 * 256 + (z 1).val / 128 % 2 * 128 + e.val, by omega⟩))
      (fun j => U (ix2 ⟨(z 0).val / 2176 * 2176 + (48 + j.val), by omega⟩ ⟨(z 1).val / 256 * 128 + (z 1).val % 128, by omega⟩)) := by
  unfold attend
  open Cert.AttnSRefIdeal.Read in
  pointwise [val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0]
  have e : ∀ h, (⟨(z 0).val / 2176 * 2176 + (z 0).val % 2176, h⟩ : Fin 17408) = z 0 := fun h =>
    Fin.ext (Nat.div_add_mod' _ _)
  simp only [e, minus_infinity, fold_max]

/-- The scores of row `r` of the two stacked query tiles against the chunk's keys, masked keys at `⊥`. -/
def scores (q₀ q₁ : Vec Ideal S128x128 .bf16) (k : Vec Ideal S2176x128 .bf16) (b : Vec Ideal S1x2176 .f32) (r : Fin 256)
    (j : Fin 2176) : EReal :=
  (∑ e : Fin 128, (if h : r.val < 128 then (q₀ (ix2 ⟨r.val, h⟩ e) : EReal) else q₁ (ix2 ⟨r.val - 128, by omega⟩ e)) * (k (ix2 j e) : EReal))
    + (b (ix2 0 j) : EReal) * ⊥

/-- What the body computes from its blocks at a row and a column. -/
theorem quotient (q₀ q₁ : Vec Ideal S128x128 .bf16) (k v : Vec Ideal S2176x128 .bf16) (b : Vec Ideal S1x2176 .f32)
    (y : S256x128.Idx) :
    k0_pay2 (F := Ideal) q₀ q₁ k v b y
      = Ideal.div (mass (beyond (scores q₀ q₁ k b (y 0))) (beyond fun j => v (ix2 j (y 1))) 2176)
          (mass (beyond (scores q₀ q₁ k b (y 0))) (fun _ => 1) 2176) := by
  rw [← one_chunk]
  pointwise [k0_pay2]
  rw [minus_infinity, IdealRules.named_const.ideal_named_scalar Cert.AttnSIdeal.κ "mask" _ ⊥ rfl]
  rfl

end Cert.AttnSIdeal.Tile

end
-- ==== Proof.AttnS.lean ====
module

public import proofs.«01_k».proof.Proof.Gen.AttnSIdeal.Value
public import proofs.«01_k».proof.Proof.Gen.AttnSRefIdeal.Read
public import proofs.«01_k».proof.Proof.AttnSEntries
public import Idealize.ShloMosaic.Lib.StableHlo.ReadAt
public import Idealize.ShloMosaic.Lib.Pipeline.ValueKit

@[expose] public section

set_option maxRecDepth 16384

noncomputable section

namespace Cert.AttnSIdeal.Tile

open Cert.AttnSIdeal Cert.AttnSIdeal.Gen Idealize.ShloMosaic Idealize.ShloMosaic.TcCoe Idealize.SL.Sem
open Idealize.ShloMosaic.Pipeline (Dat)

variable (m : (ℓ : Loc nD τ sig) → Buf (Elt Ideal) ℓ)

open Cert.Softmax

/-- The even head's queries, as the tile reads them from its window. -/
theorem q0_load (c : Dev nD) (t : Fin cfg0.N) (r e : Fin 128) (R : Fin 17408) (C : Fin 512)
    (hR : R.val = (t.val / 34 * 17 + t.val % 17) * 128 + r.val) (hC : C.val = t.val / 17 % 2 * 256 + e.val) :
    View.ld (iblk m c 0 t) r0_0 (ix2 r e) = m ((c : Thread nD τ).loc main_arg0) (ix2 R C) := by
  exact q_entry m c t (r0_0.idx (ix2 r e)) R C
    (hR.trans (congrArg _ (show r.val = 0 + 1 * r.val by omega))) (hC.trans (show _ = _ + (0 + 1 * e.val) by omega))

/-- The odd head's queries, as the tile reads them from its window. -/
theorem q1_load (c : Dev nD) (t : Fin cfg0.N) (r e : Fin 128) (R : Fin 17408) (C : Fin 512)
    (hR : R.val = (t.val / 34 * 17 + t.val % 17) * 128 + r.val) (hC : C.val = t.val / 17 % 2 * 256 + 128 + e.val) :
    View.ld (iblk m c 0 t) r0_1 (ix2 r e) = m ((c : Thread nD τ).loc main_arg0) (ix2 R C) := by
  exact q_entry m c t (r0_1.idx (ix2 r e)) R C
    (hR.trans (congrArg _ (show r.val = 0 + 1 * r.val by omega))) (hC.trans (show _ = _ + (128 + 1 * e.val) by omega))

/-- A key of the tile's window is that row of the keys, at the tile's sequence and head. -/
theorem k_load (c : Dev nD) (t : Fin cfg0.N) (r : Fin 2176) (e : Fin 128) (R : Fin 17408) (C : Fin 256)
    (hR : R.val = t.val / 34 * 2176 + r.val) (hC : C.val = t.val / 17 % 2 * 128 + e.val) :
    View.ld (iblk m c 1 t) r0_2 (ix2 r e) = m ((c : Thread nD τ).loc main_arg1) (ix2 R C) := by
  exact k_entry m c t (r0_2.idx (ix2 r e)) R C
    (hR.trans (congrArg _ (show r.val = 0 + 1 * r.val by omega))) (hC.trans (show _ = _ + (0 + 1 * e.val) by omega))

/-- A value of the tile's window is that row of the values, at the tile's sequence and head. -/
theorem v_load (c : Dev nD) (t : Fin cfg0.N) (r : Fin 2176) (e : Fin 128) (R : Fin 17408) (C : Fin 256)
    (hR : R.val = t.val / 34 * 2176 + r.val) (hC : C.val = t.val / 17 % 2 * 128 + e.val) :
    View.ld (iblk m c 2 t) r0_2 (ix2 r e) = m ((c : Thread nD τ).loc main_arg2) (ix2 R C) := by
  exact v_entry m c t (r0_2.idx (ix2 r e)) R C
    (hR.trans (congrArg _ (show r.val = 0 + 1 * r.val by omega))) (hC.trans (show _ = _ + (0 + 1 * e.val) by omega))

/-- A mark of the tile's window is the host's mark of that token. -/
theorem b_load (c : Dev nD) (t : Fin cfg0.N) (j : Fin 2176) :
    View.ld (iblk m c 3 t) r0_3 (ix2 0 j) = if 48 ≤ j.val ∧ j.val < 2112 then (0 : EReal) else 1 := by
  refine (b_entry m c t (r0_3.idx (ix2 0 j))).trans ((bias_entry m c (r0_3.idx (ix2 0 j))).trans ?_)
  have h : (r0_3.idx (ix2 0 j) 1).val = j.val := (show 0 + 1 * j.val = j.val by omega)
  rw [h]

/-- A tile's row `i` and column `i`'s quotient is the reference's value at the array's row and column. -/
theorem core (c : Dev nD) (t : Fin cfg0.N) (y : S128x256.Idx) (i : S256x128.Idx) (z : S17408x512.Idx)
    (hi0 : (i 0).val = (y 1).val / 128 * 128 + (y 0).val) (hi1 : (i 1).val = (y 1).val % 128)
    (hz0 : (z 0).val = (t.val / 34 * 17 + t.val % 17) * 128 + (y 0).val) (hz1 : (z 1).val = t.val / 17 % 2 * 256 + (y 1).val) :
    k0_pay2 (F := Ideal) (View.ld (iblk m c 0 t) r0_0) (View.ld (iblk m c 0 t) r0_1) (View.ld (iblk m c 1 t) r0_2)
      (View.ld (iblk m c 2 t) r0_2) (View.ld (iblk m c 3 t) r0_3) i = expected m c z := by
  have hy0 : (y 0).val < 128 := (y 0).isLt
  have hy1 : (y 1).val < 256 := (y 1).isLt
  have ht : t.val < 272 := t.isLt
  have hs : ∀ j (hj : j < 2176), beyond (scores (View.ld (iblk m c 0 t) r0_0) (View.ld (iblk m c 0 t) r0_1)
      (View.ld (iblk m c 1 t) r0_2) (View.ld (iblk m c 3 t) r0_3) (i 0)) j
      = if 48 ≤ j ∧ j < 2112 then ∑ e : Fin 128,
          (show FVec Ideal S17408x256 .bf16 from m ((c : Thread nD τ).loc main_arg1)) (ix2 ⟨(z 0).val / 2176 * 2176 + j, by omega⟩ ⟨(z 1).val / 256 * 128 + e.val, by omega⟩)
            * (show FVec Ideal S17408x512 .bf16 from m ((c : Thread nD τ).loc main_arg0)) (ix2 (z 0) ⟨(z 1).val / 256 * 256 + (z 1).val / 128 % 2 * 128 + e.val, by omega⟩)
        else ⊥ := by
    intro j hj
    rw [beyond_of_lt _ hj]
    unfold scores
    rw [b_load m c t ⟨j, hj⟩, masked_score]
    refine if_congr Iff.rfl (Finset.sum_congr rfl fun e _ => ?_) rfl
    rw [mul_comm]
    refine congrArg₂ (fun a b : EReal => a * b) (k_load m c t _ _ _ _ (by simp only; omega) (by simp only; omega)) ?_
    split
    · exact q0_load m c t _ _ _ _ (by simp only; omega) (by simp only; omega)
    · exact q1_load m c t _ _ _ _ (by simp only; omega) (by simp only; omega)
  rw [quotient]
  refine (attend_masked _ _ 48 2064 64 ?_ ?_).trans ?_
  · intro j hj; rw [hs j (by omega), if_neg (by omega)]
  · intro j hj; rw [hs _ (by omega), if_neg (by omega)]
  · refine Eq.trans ?_ (reference_entry _ _ _ z (by omega) (by omega)).symm
    refine congrArg₂ attend (funext fun j => ?_) (funext fun j => ?_)
    · rw [hs _ (by omega), if_pos (by omega)]
    · rw [beyond_of_lt _ (by omega)]
      exact v_load m c t _ _ _ _ (by simp only; omega) (by simp only; omega)

/-- The second stored half: the rows from 128. -/
theorem upper_half (v : FVec Ideal S256x128 .f32) (x : S128x128.Idx) (i : S256x128.Idx) (h0 : (i 0).val = 128 + (x 0).val)
    (h1 : (i 1).val = (x 1).val) : k0_pay1 (F := Ideal) v x = v i := by
  pointwise [k0_pay1]
  blk_ext

/-- The first stored half: the rows before 128. -/
theorem lower_half (v : FVec Ideal S256x128 .f32) (x : S128x128.Idx) (i : S256x128.Idx) (h0 : (i 0).val = (x 0).val)
    (h1 : (i 1).val = (x 1).val) :
    (truncf .bf16 (extractStridedSlice S128x128 ![0, 0] v slices_S256x128_o0_0_S128x128) bitsLt_bf16_f32 : FVec Ideal S128x128 .bf16) x = v i := by
  pointwise
  blk_ext

/-- A tile's entry is the reference's value at the array's row and column. -/
theorem point (c : Dev nD) (t : Fin cfg0.N) (y : S128x256.Idx) :
    out0_4 (F := Ideal) (iblk m c 0 t) (iblk m c 1 t) (iblk m c 2 t) (iblk m c 3 t) y = expected m c (((cfg0.win 4).blk t).view.emb y) := by
  have ht : t.val < 272 := t.isLt
  obtain_idx i : S256x128 := [(y 1 : ℕ) / 128 * 128 + (y 0 : ℕ), (y 1 : ℕ) % 128] with hi
  refine Eq.trans (b := k0_pay2 (F := Ideal) (View.ld (iblk m c 0 t) r0_0) (View.ld (iblk m c 0 t) r0_1) (View.ld (iblk m c 1 t) r0_2)
      (View.ld (iblk m c 2 t) r0_2) (View.ld (iblk m c 3 t) r0_3) i) ?_ (core m c t y i _ hi0 hi1 ?_ ?_)
  · unfold out0_4
    canon_tiles x h
    · exact upper_half _ x i (by omega) (by omega)
    · exact lower_half _ x i (by omega) (by omega)
  all_goals (blk_simp [tile_at t] <;> try omega)

/-- What the attention call leaves is the reference's array. -/
theorem final (c : Dev nD) : (dats m 0 c).arrAt 4 cfg0.N = expected m c := by
  refine (dats m 0 c).arrAt_eq_of_covers 4 _ (by decide +kernel) fun t _ y => ?_
  blk_simp
  rw [after0_4]
  exact point m c t y

end Cert.AttnSIdeal.Tile

end
-- ==== Proof.GateUp.lean ====
module

public import proofs.«01_k».proof.Proof.Gen.GateUpIdeal.Value
public import proofs.«01_k».proof.Proof.Gen.GateUpRefIdeal.Read
public import Idealize.ShloMosaic.Lib.Pipeline.ValueKit

@[expose] public section

set_option maxRecDepth 16384

noncomputable section

namespace Cert.GateUpIdeal.Tile

open Cert.GateUpIdeal Cert.GateUpIdeal.Gen Idealize.ShloMosaic Idealize.ShloMosaic.TcCoe Idealize.SL.Sem
open Idealize.ShloMosaic.Pipeline (Dat)

variable (m : (ℓ : Loc nD τ sig) → Buf (Elt Ideal) ℓ)

/-- Where each window stands at grid point `t`: the column tile is `t / 53`, the row tile is `t % 53`. -/
theorem tile_at : ∀ t : Fin cfg0.N,
    win0_0.index t = ![t.val % 53, 0] ∧ win0_1.index t = ![0, 0, t.val / 53]
      ∧ win0_2.index t = ![0, 0, t.val / 53] ∧ win0_3.index t = ![t.val % 53, t.val / 53] :=
  (by decide +kernel : ∀ t : Fin grid0.N, _)

/-- What the reference computes, over the kernel's argument arrays. -/
abbrev expected (c : Dev nD) := Cert.GateUpRefIdeal.Read.val_main_v9 (F := Ideal) (m ((c : Thread nD τ).loc main_arg0)) (m ((c : Thread nD τ).loc main_arg1)) (m ((c : Thread nD τ).loc main_arg2))

/-- What the body stores at an index of its block is the reference's value at the array index it stands for. -/
theorem block_value (c : Dev nD) (t : Fin cfg0.N) (y : S640x512.Idx) :
    k0_pay1 (F := Ideal) (iblk m c 0 t) (iblk m c 1 t) (iblk m c 2 t) y = expected m c (((cfg0.win 3).blk t).view.emb y) := by
  pointwise [k0_pay1, expected,
    Cert.GateUpRefIdeal.Read.val_main_v9,
    Cert.GateUpRefIdeal.Read.val_main_v8,
    Cert.GateUpRefIdeal.Read.val_main_v7,
    Cert.GateUpRefIdeal.Read.val_main_v6,
    Cert.GateUpRefIdeal.Read.val_main_v5,
    Cert.GateUpRefIdeal.Read.val_main_v4,
    Cert.GateUpRefIdeal.Read.val_main_call0_v5,
    Cert.GateUpRefIdeal.Read.val_main_call0_v4,
    Cert.GateUpRefIdeal.Read.val_main_call0_cst_0,
    Cert.GateUpRefIdeal.Read.val_main_call0_v3,
    Cert.GateUpRefIdeal.Read.val_main_call0_v2,
    Cert.GateUpRefIdeal.Read.val_main_call0_cst,
    Cert.GateUpRefIdeal.Read.val_main_call0_v1,
    Cert.GateUpRefIdeal.Read.val_main_call0_v0,
    Cert.GateUpRefIdeal.Read.val_main_v3,
    Cert.GateUpRefIdeal.Read.val_main_v2,
    Cert.GateUpRefIdeal.Read.val_main_v1,
    Cert.GateUpRefIdeal.Read.val_main_v0]
  unfold Ideal.logistic
  blk_point [iblk, V, tile_at t]

/-- The gated hidden layer, as the kernel leaves it, is the reference's. -/
theorem final (c : Dev nD) : (dats m 0 c).arrAt 3 cfg0.N = expected m c := by
  refine (dats m 0 c).arrAt_eq_of_covers 3 _ (by decide +kernel) fun t _ y => ?_
  blk_simp
  rw [after0_3]; frame_out
  exact block_value m c t y

end Cert.GateUpIdeal.Tile

end
-- ==== Proof.Down.lean ====
module

public import proofs.«01_k».proof.Proof.Gen.DownIdeal.Value
public import proofs.«01_k».proof.Proof.Gen.DownRefIdeal.Read
public import Idealize.ShloMosaic.Lib.Pipeline.ValueKit

@[expose] public section

set_option maxRecDepth 16384

noncomputable section

namespace Cert.DownIdeal.Tile

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- Where each window stands at grid point `t`: the column tile is `t / 53`, the row tile is `t % 53`. -/
theorem tile_at : ∀ t : Fin cfg0.N,
    win0_0.index t = ![t.val % 53, t.val / 53] ∧ win0_1.index t = ![t.val % 53, 0]
      ∧ win0_2.index t = ![0, 0, t.val / 53] ∧ win0_3.index t = ![t.val % 53, t.val / 53] :=
  (by decide +kernel : ∀ t : Fin grid0.N, _)

/-- What the reference computes, over the kernel's argument arrays. -/
abbrev expected (c : Dev nD) := Cert.DownRefIdeal.Read.val_main_v6 (F := Ideal) (m ((c : Thread nD τ).loc main_arg0)) (m ((c : Thread nD τ).loc main_arg1)) (m ((c : Thread nD τ).loc main_arg2))

/-- What the body stores at an index of its block is the reference's value at the array index it stands for. -/
theorem block_value (c : Dev nD) (t : Fin cfg0.N) (y : S640x1024.Idx) :
    k0_pay1 (F := Ideal) (iblk m c 0 t) (iblk m c 1 t) (iblk m c 2 t) y = expected m c (((cfg0.win 3).blk t).view.emb y) := by
  pointwise [k0_pay1, expected,
    Cert.DownRefIdeal.Read.val_main_v6,
    Cert.DownRefIdeal.Read.val_main_v5,
    Cert.DownRefIdeal.Read.val_main_v4,
    Cert.DownRefIdeal.Read.val_main_cst,
    Cert.DownRefIdeal.Read.val_main_v3,
    Cert.DownRefIdeal.Read.val_main_v2,
    Cert.DownRefIdeal.Read.val_main_v1,
    Cert.DownRefIdeal.Read.val_main_v0]
  blk_point [iblk, V, tile_at t]

/-- The residual stream after the down projection, as the kernel leaves it, is the reference's. -/
theorem final (c : Dev nD) : (dats m 0 c).arrAt 3 cfg0.N = expected m c := by
  refine (dats m 0 c).arrAt_eq_of_covers 3 _ (by decide +kernel) fun t _ y => ?_
  blk_simp
  rw [after0_3]; frame_out
  exact block_value m c t y

end Cert.DownIdeal.Tile

end
-- ==== Proof.InProj.lean ====
module

public import proofs.«01_k».proof.Proof.Gen.InProjIdeal.Value
public import proofs.«01_k».proof.Proof.Gen.InProjRefIdeal.Read
public import Idealize.ShloMosaic.Lib.Pipeline.ValueKit
public import Idealize.ShloMosaic.Lib.StableHlo.ReadAt

@[expose] public section

set_option maxRecDepth 16384

noncomputable section

namespace Cert.InProjIdeal.Tile

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The weight's column that stands at column `j` of the regrouped weight (of its 6688 columns that are not padding):
the streams of the third mixer come before the two narrow streams of the second. -/
def source (j : ℕ) : ℕ := if j < 5120 then j else if j < 6656 then j + 32 else if j < 6688 then j - 1536 else 0

/-- The column which the permutation takes is a column of the weights. -/
theorem source_lt (j : ℕ) : source j < 6688 := by unfold source; split_ifs <;> omega

/-- Stream `0` of the weight before the regrouping: 512 columns from column 0. -/
theorem stream0 (c : Dev nD) (a : Fin 4) (k : Fin 4096) (q : Fin 512) :
    (show FVec Ideal S4x4096x512 .f32 from StableHlo.upto hostOps0 (fun b => m (c, b)) 12 (Proc.tc.devRef main_v0)) (ix3 a k q)
      = m ((c : Thread nD τ).loc main_arg1) (ix3 a k ⟨0 + q.val, by omega⟩) := by
  after_reads_at

/-- Stream `1` of the weight before the regrouping: 256 columns from column 512. -/
theorem stream1 (c : Dev nD) (a : Fin 4) (k : Fin 4096) (q : Fin 256) :
    (show FVec Ideal S4x4096x256 .f32 from StableHlo.upto hostOps0 (fun b => m (c, b)) 12 (Proc.tc.devRef main_v1)) (ix3 a k q)
      = m ((c : Thread nD τ).loc main_arg1) (ix3 a k ⟨512 + q.val, by omega⟩) := by
  after_reads_at

/-- Stream `2` of the weight before the regrouping: 256 columns from column 768. -/
theorem stream2 (c : Dev nD) (a : Fin 4) (k : Fin 4096) (q : Fin 256) :
    (show FVec Ideal S4x4096x256 .f32 from StableHlo.upto hostOps0 (fun b => m (c, b)) 12 (Proc.tc.devRef main_v2)) (ix3 a k q)
      = m ((c : Thread nD τ).loc main_arg1) (ix3 a k ⟨768 + q.val, by omega⟩) := by
  after_reads_at

/-- Stream `3` of the weight before the regrouping: 3072 columns from column 1024. -/
theorem stream3 (c : Dev nD) (a : Fin 4) (k : Fin 4096) (q : Fin 3072) :
    (show FVec Ideal S4x4096x3072 .f32 from StableHlo.upto hostOps0 (fun b => m (c, b)) 12 (Proc.tc.devRef main_v3)) (ix3 a k q)
      = m ((c : Thread nD τ).loc main_arg1) (ix3 a k ⟨1024 + q.val, by omega⟩) := by
  after_reads_at

/-- Stream `4` of the weight before the regrouping: 1024 columns from column 4096. -/
theorem stream4 (c : Dev nD) (a : Fin 4) (k : Fin 4096) (q : Fin 1024) :
    (show FVec Ideal S4x4096x1024 .f32 from StableHlo.upto hostOps0 (fun b => m (c, b)) 12 (Proc.tc.devRef main_v4)) (ix3 a k q)
      = m ((c : Thread nD τ).loc main_arg1) (ix3 a k ⟨4096 + q.val, by omega⟩) := by
  after_reads_at

/-- Stream `5` of the weight before the regrouping: 16 columns from column 5120. -/
theorem stream5 (c : Dev nD) (a : Fin 4) (k : Fin 4096) (q : Fin 16) :
    (show FVec Ideal S4x4096x16 .f32 from StableHlo.upto hostOps0 (fun b => m (c, b)) 12 (Proc.tc.devRef main_v5)) (ix3 a k q)
      = m ((c : Thread nD τ).loc main_arg1) (ix3 a k ⟨5120 + q.val, by omega⟩) := by
  after_reads_at

/-- Stream `6` of the weight before the regrouping: 16 columns from column 5136. -/
theorem stream6 (c : Dev nD) (a : Fin 4) (k : Fin 4096) (q : Fin 16) :
    (show FVec Ideal S4x4096x16 .f32 from StableHlo.upto hostOps0 (fun b => m (c, b)) 12 (Proc.tc.devRef main_v6)) (ix3 a k q)
      = m ((c : Thread nD τ).loc main_arg1) (ix3 a k ⟨5136 + q.val, by omega⟩) := by
  after_reads_at

/-- Stream `7` of the weight before the regrouping: 512 columns from column 5152. -/
theorem stream7 (c : Dev nD) (a : Fin 4) (k : Fin 4096) (q : Fin 512) :
    (show FVec Ideal S4x4096x512 .f32 from StableHlo.upto hostOps0 (fun b => m (c, b)) 12 (Proc.tc.devRef main_v7)) (ix3 a k q)
      = m ((c : Thread nD τ).loc main_arg1) (ix3 a k ⟨5152 + q.val, by omega⟩) := by
  after_reads_at

/-- Stream `8` of the weight before the regrouping: 512 columns from column 5664. -/
theorem stream8 (c : Dev nD) (a : Fin 4) (k : Fin 4096) (q : Fin 512) :
    (show FVec Ideal S4x4096x512 .f32 from StableHlo.upto hostOps0 (fun b => m (c, b)) 12 (Proc.tc.devRef main_v8)) (ix3 a k q)
      = m ((c : Thread nD τ).loc main_arg1) (ix3 a k ⟨5664 + q.val, by omega⟩) := by
  after_reads_at

/-- Stream `9` of the weight before the regrouping: 512 columns from column 6176. -/
theorem stream9 (c : Dev nD) (a : Fin 4) (k : Fin 4096) (q : Fin 512) :
    (show FVec Ideal S4x4096x512 .f32 from StableHlo.upto hostOps0 (fun b => m (c, b)) 12 (Proc.tc.devRef main_v9)) (ix3 a k q)
      = m ((c : Thread nD τ).loc main_arg1) (ix3 a k ⟨6176 + q.val, by omega⟩) := by
  after_reads_at

/-- A conditional equals what both of its branches equal. -/
theorem dite_to {α : Type} {p : Prop} [Decidable p] {a : p → α} {b : ¬p → α} {r : α} (h₁ : ∀ h, a h = r) (h₂ : ∀ h, b h = r) :
    dite p a b = r := by
  by_cases h : p
  · rw [dif_pos h]; exact h₁ h
  · rw [dif_neg h]; exact h₂ h

/-- The columns of zeros. -/
theorem stream10 (c : Dev nD) (a : Fin 4) (k : Fin 4096) (q : Fin 224) :
    (show FVec Ideal S4x4096x224 .f32 from StableHlo.upto hostOps0 (fun b => m (c, b)) 12 (Proc.tc.devRef main_v10)) (ix3 a k q) = (0 : EReal) := by
  after_reads_at

/-- The weight as the kernel finds it: the argument's columns regrouped, then 224 columns of zeros. -/
theorem weight_entry (c : Dev nD) (a : Fin 4) (k : Fin 4096) (j : Fin 6912) :
    (show FVec Ideal S4x4096x6912 .bf16 from V m c main_v12) (ix3 a k j)
      = if j.val < 6688 then m ((c : Thread nD τ).loc main_arg1) (ix3 a k ⟨source j.val, source_lt _⟩) else (0 : EReal) := by
  unfold V
  after_reads_at
  refine dite_to (fun h => ?_) (fun h => ?_)
  · refine Eq.trans ?_ (if_pos (by omega)).symm
    exact (stream0 m c a k _).trans (congrArg (fun q => (m ((c : Thread nD τ).loc main_arg1)) (ix3 a k q))
      (Fin.ext (by simp only [source]; split_ifs <;> omega)))
  refine dite_to (fun h => ?_) (fun h => ?_)
  · refine Eq.trans ?_ (if_pos (by omega)).symm
    exact (stream1 m c a k _).trans (congrArg (fun q => (m ((c : Thread nD τ).loc main_arg1)) (ix3 a k q))
      (Fin.ext (by simp only [source]; split_ifs <;> omega)))
  refine dite_to (fun h => ?_) (fun h => ?_)
  · refine Eq.trans ?_ (if_pos (by omega)).symm
    exact (stream2 m c a k _).trans (congrArg (fun q => (m ((c : Thread nD τ).loc main_arg1)) (ix3 a k q))
      (Fin.ext (by simp only [source]; split_ifs <;> omega)))
  refine dite_to (fun h => ?_) (fun h => ?_)
  · refine Eq.trans ?_ (if_pos (by omega)).symm
    exact (stream3 m c a k _).trans (congrArg (fun q => (m ((c : Thread nD τ).loc main_arg1)) (ix3 a k q))
      (Fin.ext (by simp only [source]; split_ifs <;> omega)))
  refine dite_to (fun h => ?_) (fun h => ?_)
  · refine Eq.trans ?_ (if_pos (by omega)).symm
    exact (stream4 m c a k _).trans (congrArg (fun q => (m ((c : Thread nD τ).loc main_arg1)) (ix3 a k q))
      (Fin.ext (by simp only [source]; split_ifs <;> omega)))
  refine dite_to (fun h => ?_) (fun h => ?_)
  · refine Eq.trans ?_ (if_pos (by omega)).symm
    exact (stream7 m c a k _).trans (congrArg (fun q => (m ((c : Thread nD τ).loc main_arg1)) (ix3 a k q))
      (Fin.ext (by simp only [source]; split_ifs <;> omega)))
  refine dite_to (fun h => ?_) (fun h => ?_)
  · refine Eq.trans ?_ (if_pos (by omega)).symm
    exact (stream8 m c a k _).trans (congrArg (fun q => (m ((c : Thread nD τ).loc main_arg1)) (ix3 a k q))
      (Fin.ext (by simp only [source]; split_ifs <;> omega)))
  refine dite_to (fun h => ?_) (fun h => ?_)
  · refine Eq.trans ?_ (if_pos (by omega)).symm
    exact (stream9 m c a k _).trans (congrArg (fun q => (m ((c : Thread nD τ).loc main_arg1)) (ix3 a k q))
      (Fin.ext (by simp only [source]; split_ifs <;> omega)))
  refine dite_to (fun h => ?_) (fun h => ?_)
  · refine Eq.trans ?_ (if_pos (by omega)).symm
    exact (stream5 m c a k _).trans (congrArg (fun q => (m ((c : Thread nD τ).loc main_arg1)) (ix3 a k q))
      (Fin.ext (by simp only [source]; split_ifs <;> omega)))
  refine dite_to (fun h => ?_) (fun h => ?_)
  · refine Eq.trans ?_ (if_pos (by omega)).symm
    exact (stream6 m c a k _).trans (congrArg (fun q => (m ((c : Thread nD τ).loc main_arg1)) (ix3 a k q))
      (Fin.ext (by simp only [source]; split_ifs <;> omega)))
  refine Eq.trans ?_ (if_neg (by omega)).symm
  exact stream10 m c a k _

/-- The reference's columns: those of its product, regrouped the same way, then 224 columns of zeros. -/
theorem reference_entry (x : FVec Ideal Cert.InProjRefIdeal.S33920x4096 .bf16) (w : FVec Ideal Cert.InProjRefIdeal.S4x4096x6688 .f32)
    (r : Fin 33920) (j : Fin 6912) :
    Cert.InProjRefIdeal.Read.val_main_v15 (F := Ideal) x w (ix2 r j)
      = if j.val < 6688 then Cert.InProjRefIdeal.Read.val_main_v3 (F := Ideal) x w (ix2 r ⟨source j.val, source_lt _⟩) else (0 : EReal) := by
  unfold Cert.InProjRefIdeal.Read.val_main_v15 Cert.InProjRefIdeal.Read.val_main_v4 Cert.InProjRefIdeal.Read.val_main_v5 Cert.InProjRefIdeal.Read.val_main_v6 Cert.InProjRefIdeal.Read.val_main_v7 Cert.InProjRefIdeal.Read.val_main_v8 Cert.InProjRefIdeal.Read.val_main_v9 Cert.InProjRefIdeal.Read.val_main_v10 Cert.InProjRefIdeal.Read.val_main_v11 Cert.InProjRefIdeal.Read.val_main_v12 Cert.InProjRefIdeal.Read.val_main_v13 Cert.InProjRefIdeal.Read.val_main_v14 Cert.InProjRefIdeal.Read.val_main_cst
  generalize Cert.InProjRefIdeal.Read.val_main_v3 (F := Ideal) x w = p
  pointwise
  iterate 10
    refine dite_to (fun h => ?_) (fun h => ?_)
    · refine Eq.trans ?_ (if_pos (by omega)).symm
      exact congrArg (fun q => p (ix2 r q)) (Fin.ext (by simp only [source]; split_ifs <;> omega))
  exact (if_neg (by omega)).symm

/-- Where each window stands at grid point `t`: the column tile is `t / 53`, the row tile is `t % 53`. -/
theorem tile_at : ∀ t : Fin cfg0.N,
    win0_0.index t = ![t.val % 53, 0] ∧ win0_1.index t = ![0, 0, t.val / 53]
      ∧ win0_2.index t = ![t.val % 53, t.val / 53] :=
  (by decide +kernel : ∀ t : Fin grid0.N, _)

/-- What the reference computes, over the kernel's argument arrays. -/
abbrev expected (c : Dev nD) := Cert.InProjRefIdeal.Read.val_main_v15 (F := Ideal) (m ((c : Thread nD τ).loc main_arg0))
  (m ((c : Thread nD τ).loc main_arg1))

/-- The reference's element: a row of the input times the weight's column it stands for, or zero. -/
theorem expected_apply (c : Dev nD) (x : FVec Ideal S33920x4096 .bf16) (w : FVec Ideal S4x4096x6688 .f32) (r : Fin 33920) (j : Fin 6912) :
    Cert.InProjRefIdeal.Read.val_main_v15 (F := Ideal) x w (ix2 r j) = ∑ k : Fin 4096, x (ix2 r k)
      * (if j.val < 6688 then w (ix3 0 k ⟨source j.val, source_lt _⟩) else (0 : EReal)) := by
  refine (reference_entry _ _ r j).trans ?_
  split_ifs with h
  · pointwise [Cert.InProjRefIdeal.Read.val_main_v3, Cert.InProjRefIdeal.Read.val_main_v2,
      Cert.InProjRefIdeal.Read.val_main_v1, Cert.InProjRefIdeal.Read.val_main_v0]
  · simp

/-- What the body stores at an index of its block is the reference's value at the array index it stands for. -/
theorem block_value (c : Dev nD) (t : Fin cfg0.N) (y : S640x768.Idx) :
    k0_pay1 (F := Ideal) (iblk m c 0 t) (iblk m c 1 t) y = expected m c (((cfg0.win 2).blk t).view.emb y) := by
  refine Eq.trans ?_ (congrArg (expected m c) (?_ : ix2 (((cfg0.win 2).blk t).view.emb y 0) (((cfg0.win 2).blk t).view.emb y 1) = _))
  · refine Eq.trans ?_ (expected_apply c _ _ _ _).symm
    pointwise [k0_pay1]
    refine Finset.sum_congr rfl fun k _ => ?_
    refine congrArg₂ (fun u v : EReal => u * v) ?_ ?_
    · blk_ext [iblk, V, tile_at t]
    · refine Eq.trans ?_ (weight_entry m c 0 k _)
      blk_ext [iblk, tile_at t]
  · funext a; match a with
    | ⟨0, _⟩ => rfl
    | ⟨1, _⟩ => rfl

/-- The projected streams, as the kernel leaves them, are the reference's. -/
theorem final (c : Dev nD) : (dats m 0 c).arrAt 2 cfg0.N = expected m c := by
  refine (dats m 0 c).arrAt_eq_of_covers 2 _ (by decide +kernel) fun t _ y => ?_
  blk_simp
  rw [after0_2]; frame_out
  exact block_value m c t y

end Cert.InProjIdeal.Tile

end
-- ==== Proof.OutProj.lean ====
module

public import proofs.«01_k».proof.Proof.Gen.OutProjIdeal.Value
public import proofs.«01_k».proof.Proof.Gen.OutProjRefIdeal.Read
public import Idealize.ShloMosaic.Lib.Pipeline.ValueKit

@[expose] public section

set_option maxRecDepth 16384

noncomputable section

namespace Cert.OutProjIdeal.Tile

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- Where each window stands at grid point `t`: the column tile is `t / 53`, the row tile is `t % 53`. -/
theorem tile_at : ∀ t : Fin cfg0.N,
    win0_0.index t = ![t.val % 53, t.val / 53] ∧ win0_1.index t = ![t.val % 53, 0]
      ∧ win0_2.index t = ![0, 0, t.val / 53] ∧ win0_3.index t = ![t.val % 53, t.val / 53] :=
  (by decide +kernel : ∀ t : Fin grid0.N, _)

/-- What the reference computes, over the kernel's argument arrays. -/
abbrev expected (c : Dev nD) := Cert.OutProjRefIdeal.Read.val_main_v4 (F := Ideal) (m ((c : Thread nD τ).loc main_arg0)) (m ((c : Thread nD τ).loc main_arg1)) (m ((c : Thread nD τ).loc main_arg2))

/-- What the body stores at an index of its block is the reference's value at the array index it stands for. -/
theorem block_value (c : Dev nD) (t : Fin cfg0.N) (y : S640x1024.Idx) :
    k0_pay1 (F := Ideal) (iblk m c 0 t) (iblk m c 1 t) (iblk m c 2 t) y = expected m c (((cfg0.win 3).blk t).view.emb y) := by
  pointwise [k0_pay1, expected,
    Cert.OutProjRefIdeal.Read.val_main_v4,
    Cert.OutProjRefIdeal.Read.val_main_v3,
    Cert.OutProjRefIdeal.Read.val_main_v2,
    Cert.OutProjRefIdeal.Read.val_main_v1,
    Cert.OutProjRefIdeal.Read.val_main_v0]
  blk_point [iblk, V, tile_at t]

/-- The residual stream after the output projection, as the kernel leaves it, is the reference's. -/
theorem final (c : Dev nD) : (dats m 0 c).arrAt 3 cfg0.N = expected m c := by
  refine (dats m 0 c).arrAt_eq_of_covers 3 _ (by decide +kernel) fun t _ y => ?_
  blk_simp
  rw [after0_3]; frame_out
  exact block_value m c t y

end Cert.OutProjIdeal.Tile

end
-- ==== Proof.Norm.lean ====
module

public import proofs.«01_k».proof.Proof.Gen.NormIdeal.Value
public import proofs.«01_k».proof.Proof.Gen.NormRefIdeal.Read
public import Idealize.ShloMosaic.Lib.Pipeline.ValueKit

@[expose] public section

set_option maxRecDepth 16384

noncomputable section

namespace Cert.NormIdeal.Tile

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ)

/-- Where each window stands at grid point `t`: the row tile is `t`. -/
theorem tile_at : ∀ t : Fin cfg0.N,
    win0_0.index t = ![t.val, 0] ∧ win0_1.index t = ![0, 0] ∧ win0_2.index t = ![t.val, 0] :=
  (by decide +kernel : ∀ t : Fin grid0.N, _)

/-- What the reference computes, over the kernel's argument arrays. -/
abbrev expected (c : Dev nD) := Cert.NormRefIdeal.Read.val_main_v13 (F := Ideal) (m ((c : Thread nD τ).loc main_arg0)) (m ((c : Thread nD τ).loc main_arg1))

/-- What the body stores at an index of its block is the reference's value at the array index it stands for. -/
theorem block_value (c : Dev nD) (t : Fin cfg0.N) (y : S320x4096.Idx) :
    k0_pay1 (F := Ideal) (iblk m c 0 t) (iblk m c 1 t) y = expected m c (((cfg0.win 2).blk t).view.emb y) := by
  pointwise [k0_pay1, expected,
    Cert.NormRefIdeal.Read.val_main_v13,
    Cert.NormRefIdeal.Read.val_main_v12,
    Cert.NormRefIdeal.Read.val_main_v11,
    Cert.NormRefIdeal.Read.val_main_v10,
    Cert.NormRefIdeal.Read.val_main_v9,
    Cert.NormRefIdeal.Read.val_main_v8,
    Cert.NormRefIdeal.Read.val_main_v7,
    Cert.NormRefIdeal.Read.val_main_v6,
    Cert.NormRefIdeal.Read.val_main_v5,
    Cert.NormRefIdeal.Read.val_main_cst_1,
    Cert.NormRefIdeal.Read.val_main_v4,
    Cert.NormRefIdeal.Read.val_main_v3,
    Cert.NormRefIdeal.Read.val_main_cst_0,
    Cert.NormRefIdeal.Read.val_main_v2,
    Cert.NormRefIdeal.Read.val_main_v1,
    Cert.NormRefIdeal.Read.val_main_cst,
    Cert.NormRefIdeal.Read.val_main_v0]
  blk_point [iblk, V, tile_at t]

/-- The normalised rows, as the kernel leaves them, are the reference's. -/
theorem final (c : Dev nD) : (dats m 0 c).arrAt 2 cfg0.N = expected m c := by
  refine (dats m 0 c).arrAt_eq_of_covers 2 _ (by decide +kernel) fun t _ y => ?_
  blk_simp
  rw [after0_2]; frame_out
  exact block_value m c t y

end Cert.NormIdeal.Tile

end
-- ==== Proof.FinalP.lean ====
module

public import proofs.«01_k».proof.Proof.Gen.FinalPIdeal.Value
public import proofs.«01_k».proof.Proof.Gen.FinalPRefIdeal.Read
public import Idealize.ShloMosaic.Lib.Pipeline.ValueKit

@[expose] public section

set_option maxRecDepth 16384

noncomputable section

namespace Cert.FinalPIdeal.Tile

open Cert.FinalPIdeal Cert.FinalPIdeal.Gen Idealize.ShloMosaic Idealize.ShloMosaic.TcCoe Idealize.SL.Sem
open Idealize.ShloMosaic.Pipeline (Dat)

variable (m : (ℓ : Loc nD τ sig) → Buf (Elt Ideal) ℓ)

/-- Where each window stands at grid point `t`: it reads row tile `t + 1` (the first tile holds the padding and the learned tokens) and writes tile `t`. -/
theorem tile_at : ∀ t : Fin cfg0.N,
    win0_0.index t = ![t.val + 1, 0] ∧ win0_1.index t = ![0, 0] ∧ win0_2.index t = ![0, t.val, 0] :=
  (by decide +kernel : ∀ t : Fin grid0.N, _)

/-- What the reference computes, over the kernel's argument arrays. -/
abbrev expected (c : Dev nD) := Cert.FinalPRefIdeal.Read.val_main_v16 (F := Ideal) (m ((c : Thread nD τ).loc main_arg0)) (m ((c : Thread nD τ).loc main_arg1))

/-- What the body stores at an index of its block is the reference's value at the array index it stands for. -/
theorem block_value (c : Dev nD) (t : Fin cfg0.N) (y : S1x64x4096.Idx) :
    k0_pay1 (F := Ideal) (iblk m c 0 t) (iblk m c 1 t) y = expected m c (((cfg0.win 2).blk t).view.emb y) := by
  pointwise [k0_pay1, expected,
    Cert.FinalPRefIdeal.Read.val_main_v16,
    Cert.FinalPRefIdeal.Read.val_main_v15,
    Cert.FinalPRefIdeal.Read.val_main_v14,
    Cert.FinalPRefIdeal.Read.val_main_v13,
    Cert.FinalPRefIdeal.Read.val_main_v12,
    Cert.FinalPRefIdeal.Read.val_main_v11,
    Cert.FinalPRefIdeal.Read.val_main_v10,
    Cert.FinalPRefIdeal.Read.val_main_v9,
    Cert.FinalPRefIdeal.Read.val_main_v8,
    Cert.FinalPRefIdeal.Read.val_main_cst_1,
    Cert.FinalPRefIdeal.Read.val_main_v7,
    Cert.FinalPRefIdeal.Read.val_main_v6,
    Cert.FinalPRefIdeal.Read.val_main_cst_0,
    Cert.FinalPRefIdeal.Read.val_main_v5,
    Cert.FinalPRefIdeal.Read.val_main_v4,
    Cert.FinalPRefIdeal.Read.val_main_cst,
    Cert.FinalPRefIdeal.Read.val_main_v3,
    Cert.FinalPRefIdeal.Read.val_main_v2,
    Cert.FinalPRefIdeal.Read.val_main_v1,
    Cert.FinalPRefIdeal.Read.val_main_v0]
  blk_point [iblk, V, tile_at t]

/-- The prompt's result, as the kernel leaves it, is the reference's. -/
theorem final (c : Dev nD) : (dats m 0 c).arrAt 2 cfg0.N = expected m c := by
  refine (dats m 0 c).arrAt_eq_of_covers 2 _ (by decide +kernel) fun t _ y => ?_
  blk_simp
  rw [after0_2]; frame_out
  exact block_value m c t y

end Cert.FinalPIdeal.Tile

end
-- ==== Proof.FinalS.lean ====
module

public import proofs.«01_k».proof.Proof.Gen.FinalSIdeal.Value
public import proofs.«01_k».proof.Proof.Gen.FinalSRefIdeal.Read
public import Idealize.ShloMosaic.Lib.Pipeline.ValueKit

@[expose] public section

set_option maxRecDepth 16384

noncomputable section

namespace Cert.FinalSIdeal.Tile

open Cert.FinalSIdeal Cert.FinalSIdeal.Gen Idealize.ShloMosaic Idealize.ShloMosaic.TcCoe Idealize.SL.Sem
open Idealize.ShloMosaic.Pipeline (Dat)

variable (m : (ℓ : Loc nD τ sig) → Buf (Elt Ideal) ℓ)

/-- Where each window stands at grid point `t`: sample `t / 32`, token tile `t % 32`; the sample's rows begin after the prompt's 258 tiles, each sample has 34 tiles and its first one is skipped. -/
theorem tile_at : ∀ t : Fin cfg0.N,
    win0_0.index t = ![259 + 34 * (t.val / 32) + t.val % 32, 0] ∧ win0_1.index t = ![0, 0]
      ∧ win0_2.index t = ![t.val / 32, t.val % 32, 0] :=
  (by decide +kernel : ∀ t : Fin grid0.N, _)

/-- What the reference computes, over the kernel's argument arrays. -/
abbrev expected (c : Dev nD) := Cert.FinalSRefIdeal.Read.val_main_v16 (F := Ideal) (m ((c : Thread nD τ).loc main_arg0)) (m ((c : Thread nD τ).loc main_arg1))

/-- What the body stores at an index of its block is the reference's value at the array index it stands for. -/
theorem block_value (c : Dev nD) (t : Fin cfg0.N) (y : S1x64x4096.Idx) :
    k0_pay1 (F := Ideal) (iblk m c 0 t) (iblk m c 1 t) y = expected m c (((cfg0.win 2).blk t).view.emb y) := by
  pointwise [k0_pay1, expected,
    Cert.FinalSRefIdeal.Read.val_main_v16,
    Cert.FinalSRefIdeal.Read.val_main_v15,
    Cert.FinalSRefIdeal.Read.val_main_v14,
    Cert.FinalSRefIdeal.Read.val_main_v13,
    Cert.FinalSRefIdeal.Read.val_main_v12,
    Cert.FinalSRefIdeal.Read.val_main_v11,
    Cert.FinalSRefIdeal.Read.val_main_v10,
    Cert.FinalSRefIdeal.Read.val_main_v9,
    Cert.FinalSRefIdeal.Read.val_main_v8,
    Cert.FinalSRefIdeal.Read.val_main_cst_1,
    Cert.FinalSRefIdeal.Read.val_main_v7,
    Cert.FinalSRefIdeal.Read.val_main_v6,
    Cert.FinalSRefIdeal.Read.val_main_cst_0,
    Cert.FinalSRefIdeal.Read.val_main_v5,
    Cert.FinalSRefIdeal.Read.val_main_v4,
    Cert.FinalSRefIdeal.Read.val_main_cst,
    Cert.FinalSRefIdeal.Read.val_main_v3,
    Cert.FinalSRefIdeal.Read.val_main_v2,
    Cert.FinalSRefIdeal.Read.val_main_v1,
    Cert.FinalSRefIdeal.Read.val_main_v0]
  blk_point [iblk, V, tile_at t]

/-- The samples' result, as the kernel leaves it, is the reference's. -/
theorem final (c : Dev nD) : (dats m 0 c).arrAt 2 cfg0.N = expected m c := by
  refine (dats m 0 c).arrAt_eq_of_covers 2 _ (by decide +kernel) fun t _ y => ?_
  blk_simp
  rw [after0_2]; frame_out
  exact block_value m c t y

end Cert.FinalSIdeal.Tile

end
-- ==== Proof.DnPostP.lean ====
module

public import proofs.«01_k».proof.Proof.Gen.DnPostPIdeal.Value
public import proofs.«01_k».proof.Proof.Gen.DnPostPRefIdeal.Read
public import Idealize.ShloMosaic.Lib.StableHlo.ReadAt
public import Idealize.ShloMosaic.Lib.Pipeline.ValueKit

@[expose] public section

set_option maxRecDepth 16384

noncomputable section

namespace Cert.DnPostPIdeal.Tile

open Cert.DnPostPIdeal Cert.DnPostPIdeal.Gen Idealize.ShloMosaic Idealize.ShloMosaic.TcCoe Idealize.SL.Sem
open Idealize.ShloMosaic.Pipeline (Dat)

variable (m : (ℓ : Loc nD τ sig) → Buf (Elt Ideal) ℓ)

/-- Where each tile's windows lie in the arrays: all the tiles one after another, by evaluation. -/
theorem tile_at : ∀ t : Fin cfg0.N,
    win0_0.index t = ![t.val, 0] ∧ win0_1.index t = ![t.val, 0] ∧ win0_2.index t = ![t.val, 4] ∧ win0_3.index t = ![0, 0]
      ∧ win0_4.index t = ![t.val, 0] :=
  (by decide +kernel : ∀ t : Fin grid0.N, _)

/-- An entry of the forward output's window is the entry of its array at the tile's row. -/
theorem forward_entry (c : Dev nD) (t : Fin cfg0.N) (y : S128x1024.Idx) (R : Fin 16512) (C : Fin 1024)
    (hR : R.val = t.val * 128 + (y 0).val) (hC : C.val = (y 1).val) :
    iblk m c 0 t y = m ((c : Thread nD τ).loc main_arg0) (ix2 R C) := by
  blk_point [iblk, V, tile_at t]

/-- An entry of the backward output's window is the entry of its array at the tile's row. -/
theorem backward_entry (c : Dev nD) (t : Fin cfg0.N) (y : S128x1024.Idx) (R : Fin 16512) (C : Fin 1024)
    (hR : R.val = t.val * 128 + (y 0).val) (hC : C.val = (y 1).val) :
    iblk m c 1 t y = m ((c : Thread nD τ).loc main_arg1) (ix2 R C) := by
  blk_point [iblk, V, tile_at t]

/-- An entry of the gate's window is the entry of the projection at the tile's row and the gate's columns. -/
theorem gate_entry (c : Dev nD) (t : Fin cfg0.N) (y : S128x1024.Idx) (R : Fin 33920) (C : Fin 6912)
    (hR : R.val = t.val * 128 + (y 0).val) (hC : C.val = 4096 + (y 1).val) :
    X0_2 m c t y = m ((c : Thread nD τ).loc main_arg2) (ix2 R C) := by
  unfold X0_2 Pipeline.Window.fill
  rw [dif_pos (moved0_2 t y)]
  blk_point [iblk, V, tile_at t]

/-- The gains' window is the gains. -/
theorem gain_entry (c : Dev nD) (t : Fin cfg0.N) (y : S1x128.Idx) (C : Fin 128) (hC : C.val = (y 1).val) :
    iblk m c 3 t y = m ((c : Thread nD τ).loc main_arg3) (ix1 C) := by
  have h : (y 0).val < 1 := (y 0).isLt
  blk_point [iblk, V, tile_at t]

/-- One head's rows: normed over the head's columns, scaled by the gain and gated, they are the reference's. -/
theorem head_value (a b w : Vec Ideal S128x128 .f32) (g : Vec Ideal S1x128 .f32) (U W : FVec Ideal S16512x1024 .f32)
    (P : FVec Ideal S33920x6912 .f32) (G : FVec Ideal S128 .f32) (x : S128x128.Idx) (z : S16512x1024.Idx)
    (hz0 : (z 0).val < 16512) (hz1 : (z 1).val < 1024)
    (hx : (x 1).val = (z 1).val % 128)
    (ha : ∀ e : Fin 128, a (ix2 (x 0) e) = U (ix2 (z 0) ⟨(z 1).val / 128 * 128 + e.val, by omega⟩))
    (hb : ∀ e : Fin 128, b (ix2 (x 0) e) = W (ix2 (z 0) ⟨(z 1).val / 128 * 128 + e.val, by omega⟩))
    (hw : w x = P (ix2 ⟨(z 0).val, by omega⟩ ⟨4096 + (z 1).val, by omega⟩))
    (hg : g (ix2 0 (x 1)) = G (ix1 (x 1))) :
    k0_pay1 (F := Ideal) a b w g x = Cert.DnPostPRefIdeal.Read.val_main_v20 (F := Ideal) U W P G z := by
  pointwise [k0_pay1,
    Cert.DnPostPRefIdeal.Read.val_main_v20,
    Cert.DnPostPRefIdeal.Read.val_main_v19,
    Cert.DnPostPRefIdeal.Read.val_main_v18,
    Cert.DnPostPRefIdeal.Read.val_main_v17,
    Cert.DnPostPRefIdeal.Read.val_main_call0_v5,
    Cert.DnPostPRefIdeal.Read.val_main_call0_v4,
    Cert.DnPostPRefIdeal.Read.val_main_call0_cst_0,
    Cert.DnPostPRefIdeal.Read.val_main_call0_v3,
    Cert.DnPostPRefIdeal.Read.val_main_call0_v2,
    Cert.DnPostPRefIdeal.Read.val_main_call0_cst,
    Cert.DnPostPRefIdeal.Read.val_main_call0_v1,
    Cert.DnPostPRefIdeal.Read.val_main_call0_v0,
    Cert.DnPostPRefIdeal.Read.val_main_v16,
    Cert.DnPostPRefIdeal.Read.val_main_v15,
    Cert.DnPostPRefIdeal.Read.val_main_v14,
    Cert.DnPostPRefIdeal.Read.val_main_v13,
    Cert.DnPostPRefIdeal.Read.val_main_v12,
    Cert.DnPostPRefIdeal.Read.val_main_v11,
    Cert.DnPostPRefIdeal.Read.val_main_v10,
    Cert.DnPostPRefIdeal.Read.val_main_v9,
    Cert.DnPostPRefIdeal.Read.val_main_cst_1,
    Cert.DnPostPRefIdeal.Read.val_main_v8,
    Cert.DnPostPRefIdeal.Read.val_main_v7,
    Cert.DnPostPRefIdeal.Read.val_main_cst_0,
    Cert.DnPostPRefIdeal.Read.val_main_v6,
    Cert.DnPostPRefIdeal.Read.val_main_v5,
    Cert.DnPostPRefIdeal.Read.val_main_cst,
    Cert.DnPostPRefIdeal.Read.val_main_v4,
    Cert.DnPostPRefIdeal.Read.val_main_v3,
    Cert.DnPostPRefIdeal.Read.val_main_v2,
    Cert.DnPostPRefIdeal.Read.val_main_v1,
    Cert.DnPostPRefIdeal.Read.val_main_v0]
  have hxx : (⟨(z 1).val % 128, by omega⟩ : Fin 128) = x 1 := Fin.ext hx.symm
  have hx2 : ix2 (x 0) (x 1) = x := by funext a; match a with | ⟨0, _⟩ => rfl | ⟨1, _⟩ => rfl
  have hz2 : ix2 (z 0) (⟨(z 1).val / 128 * 128 + (x 1).val, by omega⟩ : Fin 1024) = z := by
    funext a
    match a with
    | ⟨0, _⟩ => rfl
    | ⟨1, _⟩ => exact Fin.ext (show (z 1).val / 128 * 128 + (x 1).val = (z 1).val by omega)
  have ha' : a x = U z := (congrArg a hx2).symm.trans ((ha (x 1)).trans (congrArg U hz2))
  have hb' : b x = W z := (congrArg b hx2).symm.trans ((hb (x 1)).trans (congrArg W hz2))
  unfold Ideal.logistic
  rw [ha', hb', hw, hg, hxx]
  simp only [ha, hb]

/-- What the head from column `o` stores is the reference's value at the array's row and column. -/
theorem piece (c : Dev nD) (t : Fin cfg0.N) (z : S16512x1024.Idx) (o : ℕ) (inb : ∀ a, (![0, o] : Fin 2 → ℕ) a + S128x128.size a ≤ S128x1024.size a)
    (ho : o % 128 = 0) (x : S128x128.Idx) (h0 : (z 0).val = t.val * 128 + (x 0).val) (h1 : (z 1).val = o + (x 1).val) :
    k0_pay1 (F := Ideal) (View.ld (iblk m c 0 t) (Rect.unit ![0, o] S128x128.size inb))
      (View.ld (iblk m c 1 t) (Rect.unit ![0, o] S128x128.size inb)) (View.ld (X0_2 m c t) (Rect.unit ![0, o] S128x128.size inb))
      (View.ld (iblk m c 3 t) (Rect.unit ![0, 0] ![1, 128] inb_S1x128_S1x128_0_0)) x
    = Cert.DnPostPRefIdeal.Read.val_main_v20 (F := Ideal) (m ((c : Thread nD τ).loc main_arg0))
      (m ((c : Thread nD τ).loc main_arg1)) (m ((c : Thread nD τ).loc main_arg2)) (m ((c : Thread nD τ).loc main_arg3)) z := by
  have hx0 : (x 0).val < 128 := (x 0).isLt
  have hx1 : (x 1).val < 128 := (x 1).isLt
  have hz : (z 0).val < 16512 := (z 0).isLt
  have hz' : (z 1).val < 1024 := (z 1).isLt
  refine head_value _ _ _ _ _ _ _ _ x z hz hz' (by omega) (fun e => ?_) (fun e => ?_) ?_ ?_
  · exact forward_entry m c t ((Rect.unit (s := S128x1024) ![0, o] S128x128.size inb).idx (ix2 (x 0) e)) _ _
      (h0.trans (congrArg _ (show (x 0).val = 0 + 1 * (x 0).val by omega)))
      (show (z 1).val / 128 * 128 + e.val = o + 1 * e.val by omega)
  · exact backward_entry m c t ((Rect.unit (s := S128x1024) ![0, o] S128x128.size inb).idx (ix2 (x 0) e)) _ _
      (h0.trans (congrArg _ (show (x 0).val = 0 + 1 * (x 0).val by omega)))
      (show (z 1).val / 128 * 128 + e.val = o + 1 * e.val by omega)
  · exact gate_entry m c t ((Rect.unit (s := S128x1024) ![0, o] S128x128.size inb).idx x) _ _
      (h0.trans (congrArg _ (show (x 0).val = 0 + 1 * (x 0).val by omega)))
      (show 4096 + (z 1).val = 4096 + (o + 1 * (x 1).val) by omega)
  · exact gain_entry m c t ((Rect.unit (s := S1x128) ![0, 0] ![1, 128] inb_S1x128_S1x128_0_0).idx (ix2 0 (x 1))) _
      (show (x 1).val = 0 + 1 * (x 1).val by omega)

/-- A tile's entry, stored by one of the heads, is the reference's value at the array's row and column. -/
theorem point (c : Dev nD) (t : Fin cfg0.N) (y : S128x1024.Idx) (z : S16512x1024.Idx) (hz0 : (z 0).val = t.val * 128 + (y 0).val)
    (hz1 : (z 1).val = (y 1).val) :
    outsAt0 m c t y = Cert.DnPostPRefIdeal.Read.val_main_v20 (F := Ideal) (m ((c : Thread nD τ).loc main_arg0))
      (m ((c : Thread nD τ).loc main_arg1)) (m ((c : Thread nD τ).loc main_arg2)) (m ((c : Thread nD τ).loc main_arg3)) z := by
  have hy0 : (y 0).val < 128 := (y 0).isLt
  have hy1 : (y 1).val < 1024 := (y 1).isLt
  have ht : t.val < 129 := t.isLt
  unfold outsAt0 out0_A_4
  rw [View.read_writes_eq_canon _ _ _ (cover0_A_4 c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (X0_2 m c t) (iblk m c 3 t))]
  unfold kernelRun0_A
  dsimp only
  sl_unfold_words
  simp only [View.readAt_eq_ld, (hs0_0 t).read_unread, (hs0_1 t).read_unread, (hs0_2 t).read_unread, (hs0_3 t).read_unread]
  canon_tiles x h
  · exact piece m c t z 896 _ rfl x (by omega) (by omega)
  · exact piece m c t z 768 _ rfl x (by omega) (by omega)
  · exact piece m c t z 640 _ rfl x (by omega) (by omega)
  · exact piece m c t z 512 _ rfl x (by omega) (by omega)
  · exact piece m c t z 384 _ rfl x (by omega) (by omega)
  · exact piece m c t z 256 _ rfl x (by omega) (by omega)
  · exact piece m c t z 128 _ rfl x (by omega) (by omega)
  · exact piece m c t z 0 _ rfl x (by omega) (by omega)

/-- What the reference computes, over the kernel's argument arrays. -/
abbrev expected (c : Dev nD) := Cert.DnPostPRefIdeal.Read.val_main_v20 (F := Ideal) (m ((c : Thread nD τ).loc main_arg0)) (m ((c : Thread nD τ).loc main_arg1)) (m ((c : Thread nD τ).loc main_arg2)) (m ((c : Thread nD τ).loc main_arg3))

/-- The delta rule's output, as the kernel leaves it, is the reference's. -/
theorem final (c : Dev nD) : (dats m 0 c).arrAt 4 cfg0.N = expected m c := by
  refine (dats m 0 c).arrAt_eq_of_covers 4 _ (by decide +kernel) fun t _ y => ?_
  blk_simp
  rw [after0_4]
  refine point m c t y _ ?_ ?_
  all_goals (blk_simp [tile_at t] <;> try omega)

end Cert.DnPostPIdeal.Tile

end
-- ==== Proof.DnPostS.lean ====
module

public import proofs.«01_k».proof.Proof.Gen.DnPostSIdeal.Value
public import proofs.«01_k».proof.Proof.Gen.DnPostSRefIdeal.Read
public import Idealize.ShloMosaic.Lib.StableHlo.ReadAt
public import Idealize.ShloMosaic.Lib.Pipeline.ValueKit

@[expose] public section

set_option maxRecDepth 16384

noncomputable section

namespace Cert.DnPostSIdeal.Tile

open Cert.DnPostSIdeal Cert.DnPostSIdeal.Gen Idealize.ShloMosaic Idealize.ShloMosaic.TcCoe Idealize.SL.Sem
open Idealize.ShloMosaic.Pipeline (Dat)

variable (m : (ℓ : Loc nD τ sig) → Buf (Elt Ideal) ℓ)

/-- Where each tile's windows lie in the arrays: all the tiles one after another, by evaluation. -/
theorem tile_at : ∀ t : Fin cfg0.N,
    win0_0.index t = ![t.val, 0] ∧ win0_1.index t = ![t.val, 0] ∧ win0_2.index t = ![129 + t.val, 4] ∧ win0_3.index t = ![0, 0]
      ∧ win0_4.index t = ![t.val, 0] :=
  (by decide +kernel : ∀ t : Fin grid0.N, _)

/-- An entry of the forward output's window is the entry of its array at the tile's row. -/
theorem forward_entry (c : Dev nD) (t : Fin cfg0.N) (y : S128x1024.Idx) (R : Fin 17408) (C : Fin 1024)
    (hR : R.val = t.val * 128 + (y 0).val) (hC : C.val = (y 1).val) :
    iblk m c 0 t y = m ((c : Thread nD τ).loc main_arg0) (ix2 R C) := by
  blk_point [iblk, V, tile_at t]

/-- An entry of the backward output's window is the entry of its array at the tile's row. -/
theorem backward_entry (c : Dev nD) (t : Fin cfg0.N) (y : S128x1024.Idx) (R : Fin 17408) (C : Fin 1024)
    (hR : R.val = t.val * 128 + (y 0).val) (hC : C.val = (y 1).val) :
    iblk m c 1 t y = m ((c : Thread nD τ).loc main_arg1) (ix2 R C) := by
  blk_point [iblk, V, tile_at t]

/-- An entry of the gate's window is the entry of the projection at the tile's row and the gate's columns. -/
theorem gate_entry (c : Dev nD) (t : Fin cfg0.N) (y : S128x1024.Idx) (R : Fin 33920) (C : Fin 6912)
    (hR : R.val = 16512 + t.val * 128 + (y 0).val) (hC : C.val = 4096 + (y 1).val) :
    X0_2 m c t y = m ((c : Thread nD τ).loc main_arg2) (ix2 R C) := by
  unfold X0_2 Pipeline.Window.fill
  rw [dif_pos (moved0_2 t y)]
  blk_point [iblk, V, tile_at t]

/-- The gains' window is the gains. -/
theorem gain_entry (c : Dev nD) (t : Fin cfg0.N) (y : S1x128.Idx) (C : Fin 128) (hC : C.val = (y 1).val) :
    iblk m c 3 t y = m ((c : Thread nD τ).loc main_arg3) (ix1 C) := by
  have h : (y 0).val < 1 := (y 0).isLt
  blk_point [iblk, V, tile_at t]

/-- One head's rows: normed over the head's columns, scaled by the gain and gated, they are the reference's. -/
theorem head_value (a b w : Vec Ideal S128x128 .f32) (g : Vec Ideal S1x128 .f32) (U W : FVec Ideal S17408x1024 .f32)
    (P : FVec Ideal S33920x6912 .f32) (G : FVec Ideal S128 .f32) (x : S128x128.Idx) (z : S17408x1024.Idx)
    (hz0 : (z 0).val < 17408) (hz1 : (z 1).val < 1024)
    (hx : (x 1).val = (z 1).val % 128)
    (ha : ∀ e : Fin 128, a (ix2 (x 0) e) = U (ix2 (z 0) ⟨(z 1).val / 128 * 128 + e.val, by omega⟩))
    (hb : ∀ e : Fin 128, b (ix2 (x 0) e) = W (ix2 (z 0) ⟨(z 1).val / 128 * 128 + e.val, by omega⟩))
    (hw : w x = P (ix2 ⟨16512 + (z 0).val, by omega⟩ ⟨4096 + (z 1).val, by omega⟩))
    (hg : g (ix2 0 (x 1)) = G (ix1 (x 1))) :
    k0_pay1 (F := Ideal) a b w g x = Cert.DnPostSRefIdeal.Read.val_main_v20 (F := Ideal) U W P G z := by
  pointwise [k0_pay1,
    Cert.DnPostSRefIdeal.Read.val_main_v20,
    Cert.DnPostSRefIdeal.Read.val_main_v19,
    Cert.DnPostSRefIdeal.Read.val_main_v18,
    Cert.DnPostSRefIdeal.Read.val_main_v17,
    Cert.DnPostSRefIdeal.Read.val_main_call0_v5,
    Cert.DnPostSRefIdeal.Read.val_main_call0_v4,
    Cert.DnPostSRefIdeal.Read.val_main_call0_cst_0,
    Cert.DnPostSRefIdeal.Read.val_main_call0_v3,
    Cert.DnPostSRefIdeal.Read.val_main_call0_v2,
    Cert.DnPostSRefIdeal.Read.val_main_call0_cst,
    Cert.DnPostSRefIdeal.Read.val_main_call0_v1,
    Cert.DnPostSRefIdeal.Read.val_main_call0_v0,
    Cert.DnPostSRefIdeal.Read.val_main_v16,
    Cert.DnPostSRefIdeal.Read.val_main_v15,
    Cert.DnPostSRefIdeal.Read.val_main_v14,
    Cert.DnPostSRefIdeal.Read.val_main_v13,
    Cert.DnPostSRefIdeal.Read.val_main_v12,
    Cert.DnPostSRefIdeal.Read.val_main_v11,
    Cert.DnPostSRefIdeal.Read.val_main_v10,
    Cert.DnPostSRefIdeal.Read.val_main_v9,
    Cert.DnPostSRefIdeal.Read.val_main_cst_1,
    Cert.DnPostSRefIdeal.Read.val_main_v8,
    Cert.DnPostSRefIdeal.Read.val_main_v7,
    Cert.DnPostSRefIdeal.Read.val_main_cst_0,
    Cert.DnPostSRefIdeal.Read.val_main_v6,
    Cert.DnPostSRefIdeal.Read.val_main_v5,
    Cert.DnPostSRefIdeal.Read.val_main_cst,
    Cert.DnPostSRefIdeal.Read.val_main_v4,
    Cert.DnPostSRefIdeal.Read.val_main_v3,
    Cert.DnPostSRefIdeal.Read.val_main_v2,
    Cert.DnPostSRefIdeal.Read.val_main_v1,
    Cert.DnPostSRefIdeal.Read.val_main_v0]
  have hxx : (⟨(z 1).val % 128, by omega⟩ : Fin 128) = x 1 := Fin.ext hx.symm
  have hx2 : ix2 (x 0) (x 1) = x := by funext a; match a with | ⟨0, _⟩ => rfl | ⟨1, _⟩ => rfl
  have hz2 : ix2 (z 0) (⟨(z 1).val / 128 * 128 + (x 1).val, by omega⟩ : Fin 1024) = z := by
    funext a
    match a with
    | ⟨0, _⟩ => rfl
    | ⟨1, _⟩ => exact Fin.ext (show (z 1).val / 128 * 128 + (x 1).val = (z 1).val by omega)
  have ha' : a x = U z := (congrArg a hx2).symm.trans ((ha (x 1)).trans (congrArg U hz2))
  have hb' : b x = W z := (congrArg b hx2).symm.trans ((hb (x 1)).trans (congrArg W hz2))
  unfold Ideal.logistic
  rw [ha', hb', hw, hg, hxx]
  simp only [ha, hb]

/-- What the head from column `o` stores is the reference's value at the array's row and column. -/
theorem piece (c : Dev nD) (t : Fin cfg0.N) (z : S17408x1024.Idx) (o : ℕ) (inb : ∀ a, (![0, o] : Fin 2 → ℕ) a + S128x128.size a ≤ S128x1024.size a)
    (ho : o % 128 = 0) (x : S128x128.Idx) (h0 : (z 0).val = t.val * 128 + (x 0).val) (h1 : (z 1).val = o + (x 1).val) :
    k0_pay1 (F := Ideal) (View.ld (iblk m c 0 t) (Rect.unit ![0, o] S128x128.size inb))
      (View.ld (iblk m c 1 t) (Rect.unit ![0, o] S128x128.size inb)) (View.ld (X0_2 m c t) (Rect.unit ![0, o] S128x128.size inb))
      (View.ld (iblk m c 3 t) (Rect.unit ![0, 0] ![1, 128] inb_S1x128_S1x128_0_0)) x
    = Cert.DnPostSRefIdeal.Read.val_main_v20 (F := Ideal) (m ((c : Thread nD τ).loc main_arg0))
      (m ((c : Thread nD τ).loc main_arg1)) (m ((c : Thread nD τ).loc main_arg2)) (m ((c : Thread nD τ).loc main_arg3)) z := by
  have hx0 : (x 0).val < 128 := (x 0).isLt
  have hx1 : (x 1).val < 128 := (x 1).isLt
  have hz : (z 0).val < 17408 := (z 0).isLt
  have hz' : (z 1).val < 1024 := (z 1).isLt
  refine head_value _ _ _ _ _ _ _ _ x z hz hz' (by omega) (fun e => ?_) (fun e => ?_) ?_ ?_
  · exact forward_entry m c t ((Rect.unit (s := S128x1024) ![0, o] S128x128.size inb).idx (ix2 (x 0) e)) _ _
      (h0.trans (congrArg _ (show (x 0).val = 0 + 1 * (x 0).val by omega)))
      (show (z 1).val / 128 * 128 + e.val = o + 1 * e.val by omega)
  · exact backward_entry m c t ((Rect.unit (s := S128x1024) ![0, o] S128x128.size inb).idx (ix2 (x 0) e)) _ _
      (h0.trans (congrArg _ (show (x 0).val = 0 + 1 * (x 0).val by omega)))
      (show (z 1).val / 128 * 128 + e.val = o + 1 * e.val by omega)
  · exact gate_entry m c t ((Rect.unit (s := S128x1024) ![0, o] S128x128.size inb).idx x) _ _
      (show 16512 + (z 0).val = 16512 + t.val * 128 + (0 + 1 * (x 0).val) by omega)
      (show 4096 + (z 1).val = 4096 + (o + 1 * (x 1).val) by omega)
  · exact gain_entry m c t ((Rect.unit (s := S1x128) ![0, 0] ![1, 128] inb_S1x128_S1x128_0_0).idx (ix2 0 (x 1))) _
      (show (x 1).val = 0 + 1 * (x 1).val by omega)

/-- A tile's entry, stored by one of the heads, is the reference's value at the array's row and column. -/
theorem point (c : Dev nD) (t : Fin cfg0.N) (y : S128x1024.Idx) (z : S17408x1024.Idx) (hz0 : (z 0).val = t.val * 128 + (y 0).val)
    (hz1 : (z 1).val = (y 1).val) :
    outsAt0 m c t y = Cert.DnPostSRefIdeal.Read.val_main_v20 (F := Ideal) (m ((c : Thread nD τ).loc main_arg0))
      (m ((c : Thread nD τ).loc main_arg1)) (m ((c : Thread nD τ).loc main_arg2)) (m ((c : Thread nD τ).loc main_arg3)) z := by
  have hy0 : (y 0).val < 128 := (y 0).isLt
  have hy1 : (y 1).val < 1024 := (y 1).isLt
  have ht : t.val < 136 := t.isLt
  unfold outsAt0 out0_A_4
  rw [View.read_writes_eq_canon _ _ _ (cover0_A_4 c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (X0_2 m c t) (iblk m c 3 t))]
  unfold kernelRun0_A
  dsimp only
  sl_unfold_words
  simp only [View.readAt_eq_ld, (hs0_0 t).read_unread, (hs0_1 t).read_unread, (hs0_2 t).read_unread, (hs0_3 t).read_unread]
  canon_tiles x h
  · exact piece m c t z 896 _ rfl x (by omega) (by omega)
  · exact piece m c t z 768 _ rfl x (by omega) (by omega)
  · exact piece m c t z 640 _ rfl x (by omega) (by omega)
  · exact piece m c t z 512 _ rfl x (by omega) (by omega)
  · exact piece m c t z 384 _ rfl x (by omega) (by omega)
  · exact piece m c t z 256 _ rfl x (by omega) (by omega)
  · exact piece m c t z 128 _ rfl x (by omega) (by omega)
  · exact piece m c t z 0 _ rfl x (by omega) (by omega)

/-- What the reference computes, over the kernel's argument arrays. -/
abbrev expected (c : Dev nD) := Cert.DnPostSRefIdeal.Read.val_main_v20 (F := Ideal) (m ((c : Thread nD τ).loc main_arg0)) (m ((c : Thread nD τ).loc main_arg1)) (m ((c : Thread nD τ).loc main_arg2)) (m ((c : Thread nD τ).loc main_arg3))

/-- The delta rule's output, as the kernel leaves it, is the reference's. -/
theorem final (c : Dev nD) : (dats m 0 c).arrAt 4 cfg0.N = expected m c := by
  refine (dats m 0 c).arrAt_eq_of_covers 4 _ (by decide +kernel) fun t _ y => ?_
  blk_simp
  rw [after0_4]
  refine point m c t y _ ?_ ?_
  all_goals (blk_simp [tile_at t] <;> try omega)

end Cert.DnPostSIdeal.Tile

end
-- ==== Proof.PrepCopies.lean ====
module

public import proofs.«01_k».proof.Proof.Gen.PrepIdeal.Value
public import proofs.«01_k».proof.Proof.Gen.PrepRefIdeal.Read
public import Idealize.ShloMosaic.Lib.StableHlo.ReadAt
public import Idealize.ShloMosaic.Lib.Pipeline.ValueKit

@[expose] public section

set_option maxRecDepth 16384

noncomputable section

namespace Cert.PrepIdeal.Tile

open Cert.PrepIdeal Cert.PrepIdeal.Gen Idealize.ShloMosaic Idealize.ShloMosaic.TcCoe Idealize.SL.Sem
open Idealize.ShloMosaic.Pipeline (Dat)

variable (m : (ℓ : Loc nD τ sig) → Buf (Elt Ideal) ℓ)

/-- Where each tile's windows lie in the arrays: all the tiles one after another, by evaluation. -/
theorem tile_at : ∀ t : Fin cfg0.N,
    win0_0.index t = ![t.val, 0] ∧ win0_1.index t = ![t.val, 10] ∧ win0_2.index t = ![t.val, 11] ∧ win0_3.index t = ![t.val, 12]
      ∧ win0_4.index t = ![t.val, 0] ∧ win0_5.index t = ![t.val, 0] ∧ win0_6.index t = ![0, 0] ∧ win0_7.index t = ![0, 0]
      ∧ win0_8.index t = ![t.val, 0] ∧ win0_9.index t = ![t.val, 0] ∧ win0_10.index t = ![t.val, 0] ∧ win0_11.index t = ![t.val, 0]
      ∧ win0_12.index t = ![t.val, 0] :=
  (by decide +kernel : ∀ t : Fin grid0.N, _)

/-- An entry of the first window is the entry of the projection at the tile's row. -/
theorem heads_entry (c : Dev nD) (t : Fin cfg0.N) (y : S128x1024.Idx) (R : Fin 33920) (C : Fin 6912)
    (hR : R.val = t.val * 128 + (y 0).val) (hC : C.val = 0 + (y 1).val) :
    X0_0 m c t y = m ((c : Thread nD τ).loc main_arg0) (ix2 R C) := by
  unfold X0_0 Pipeline.Window.fill
  rw [dif_pos (moved0_0 t y)]
  blk_point [iblk, V, tile_at t]

/-- An entry of the neighbourhood queries' window is the entry of the projection at the tile's row. -/
theorem near_query_entry (c : Dev nD) (t : Fin cfg0.N) (y : S128x512.Idx) (R : Fin 33920) (C : Fin 6912)
    (hR : R.val = t.val * 128 + (y 0).val) (hC : C.val = 5120 + (y 1).val) :
    X0_1 m c t y = m ((c : Thread nD τ).loc main_arg0) (ix2 R C) := by
  unfold X0_1 Pipeline.Window.fill
  rw [dif_pos (moved0_1 t y)]
  blk_point [iblk, V, tile_at t]

/-- An entry of the neighbourhood keys' window is the entry of the projection at the tile's row. -/
theorem near_key_entry (c : Dev nD) (t : Fin cfg0.N) (y : S128x512.Idx) (R : Fin 33920) (C : Fin 6912)
    (hR : R.val = t.val * 128 + (y 0).val) (hC : C.val = 5632 + (y 1).val) :
    X0_2 m c t y = m ((c : Thread nD τ).loc main_arg0) (ix2 R C) := by
  unfold X0_2 Pipeline.Window.fill
  rw [dif_pos (moved0_2 t y)]
  blk_point [iblk, V, tile_at t]

/-- An entry of the neighbourhood values' window is the entry of the projection at the tile's row. -/
theorem near_value_entry (c : Dev nD) (t : Fin cfg0.N) (y : S128x512.Idx) (R : Fin 33920) (C : Fin 6912)
    (hR : R.val = t.val * 128 + (y 0).val) (hC : C.val = 6144 + (y 1).val) :
    X0_3 m c t y = m ((c : Thread nD τ).loc main_arg0) (ix2 R C) := by
  unfold X0_3 Pipeline.Window.fill
  rw [dif_pos (moved0_3 t y)]
  blk_point [iblk, V, tile_at t]

/-- The attention's values, stored as they are. -/
theorem values_piece (c : Dev nD) (t : Fin cfg0.N) (z : S16512x256.Idx) (inb : ∀ a, (![0, 768] : Fin 2 → ℕ) a + S128x256.size a ≤ S128x1024.size a)
    (x : S128x256.Idx) (h0 : (z 0).val = t.val * 128 + (x 0).val) (h1 : (z 1).val = 0 + (x 1).val) :
    k0_pay33 (F := Ideal) (View.ld (X0_0 m c t) (Rect.unit ![0, 768] S128x256.size inb)) x = Cert.PrepRefIdeal.Read.val_main_v170 (F := Ideal) (m ((c : Thread nD τ).loc main_arg0)) z := by
  have hx0 : (x 0).val < 128 := (x 0).isLt
  have hx1 : (x 1).val < 256 := (x 1).isLt
  have hz : (z 0).val < 16512 := (z 0).isLt
  have hz' : (z 1).val < 256 := (z 1).isLt
  pointwise [k0_pay33, Cert.PrepRefIdeal.Read.val_main_v170, Cert.PrepRefIdeal.Read.val_main_v163, Cert.PrepRefIdeal.Read.val_main_v6]
  exact heads_entry m c t _ ⟨(z 0).val, by omega⟩ ⟨768 + (z 1).val, by omega⟩
      (show (z 0).val = t.val * 128 + (x 0).val by omega) (show 768 + (z 1).val = 0 + (768 + (x 1).val) by omega)

/-- The neighbourhood queries, stored scaled. -/
theorem near_query_piece (c : Dev nD) (t : Fin cfg0.N) (z : S16512x512.Idx) (inb : ∀ a, (![0, 0] : Fin 2 → ℕ) a + S128x512.size a ≤ S128x512.size a)
    (x : S128x512.Idx) (h0 : (z 0).val = t.val * 128 + (x 0).val) (h1 : (z 1).val = 0 + (x 1).val) :
    k0_pay34 (F := Ideal) (View.ld (X0_1 m c t) (Rect.unit ![0, 0] S128x512.size inb)) x = Cert.PrepRefIdeal.Read.val_main_v171 (F := Ideal) (m ((c : Thread nD τ).loc main_arg0)) z := by
  have hx0 : (x 0).val < 128 := (x 0).isLt
  have hx1 : (x 1).val < 512 := (x 1).isLt
  have hz : (z 0).val < 16512 := (z 0).isLt
  have hz' : (z 1).val < 512 := (z 1).isLt
  pointwise [k0_pay34, Cert.PrepRefIdeal.Read.val_main_v171, Cert.PrepRefIdeal.Read.val_main_v166, Cert.PrepRefIdeal.Read.val_main_v165, Cert.PrepRefIdeal.Read.val_main_cst_16, Cert.PrepRefIdeal.Read.val_main_v164, Cert.PrepRefIdeal.Read.val_main_v6]
  refine congrArg (fun a : EReal => a * _) ?_
  exact near_query_entry m c t _ ⟨(z 0).val, by omega⟩ ⟨5120 + (z 1).val, by omega⟩
      (show (z 0).val = t.val * 128 + (x 0).val by omega) (show 5120 + (z 1).val = 5120 + (x 1).val by omega)

/-- The neighbourhood keys, stored as they are. -/
theorem near_key_piece (c : Dev nD) (t : Fin cfg0.N) (z : S16512x1024.Idx) (inb : ∀ a, (![0, 0] : Fin 2 → ℕ) a + S128x512.size a ≤ S128x512.size a)
    (x : S128x512.Idx) (h0 : (z 0).val = t.val * 128 + (x 0).val) (h1 : (z 1).val = 0 + (x 1).val) :
    k0_pay35 (F := Ideal) (View.ld (X0_2 m c t) (Rect.unit ![0, 0] S128x512.size inb)) x = Cert.PrepRefIdeal.Read.val_main_v172 (F := Ideal) (m ((c : Thread nD τ).loc main_arg0)) z := by
  have hx0 : (x 0).val < 128 := (x 0).isLt
  have hx1 : (x 1).val < 512 := (x 1).isLt
  have hz : (z 0).val < 16512 := (z 0).isLt
  have hz' : (z 1).val < 1024 := (z 1).isLt
  pointwise [k0_pay35, Cert.PrepRefIdeal.Read.val_main_v172, Cert.PrepRefIdeal.Read.val_main_v167, Cert.PrepRefIdeal.Read.val_main_v6]
  exact near_key_entry m c t _ ⟨(z 0).val, by omega⟩ ⟨5632 + (z 1).val, by omega⟩
      (show (z 0).val = t.val * 128 + (x 0).val by omega) (show 5632 + (z 1).val = 5632 + (x 1).val by omega)

/-- The neighbourhood values, stored as they are. -/
theorem near_value_piece (c : Dev nD) (t : Fin cfg0.N) (z : S16512x1024.Idx) (inb : ∀ a, (![0, 0] : Fin 2 → ℕ) a + S128x512.size a ≤ S128x512.size a)
    (x : S128x512.Idx) (h0 : (z 0).val = t.val * 128 + (x 0).val) (h1 : (z 1).val = 512 + (x 1).val) :
    k0_pay36 (F := Ideal) (View.ld (X0_3 m c t) (Rect.unit ![0, 0] S128x512.size inb)) x = Cert.PrepRefIdeal.Read.val_main_v172 (F := Ideal) (m ((c : Thread nD τ).loc main_arg0)) z := by
  have hx0 : (x 0).val < 128 := (x 0).isLt
  have hx1 : (x 1).val < 512 := (x 1).isLt
  have hz : (z 0).val < 16512 := (z 0).isLt
  have hz' : (z 1).val < 1024 := (z 1).isLt
  pointwise [k0_pay36, Cert.PrepRefIdeal.Read.val_main_v172, Cert.PrepRefIdeal.Read.val_main_v167, Cert.PrepRefIdeal.Read.val_main_v6]
  exact near_value_entry m c t _ ⟨(z 0).val, by omega⟩ ⟨5632 + (z 1).val, by omega⟩
      (show (z 0).val = t.val * 128 + (x 0).val by omega) (show 5632 + (z 1).val = 6144 + (x 1).val by omega)

/-- A tile's entry of output 2 is the reference's value at the array's row and column. -/
theorem point10 (c : Dev nD) (t : Fin cfg0.N) (y : S128x256.Idx) (z : S16512x256.Idx) (hz0 : (z 0).val = t.val * 128 + (y 0).val)
    (hz1 : (z 1).val = (y 1).val) : (outsAt0 m c t).2.2.1 y = Cert.PrepRefIdeal.Read.val_main_v170 (F := Ideal) (m ((c : Thread nD τ).loc main_arg0)) z := by
  have hy0 : (y 0).val < 128 := (y 0).isLt
  have hy1 : (y 1).val < 256 := (y 1).isLt
  have ht : t.val < 129 := t.isLt
  unfold outsAt0
  dsimp only
  unfold out0_A_10
  rw [View.read_writes_eq_canon _ _ _ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (X0_3 m c t) (iblk m c 4 t) (iblk m c 5 t) (iblk m c 6 t) (iblk m c 7 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  canon_tiles x h
  · exact values_piece m c t z _ x (by omega) (by omega)

/-- Output 2, as the kernel leaves it, is the reference's. -/
theorem final10 (c : Dev nD) : (dats m 0 c).arrAt 10 cfg0.N = Cert.PrepRefIdeal.Read.val_main_v170 (F := Ideal) (m ((c : Thread nD τ).loc main_arg0)) := by
  refine (dats m 0 c).arrAt_eq_of_covers 10 _ (by decide +kernel) fun t _ y => ?_
  blk_simp
  rw [after0_10]
  refine point10 m c t y _ ?_ ?_
  all_goals (blk_simp [tile_at t] <;> try omega)

/-- A tile's entry of output 3 is the reference's value at the array's row and column. -/
theorem point11 (c : Dev nD) (t : Fin cfg0.N) (y : S128x512.Idx) (z : S16512x512.Idx) (hz0 : (z 0).val = t.val * 128 + (y 0).val)
    (hz1 : (z 1).val = (y 1).val) : (outsAt0 m c t).2.2.2.1 y = Cert.PrepRefIdeal.Read.val_main_v171 (F := Ideal) (m ((c : Thread nD τ).loc main_arg0)) z := by
  have hy0 : (y 0).val < 128 := (y 0).isLt
  have hy1 : (y 1).val < 512 := (y 1).isLt
  have ht : t.val < 129 := t.isLt
  unfold outsAt0
  dsimp only
  unfold out0_A_11
  rw [View.read_writes_eq_canon _ _ _ (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (X0_3 m c t) (iblk m c 4 t) (iblk m c 5 t) (iblk m c 6 t) (iblk m c 7 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  canon_tiles x h
  · exact near_query_piece m c t z _ x (by omega) (by omega)

/-- Output 3, as the kernel leaves it, is the reference's. -/
theorem final11 (c : Dev nD) : (dats m 0 c).arrAt 11 cfg0.N = Cert.PrepRefIdeal.Read.val_main_v171 (F := Ideal) (m ((c : Thread nD τ).loc main_arg0)) := by
  refine (dats m 0 c).arrAt_eq_of_covers 11 _ (by decide +kernel) fun t _ y => ?_
  blk_simp
  rw [after0_11]
  refine point11 m c t y _ ?_ ?_
  all_goals (blk_simp [tile_at t] <;> try omega)

/-- A tile's entry of output 4 is the reference's value at the array's row and column. -/
theorem point12 (c : Dev nD) (t : Fin cfg0.N) (y : S128x1024.Idx) (z : S16512x1024.Idx) (hz0 : (z 0).val = t.val * 128 + (y 0).val)
    (hz1 : (z 1).val = (y 1).val) : (outsAt0 m c t).2.2.2.2 y = Cert.PrepRefIdeal.Read.val_main_v172 (F := Ideal) (m ((c : Thread nD τ).loc main_arg0)) z := by
  have hy0 : (y 0).val < 128 := (y 0).isLt
  have hy1 : (y 1).val < 1024 := (y 1).isLt
  have ht : t.val < 129 := t.isLt
  unfold outsAt0
  dsimp only
  unfold out0_A_12
  rw [View.read_writes_eq_canon _ _ _ (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (X0_3 m c t) (iblk m c 4 t) (iblk m c 5 t) (iblk m c 6 t) (iblk m c 7 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  canon_tiles x h
  · exact near_value_piece m c t z _ x (by omega) (by omega)
  · exact near_key_piece m c t z _ x (by omega) (by omega)

/-- Output 4, as the kernel leaves it, is the reference's. -/
theorem final12 (c : Dev nD) : (dats m 0 c).arrAt 12 cfg0.N = Cert.PrepRefIdeal.Read.val_main_v172 (F := Ideal) (m ((c : Thread nD τ).loc main_arg0)) := by
  refine (dats m 0 c).arrAt_eq_of_covers 12 _ (by decide +kernel) fun t _ y => ?_
  blk_simp
  rw [after0_12]
  refine point12 m c t y _ ?_ ?_
  all_goals (blk_simp [tile_at t] <;> try omega)

end Cert.PrepIdeal.Tile
-- ==== Proof.PrepWords.lean ====
module

public import Idealize.ShloMosaic.Lib.StableHlo.ReadAt
public import Idealize.ShloMosaic.Lib.Pipeline.ValueKit
public import Idealize.ShloMosaic.Lib.WordCmp

@[expose] public section

set_option maxRecDepth 16384

noncomputable section

namespace Cert.PrepWords

open Idealize.ShloMosaic

/-- A grid row: the division by 64 that rounds down, as it is spelt out in words. -/
abbrev rowWord (t : BitVec 32) : BitVec 32 :=
  Scalar.select
    (IntOp.andi
      (IntOp.cmpi CmpIPredicate.ne (show BitVec 32 from if t = 0 then 0 else if t.msb = true then -1 else 1)
        (show BitVec 32 from if 64#32 = 0 then 0 else if (64#32).msb = true then -1 else 1))
      (IntOp.cmpi CmpIPredicate.ne (IntOp.remsi ArithUnit.host t 64#32) 0#32))
    (IntOp.subi (IntOp.divsi ArithUnit.host t 64#32) 1#32) (IntOp.divsi ArithUnit.host t 64#32)

/-- A grid column: the remainder by 64 with the divisor's sign, as it is spelt out in words. -/
abbrev colWord (t : BitVec 32) : BitVec 32 :=
  Scalar.select
    (IntOp.andi
      (IntOp.cmpi CmpIPredicate.ne
        (IntOp.cmpi CmpIPredicate.slt
          (IntOp.remsi ArithUnit.host t (Scalar.select (IntOp.cmpi CmpIPredicate.eq 64#32 0#32) 1#32 64#32)) 0#32)
        (IntOp.cmpi CmpIPredicate.slt (Scalar.select (IntOp.cmpi CmpIPredicate.eq 64#32 0#32) 1#32 64#32) 0#32))
      (IntOp.cmpi CmpIPredicate.ne
        (IntOp.remsi ArithUnit.host t (Scalar.select (IntOp.cmpi CmpIPredicate.eq 64#32 0#32) 1#32 64#32)) 0#32))
    (IntOp.addi (IntOp.remsi ArithUnit.host t (Scalar.select (IntOp.cmpi CmpIPredicate.eq 64#32 0#32) 1#32 64#32))
      (Scalar.select (IntOp.cmpi CmpIPredicate.eq 64#32 0#32) 1#32 64#32))
    (IntOp.remsi ArithUnit.host t (Scalar.select (IntOp.cmpi CmpIPredicate.eq 64#32 0#32) 1#32 64#32))

/-- A position's grid row or column in the reference: zero before and after the grid. -/
abbrev parted (f : BitVec 32 → BitVec 32) (p : ℕ) : BitVec 32 :=
  if p < 64 then 0#32 else if p - 64 < 16384 then f (BitVec.ofNat 32 (p - 64)) else 0#32

/-- A position's grid row or column in the kernel's tables: the position is clamped to the grid, and zero is chosen off it. -/
abbrev clamped (f : BitVec 32 → BitVec 32) (p : ℕ) : BitVec 32 :=
  Scalar.select
    (IntOp.andi (IntOp.cmpi CmpIPredicate.sge (BitVec.ofNat 32 p) 64#32) (IntOp.cmpi CmpIPredicate.slt (BitVec.ofNat 32 p) 16448#32))
    (f (IntOp.minsi (16383#32) (IntOp.maxsi (0#32) (IntOp.subi (BitVec.ofNat 32 p) 64#32)))) 0#32

/-- The two forms give one word at every position. -/
theorem words_agree (f : BitVec 32 → BitVec 32) (p : ℕ) (hp : p < 16512) : clamped f p = parted f p := by
  unfold clamped parted
  rw [show (64#32) = BitVec.ofNat 32 64 from rfl, show (16448#32) = BitVec.ofNat 32 16448 from rfl,
    Idealize.ShloMosaic.WordCmp.cmpi_slt_ofNat (by omega) (by omega), Idealize.ShloMosaic.WordCmp.cmpi_sge_ofNat (by omega) (by omega)]
  by_cases h : p < 64
  · simp [h, show ¬64 ≤ p by omega, Scalar.select, IntOp.andi]
  by_cases h' : p - 64 < 16384
  · have hw : IntOp.minsi (16383#32) (IntOp.maxsi (0#32) (IntOp.subi (BitVec.ofNat 32 p) (BitVec.ofNat 32 64))) = BitVec.ofNat 32 (p - 64) := by
      have h1 : IntOp.subi (BitVec.ofNat 32 p) (BitVec.ofNat 32 64) = BitVec.ofNat 32 (p - 64) := by
        unfold IntOp.subi
        bv_omega
      rw [h1]
      have h2 : (BitVec.ofNat 32 (p - 64)).toInt = ((p - 64 : ℕ) : ℤ) := by
        rw [BitVec.toInt_eq_toNat_cond, BitVec.toNat_ofNat, Nat.mod_eq_of_lt (by omega)]
        split <;> omega
      simp [IntOp.maxsi, IntOp.minsi, BitVec.slt, BitVec.sle, h2]
      rw [if_neg (show ¬((p - 64 : ℕ) : ℤ) < 0 by omega), h2, if_neg (show ¬(16383 : ℤ) < ((p - 64 : ℕ) : ℤ) by omega)]
    rw [hw]
    simp [h, h', show 64 ≤ p by omega, show p < 16448 by omega, Scalar.select, IntOp.andi]
  · simp [h, h', show ¬p < 16448 by omega, Scalar.select, IntOp.andi]

end Cert.PrepWords
-- ==== Proof.PrepRef.lean ====
module

public import proofs.«01_k».proof.Proof.Gen.PrepRefIdeal.Read
public import proofs.«01_k».proof.Proof.PrepWords
public import Idealize.ShloMosaic.Lib.StableHlo.ReadAt
public import Idealize.ShloMosaic.Lib.Pipeline.ValueKit

@[expose] public section

set_option maxRecDepth 16384

noncomputable section

namespace Cert.PrepRefIdeal.Tile

open Cert.PrepWords Cert.PrepRefIdeal Cert.PrepRefIdeal.Read Idealize.ShloMosaic Idealize.ShloMosaic.TcCoe Idealize.SL.Sem

/-- The grid row of a position. -/
theorem row_entry (y : S16512.Idx) : val_main_v3 (F := Ideal) y = parted rowWord (y 0).val := by
  pointwise [val_main_v3, val_main_v2, val_main_v1, val_main_v0, val_main_c, val_main_c_0, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13]
  rfl

/-- The grid column of a position. -/
theorem col_entry (y : S16512.Idx) : val_main_v5 (F := Ideal) y = parted colWord (y 0).val := by
  pointwise [val_main_v5, val_main_v4, val_main_v1, val_main_v0, val_main_c, val_main_c_1, val_main_call1_v0, val_main_call1_v1, val_main_call1_v2, val_main_call1_v3, val_main_call1_v4, val_main_call1_v5, val_main_call1_v6, val_main_call1_v7, val_main_call1_v8, val_main_call1_c, val_main_call1_v9, val_main_call1_v10, val_main_call1_v11, val_main_call1_c_0, val_main_call1_v12, val_main_call1_v13, val_main_call1_v14, val_main_call1_c_1, val_main_call1_c_2, val_main_call1_c_3]
  rfl

/-- The frequencies' word, an entry of the powers that both axes share. -/
abbrev freq (q : ℕ) : EReal :=
  Ideal.pow (Ideal.ofBits FTy.f32 1176256512#32)
    (Ideal.div (-(FloatOps.sitofp (F := Ideal) FTy.f32 (BitVec.ofNat 32 q) : EReal)) (Ideal.ofBits FTy.f32 1107296256#32))

/-- The angle by which a position turns a row pair. -/
theorem row_angle (y : S16512x32.Idx) : val_main_v34 (F := Ideal) y
    = (FloatOps.sitofp (F := Ideal) FTy.f32 (val_main_v3 (F := Ideal) (ix1 (y 0))) : EReal) * freq (y 1).val := by
  pointwise [val_main_v34, val_main_v33, val_main_v32, val_main_v31, val_main_v30, val_main_v29, val_main_v28, val_main_v27, val_main_v26, val_main_v25, val_main_v24, val_main_v23, val_main_cst_4, val_main_cst_5]

/-- The angle by which a position turns a column pair. -/
theorem col_angle (y : S16512x32.Idx) : val_main_v64 (F := Ideal) y
    = (FloatOps.sitofp (F := Ideal) FTy.f32 (val_main_v5 (F := Ideal) (ix1 (y 0))) : EReal) * freq (y 1).val := by
  pointwise [val_main_v64, val_main_v63, val_main_v62, val_main_v61, val_main_v60, val_main_v59, val_main_v58, val_main_v57, val_main_v56, val_main_v55, val_main_v54, val_main_v53, val_main_cst_6, val_main_cst_7]

/-- The keys' angles are the queries'. -/
theorem row_angle_keys (y : S16512x32.Idx) : val_main_v112 (F := Ideal) y = val_main_v34 (F := Ideal) y := by
  rw [row_angle]
  pointwise [val_main_v112, val_main_v111, val_main_v110, val_main_v109, val_main_v108, val_main_v107, val_main_v106, val_main_v105, val_main_v104, val_main_v103, val_main_v102, val_main_v101, val_main_cst_12, val_main_cst_13]

/-- The keys' angles are the queries'. -/
theorem col_angle_keys (y : S16512x32.Idx) : val_main_v142 (F := Ideal) y = val_main_v64 (F := Ideal) y := by
  rw [col_angle]
  pointwise [val_main_v142, val_main_v141, val_main_v140, val_main_v139, val_main_v138, val_main_v137, val_main_v136, val_main_v135, val_main_v134, val_main_v133, val_main_v132, val_main_v131, val_main_cst_14, val_main_cst_15]

/-- The angle of a position at a head's column: the grid row's in the first half of the head, the grid column's in the second. -/
def angle (r : Fin 16512) (j : ℕ) : EReal :=
  if j < 64 then val_main_v34 (F := Ideal) (ix2 r ⟨j % 32, Nat.mod_lt _ (by decide)⟩)
  else val_main_v64 (F := Ideal) (ix2 r ⟨j % 32, Nat.mod_lt _ (by decide)⟩)

/-- A head's row, turned by the angles: each column with the one 32 columns on or back. -/
def turn (N : ℕ → EReal) (A : ℕ → EReal) (j : ℕ) : EReal :=
  if j % 64 < 32 then N j * Ideal.cos (A j) - N (j + 32) * Ideal.sin (A j)
  else N j * Ideal.cos (A j) + N (j - 32) * Ideal.sin (A j)

/-- A query head's normed row. -/
def queryRow (P : FVec Ideal S33920x6912 .f32) (G : FVec Ideal S128 .f32) (r : Fin 16512) (h : Fin 4) (e : ℕ) : EReal :=
  val_main_v21 (F := Ideal) P G (ix3 r h ⟨e % 128, Nat.mod_lt _ (by decide)⟩)

/-- A key head's normed row. -/
def keyRow (P : FVec Ideal S33920x6912 .f32) (G : FVec Ideal S128 .f32) (r : Fin 16512) (h : Fin 2) (e : ℕ) : EReal :=
  val_main_v99 (F := Ideal) P G (ix3 r h ⟨e % 128, Nat.mod_lt _ (by decide)⟩)

/-- The first half of a query head in the reference. -/
theorem first_turned (P : FVec Ideal S33920x6912 .f32) (G : FVec Ideal S128 .f32) (r : Fin 16512) (h : Fin 4) (q : Fin 64) :
    val_main_v51 (F := Ideal) P G (ix3 r h q) = turn (queryRow P G r h) (angle r) q.val := by
  pointwise [val_main_v51, val_main_v50, val_main_v49, val_main_v48, val_main_v47, val_main_v46, val_main_v45, val_main_v44, val_main_v43, val_main_v42, val_main_v41, val_main_v40, val_main_v39, val_main_v38, val_main_v36, val_main_v22, val_main_v35, val_main_v37]
  have hq := q.isLt
  unfold turn queryRow angle
  by_cases hl : q.val < 32
  · simp only [dif_pos hl, if_pos hq, show q.val % 64 = q.val by omega, if_pos hl, show q.val % 32 = q.val by omega, show q.val % 128 = q.val by omega, show (q.val + 32) % 128 = 32 + q.val by omega]
  · simp only [dif_neg hl, if_pos hq, show q.val % 64 = q.val by omega, if_neg hl, show q.val % 32 = q.val - 32 by omega, show q.val % 128 = 32 + (q.val - 32) by omega, show (q.val - 32) % 128 = q.val - 32 by omega]

/-- The second half of a query head in the reference. -/
theorem second_turned (P : FVec Ideal S33920x6912 .f32) (G : FVec Ideal S128 .f32) (r : Fin 16512) (h : Fin 4) (q : Fin 64) :
    val_main_v81 (F := Ideal) P G (ix3 r h q) = turn (queryRow P G r h) (angle r) (64 + q.val) := by
  pointwise [val_main_v81, val_main_v80, val_main_v79, val_main_v78, val_main_v77, val_main_v76, val_main_v75, val_main_v74, val_main_v73, val_main_v72, val_main_v71, val_main_v70, val_main_v69, val_main_v68, val_main_v66, val_main_v52, val_main_v65, val_main_v67]
  have hq := q.isLt
  unfold turn queryRow angle
  by_cases hl : q.val < 32
  · simp only [dif_pos hl, if_neg (show ¬64 + q.val < 64 by omega), if_pos (show (64 + q.val) % 64 < 32 by omega), show (64 + q.val) % 32 = q.val by omega, show (64 + q.val) % 128 = 64 + q.val by omega, show (64 + q.val + 32) % 128 = 64 + (32 + q.val) by omega]
  · simp only [dif_neg hl, if_neg (show ¬64 + q.val < 64 by omega), if_neg (show ¬(64 + q.val) % 64 < 32 by omega), show (64 + q.val) % 32 = q.val - 32 by omega, show (64 + q.val) % 128 = 64 + (32 + (q.val - 32)) by omega, show (64 + q.val - 32) % 128 = 64 + (q.val - 32) by omega]

/-- A conditional equals what both of its branches equal. -/
theorem dite_to {α : Type} {p : Prop} [Decidable p] {a : p → α} {b : ¬p → α} {r : α} (h₁ : ∀ h, a h = r) (h₂ : ∀ h, b h = r) :
    dite p a b = r := by
  by_cases h : p
  · rw [dif_pos h]; exact h₁ h
  · rw [dif_neg h]; exact h₂ h

/-- The reference's queries: each head's normed row, turned and scaled. -/
theorem query_entry (P : FVec Ideal S33920x6912 .f32) (G : FVec Ideal S128 .f32) (r : Fin 16512) (k : Fin 512) :
    val_main_v168 (F := Ideal) P G (ix2 r k)
      = turn (queryRow P G r ⟨k.val / 128, by omega⟩) (angle r) (k.val % 128) * Ideal.ofBits FTy.f32 1035273459#32 := by
  pointwise [val_main_v168, val_main_v161, val_main_v84, val_main_v83, val_main_cst_8, val_main_v82]
  refine congrArg (fun a : EReal => a * _) ?_
  refine dite_to (fun hl => first_turned P G r ⟨k.val / 128, by omega⟩ ⟨k.val % 128, hl⟩) (fun hl => ?_)
  exact (second_turned P G r ⟨k.val / 128, by omega⟩ ⟨k.val % 128 - 64, by omega⟩).trans
    (congrArg _ (show 64 + (k.val % 128 - 64) = k.val % 128 by omega))

/-- The first half of a key head in the reference. -/
theorem first_key (P : FVec Ideal S33920x6912 .f32) (G : FVec Ideal S128 .f32) (r : Fin 16512) (h : Fin 2) (q : Fin 64) :
    val_main_v129 (F := Ideal) P G (ix3 r h q) = turn (keyRow P G r h) (angle r) q.val := by
  pointwise [val_main_v129, val_main_v128, val_main_v127, val_main_v126, val_main_v125, val_main_v124, val_main_v123, val_main_v122, val_main_v121, val_main_v120, val_main_v119, val_main_v118, val_main_v117, val_main_v116, val_main_v114, val_main_v100, val_main_v113, val_main_v115]
  simp only [row_angle_keys]
  have hq := q.isLt
  unfold turn keyRow angle
  by_cases hl : q.val < 32
  · simp only [dif_pos hl, if_pos hq, show q.val % 64 = q.val by omega, if_pos hl, show q.val % 32 = q.val by omega, show q.val % 128 = q.val by omega, show (q.val + 32) % 128 = 32 + q.val by omega]
  · simp only [dif_neg hl, if_pos hq, show q.val % 64 = q.val by omega, if_neg hl, show q.val % 32 = q.val - 32 by omega, show q.val % 128 = 32 + (q.val - 32) by omega, show (q.val - 32) % 128 = q.val - 32 by omega]

/-- The second half of a key head in the reference. -/
theorem second_key (P : FVec Ideal S33920x6912 .f32) (G : FVec Ideal S128 .f32) (r : Fin 16512) (h : Fin 2) (q : Fin 64) :
    val_main_v159 (F := Ideal) P G (ix3 r h q) = turn (keyRow P G r h) (angle r) (64 + q.val) := by
  pointwise [val_main_v159, val_main_v158, val_main_v157, val_main_v156, val_main_v155, val_main_v154, val_main_v153, val_main_v152, val_main_v151, val_main_v150, val_main_v149, val_main_v148, val_main_v147, val_main_v146, val_main_v144, val_main_v130, val_main_v143, val_main_v145]
  simp only [col_angle_keys]
  have hq := q.isLt
  unfold turn keyRow angle
  by_cases hl : q.val < 32
  · simp only [dif_pos hl, if_neg (show ¬64 + q.val < 64 by omega), if_pos (show (64 + q.val) % 64 < 32 by omega), show (64 + q.val) % 32 = q.val by omega, show (64 + q.val) % 128 = 64 + q.val by omega, show (64 + q.val + 32) % 128 = 64 + (32 + q.val) by omega]
  · simp only [dif_neg hl, if_neg (show ¬64 + q.val < 64 by omega), if_neg (show ¬(64 + q.val) % 64 < 32 by omega), show (64 + q.val) % 32 = q.val - 32 by omega, show (64 + q.val) % 128 = 64 + (32 + (q.val - 32)) by omega, show (64 + q.val - 32) % 128 = 64 + (q.val - 32) by omega]

/-- The reference's keys: each head's normed row, turned. -/
theorem key_entry (P : FVec Ideal S33920x6912 .f32) (G : FVec Ideal S128 .f32) (r : Fin 16512) (k : Fin 256) :
    val_main_v169 (F := Ideal) P G (ix2 r k) = turn (keyRow P G r ⟨k.val / 128, by omega⟩) (angle r) (k.val % 128) := by
  pointwise [val_main_v169, val_main_v162, val_main_v160]
  refine dite_to (fun hl => first_key P G r ⟨k.val / 128, by omega⟩ ⟨k.val % 128, hl⟩) (fun hl => ?_)
  exact (second_key P G r ⟨k.val / 128, by omega⟩ ⟨k.val % 128 - 64, by omega⟩).trans
    (congrArg _ (show 64 + (k.val % 128 - 64) = k.val % 128 by omega))

/-- A query head's normed row, from the projection. -/
theorem query_row (P : FVec Ideal S33920x6912 .f32) (G : FVec Ideal S128 .f32) (r : Fin 16512) (h : Fin 4) (e : Fin 128) (N : Fin 128 → EReal)
    (hN : ∀ k : Fin 128, N k = P (ix2 ⟨r.val, by omega⟩ ⟨h.val * 128 + k.val, by omega⟩)) :
    queryRow P G r h e.val
      = N e * Ideal.rsqrt (Ideal.div (∑ k, N k * N k) (Ideal.ofBits FTy.f32 1124073472#32) + Ideal.ofBits FTy.f32 897988541#32) * G (ix1 e) := by
  unfold queryRow
  pointwise [val_main_v21, val_main_v20, val_main_v19, val_main_v18, val_main_v17, val_main_v16, val_main_v15, val_main_v14, val_main_cst_3, val_main_v13, val_main_v12, val_main_cst_2, val_main_v11, val_main_v10, val_main_cst, val_main_v9, val_main_v8, val_main_v7, val_main_v6]
  simp only [Nat.mod_eq_of_lt e.isLt, ← hN]

/-- A key head's normed row, from the projection. -/
theorem key_row (P : FVec Ideal S33920x6912 .f32) (G : FVec Ideal S128 .f32) (r : Fin 16512) (h : Fin 2) (e : Fin 128) (N : Fin 128 → EReal)
    (hN : ∀ k : Fin 128, N k = P (ix2 ⟨r.val, by omega⟩ ⟨512 + (h.val * 128 + k.val), by omega⟩)) :
    keyRow P G r h e.val
      = N e * Ideal.rsqrt (Ideal.div (∑ k, N k * N k) (Ideal.ofBits FTy.f32 1124073472#32) + Ideal.ofBits FTy.f32 897988541#32) * G (ix1 e) := by
  unfold keyRow
  pointwise [val_main_v99, val_main_v98, val_main_v97, val_main_v96, val_main_v95, val_main_v94, val_main_v93, val_main_v92, val_main_cst_11, val_main_v91, val_main_v90, val_main_cst_10, val_main_v89, val_main_v88, val_main_cst_9, val_main_v87, val_main_v86, val_main_v85, val_main_v6]
  simp only [Nat.mod_eq_of_lt e.isLt, ← hN]

/-- The angle in the first half of a head, by the position's clamped grid row. -/
theorem angle_row (r : Fin 16512) (j : ℕ) (hj : j < 64) :
    angle r j = (FloatOps.sitofp (F := Ideal) FTy.f32 (clamped rowWord r.val) : EReal) * freq (j % 32) := by
  unfold angle
  rw [if_pos hj, row_angle, row_entry, words_agree _ _ r.isLt]
  rfl

/-- The angle in the second half of a head, by the position's clamped grid column. -/
theorem angle_col (r : Fin 16512) (j : ℕ) (hj : ¬j < 64) :
    angle r j = (FloatOps.sitofp (F := Ideal) FTy.f32 (clamped colWord r.val) : EReal) * freq (j % 32) := by
  unfold angle
  rw [if_neg hj, col_angle, col_entry, words_agree _ _ r.isLt]
  rfl

end Cert.PrepRefIdeal.Tile
-- ==== Proof.PrepHeads.lean ====
module

public import proofs.«01_k».proof.Proof.Gen.PrepIdeal.Skeleton
public import proofs.«01_k».proof.Proof.PrepRef
public import Idealize.ShloMosaic.Lib.StableHlo.ReadAt
public import Idealize.ShloMosaic.Lib.Pipeline.ValueKit

@[expose] public section

set_option maxRecDepth 16384

noncomputable section

namespace Cert.PrepIdeal.Tile

open Cert.PrepIdeal Cert.PrepIdeal.Gen Idealize.ShloMosaic Idealize.ShloMosaic.TcCoe Idealize.SL.Sem
open Cert.PrepRefIdeal.Tile (turn angle queryRow keyRow query_row key_row)

/-- The remainder by 64 of a lane's number, as it is spelt out in words, compared with 32. -/
abbrev laneWord (j : ℕ) : BitVec 1 :=
  IntOp.cmpi CmpIPredicate.slt
    (Scalar.select
      (IntOp.andi
        (IntOp.xori
          (IntOp.cmpi CmpIPredicate.slt
            (IntOp.remsi ArithUnit.vector (BitVec.ofNat 32 j) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 j) (Scalar.select (Scalar.cmpi CmpIPredicate.eq 64#32 0#32) 1#32 64#32)) 0#32))
      (IntOp.addi (IntOp.remsi ArithUnit.vector (BitVec.ofNat 32 j) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 j) (Scalar.select (Scalar.cmpi CmpIPredicate.eq 64#32 0#32) 1#32 64#32)))
    32#32

/-- Every lane's bit, by evaluation. -/
theorem lane_words : ∀ j : Fin 128, laneWord j.val = if j.val % 64 < 32 then 1#1 else 0#1 := by
  decide +kernel

/-- The lane's bit: set in the first half of each pair of halves. -/
theorem lane (y : S128x128.Idx) : k0_pay5 y = if (y 1).val % 64 < 32 then 1#1 else 0#1 := by
  pointwise [k0_pay5]
  exact lane_words (y 1)

/-- A query head as the kernel stores it. -/
abbrev queryHead (c s x : Vec Ideal S128x128 .f32) (g : Vec Ideal S1x128 .f32) : FVec Ideal S128x128 .bf16 :=
  k0_pay6 (F := Ideal) (k0_pay2 s) (k0_pay3 x g) (k0_pay4 c x g) k0_pay5 96#32

/-- A key head as the kernel stores it: as a query head, without the scale. -/
abbrev keyHead (c s x : Vec Ideal S128x128 .f32) (g : Vec Ideal S1x128 .f32) : FVec Ideal S128x128 .bf16 :=
  truncf .bf16 (addf (k0_pay4 (F := Ideal) c x g) (mulf (select k0_pay5
    (dynamicRotate 1 96#32 none (k0_pay3 (F := Ideal) x g) rotates_S128x128_d1)
    (dynamicRotate 1 32#32 none (k0_pay3 (F := Ideal) x g) rotates_S128x128_d1)) (k0_pay2 (F := Ideal) s))) bitsLt_bf16_f32

/-- The kernel's turn of a normed row: the row times the cosines, plus the row with its halves exchanged times the signed sines. -/
theorem turned (n : FVec Ideal S128x128 .f32) (y : S128x128.Idx) (C S : EReal) (N A : ℕ → EReal)
    (hN : ∀ e : Fin 128, n (ix2 (y 0) e) = N e.val) (hc : C = Ideal.cos (A (y 1).val))
    (hs : S = if (y 1).val % 64 < 32 then -Ideal.sin (A (y 1).val) else Ideal.sin (A (y 1).val)) :
    n y * C + Scalar.select (k0_pay5 y) (n (ix2 (y 0) ⟨((y 1).val + 128 - 96) % 128, Nat.mod_lt _ (by decide)⟩))
      (n (ix2 (y 0) ⟨((y 1).val + 128 - 32) % 128, Nat.mod_lt _ (by decide)⟩)) * S = turn N A (y 1).val := by
  have hy : (y 1).val < 128 := (y 1).isLt
  have hy2 : ix2 (y 0) (y 1) = y := by funext a; match a with | ⟨0, _⟩ => rfl | ⟨1, _⟩ => rfl
  have h0 : n y = N (y 1).val := (congrArg n hy2).symm.trans (hN (y 1))
  rw [h0, hN, hN, lane, hc, hs]
  unfold turn
  by_cases hl : (y 1).val % 64 < 32
  · rw [if_pos hl, if_pos hl, if_pos hl]
    show _ + N (((y 1).val + 128 - 96) % 128) * -Ideal.sin _ = _
    rw [show ((y 1).val + 128 - 96) % 128 = (y 1).val + 32 by omega, mul_neg, ← sub_eq_add_neg]
  · rw [if_neg hl, if_neg hl, if_neg hl]
    show _ + N (((y 1).val + 128 - 32) % 128) * Ideal.sin _ = _
    rw [show ((y 1).val + 128 - 32) % 128 = (y 1).val - 32 by omega]

/-- A query head's entry: its normed row, turned and scaled. -/
theorem query_head (c s x : Vec Ideal S128x128 .f32) (g : Vec Ideal S1x128 .f32) (y : S128x128.Idx) (N A : ℕ → EReal)
    (hN : ∀ e : Fin 128, k0_pay3 (F := Ideal) x g (ix2 (y 0) e) = N e.val) (hc : c y = Ideal.cos (A (y 1).val))
    (hs : s y = if (y 1).val % 64 < 32 then -Ideal.sin (A (y 1).val) else Ideal.sin (A (y 1).val)) :
    queryHead c s x g y = turn N A (y 1).val * Ideal.ofBits FTy.f32 1035273459#32 := by
  pointwise [queryHead, k0_pay6, k0_pay4, k0_pay2, k0_pay1]
  exact congrArg (fun a : EReal => a * _) (turned (k0_pay3 (F := Ideal) x g) y _ _ N A hN hc hs)

/-- A key head's entry: its normed row, turned. -/
theorem key_head (c s x : Vec Ideal S128x128 .f32) (g : Vec Ideal S1x128 .f32) (y : S128x128.Idx) (N A : ℕ → EReal)
    (hN : ∀ e : Fin 128, k0_pay3 (F := Ideal) x g (ix2 (y 0) e) = N e.val) (hc : c y = Ideal.cos (A (y 1).val))
    (hs : s y = if (y 1).val % 64 < 32 then -Ideal.sin (A (y 1).val) else Ideal.sin (A (y 1).val)) :
    keyHead c s x g y = turn N A (y 1).val := by
  pointwise [keyHead, k0_pay4, k0_pay2, k0_pay1]
  exact turned (k0_pay3 (F := Ideal) x g) y _ _ N A hN hc hs

/-- A query head's row in the tile is the reference's normed row. -/
theorem query_norm (x : Vec Ideal S128x128 .f32) (g : Vec Ideal S1x128 .f32) (P : FVec Ideal S33920x6912 .f32) (G : FVec Ideal S128 .f32)
    (i : Fin 128) (r : Fin 16512) (h : Fin 4) (hx : ∀ k : Fin 128, x (ix2 i k) = P (ix2 ⟨r.val, by omega⟩ ⟨h.val * 128 + k.val, by omega⟩))
    (hg : ∀ k : Fin 128, g (ix2 0 k) = G (ix1 k)) (e : Fin 128) :
    k0_pay3 (F := Ideal) x g (ix2 i e) = queryRow P G r h e.val := by
  refine Eq.trans ?_ (query_row P G r h e (fun k => x (ix2 i k)) hx).symm
  pointwise [k0_pay3]
  rw [hg]

/-- A key head's row in the tile is the reference's normed row. -/
theorem key_norm (x : Vec Ideal S128x128 .f32) (g : Vec Ideal S1x128 .f32) (P : FVec Ideal S33920x6912 .f32) (G : FVec Ideal S128 .f32)
    (i : Fin 128) (r : Fin 16512) (h : Fin 2) (hx : ∀ k : Fin 128, x (ix2 i k) = P (ix2 ⟨r.val, by omega⟩ ⟨512 + (h.val * 128 + k.val), by omega⟩))
    (hg : ∀ k : Fin 128, g (ix2 0 k) = G (ix1 k)) (e : Fin 128) :
    k0_pay3 (F := Ideal) x g (ix2 i e) = keyRow P G r h e.val := by
  refine Eq.trans ?_ (key_row P G r h e (fun k => x (ix2 i k)) hx).symm
  pointwise [k0_pay3]
  rw [hg]

end Cert.PrepIdeal.Tile
-- ==== Proof.PrepTables.lean ====
module

public import proofs.«01_k».proof.Proof.Gen.PrepIdeal.Frame.Runs
public import proofs.«01_k».proof.Proof.PrepRef
public import Idealize.ShloMosaic.Lib.StableHlo.ReadAt
public import Idealize.ShloMosaic.Lib.Pipeline.ValueKit

@[expose] public section

set_option maxRecDepth 16384

noncomputable section

namespace Cert.PrepIdeal.Tile

open Cert.PrepWords Cert.PrepIdeal Cert.PrepIdeal.Gen Idealize.ShloMosaic Idealize.ShloMosaic.TcCoe Idealize.SL.Sem
open Idealize.ShloMosaic.Pipeline (Dat)
open Cert.PrepRefIdeal.Tile (dite_to angle angle_row angle_col turn freq)

variable (m : (ℓ : Loc nD τ sig) → Buf (Elt Ideal) ℓ)

set_option maxHeartbeats 2000000 in
/-- The cosine table: at each column the cosine of its angle. -/
theorem cos_entry (c : Dev nD) (y : S16512x128.Idx) :
    V m c main_v35 y = Ideal.cos (angle (y 0) (y 1).val) := by
  have hy : (y 1).val < 128 := (y 1).isLt
  unfold V
  after_reads_at
  refine dite_to (fun h0 => ?_) (fun h0 => ?_)
  · after_reads_at
    pointwise [id]
    exact congrArg (fun a : EReal => Ideal.cos a) ((angle_row (y 0) (y 1).val (by omega)).trans
      (congrArg (fun k => _ * freq k) (show (y 1).val % 32 = (y 1).val by omega))).symm
  refine dite_to (fun h1 => ?_) (fun h1 => ?_)
  · after_reads_at
    pointwise [id]
    exact congrArg (fun a : EReal => Ideal.cos a) ((angle_row (y 0) (y 1).val (by omega)).trans
      (congrArg (fun k => _ * freq k) (show (y 1).val % 32 = (y 1).val - 32 by omega))).symm
  refine dite_to (fun h2 => ?_) (fun h2 => ?_)
  · after_reads_at
    pointwise [id]
    exact congrArg (fun a : EReal => Ideal.cos a) ((angle_col (y 0) (y 1).val (by omega)).trans
      (congrArg (fun k => _ * freq k) (show (y 1).val % 32 = (y 1).val - 32 - 32 by omega))).symm
  after_reads_at
  pointwise [id]
  exact congrArg (fun a : EReal => Ideal.cos a) ((angle_col (y 0) (y 1).val (by omega)).trans
    (congrArg (fun k => _ * freq k) (show (y 1).val % 32 = (y 1).val - 32 - 32 - 32 by omega))).symm

set_option maxHeartbeats 2000000 in
/-- The sine table: at each column the sine of its angle, negated in the first half of each pair of halves. -/
theorem sin_entry (c : Dev nD) (y : S16512x128.Idx) :
    V m c main_v42 y = if (y 1).val % 64 < 32 then -Ideal.sin (angle (y 0) (y 1).val) else Ideal.sin (angle (y 0) (y 1).val) := by
  have hy : (y 1).val < 128 := (y 1).isLt
  unfold V
  after_reads_at
  refine dite_to (fun h0 => ?_) (fun h0 => ?_)
  · refine Eq.trans ?_ (if_pos (show (y 1).val % 64 < 32 by omega)).symm
    after_reads_at
    pointwise [id]
    exact congrArg (fun a : EReal => -Ideal.sin a) ((angle_row (y 0) (y 1).val (by omega)).trans
      (congrArg (fun k => _ * freq k) (show (y 1).val % 32 = (y 1).val by omega))).symm
  refine dite_to (fun h1 => ?_) (fun h1 => ?_)
  · refine Eq.trans ?_ (if_neg (show ¬(y 1).val % 64 < 32 by omega)).symm
    after_reads_at
    pointwise [id]
    exact congrArg (fun a : EReal => Ideal.sin a) ((angle_row (y 0) (y 1).val (by omega)).trans
      (congrArg (fun k => _ * freq k) (show (y 1).val % 32 = (y 1).val - 32 by omega))).symm
  refine dite_to (fun h2 => ?_) (fun h2 => ?_)
  · refine Eq.trans ?_ (if_pos (show (y 1).val % 64 < 32 by omega)).symm
    after_reads_at
    pointwise [id]
    exact congrArg (fun a : EReal => -Ideal.sin a) ((angle_col (y 0) (y 1).val (by omega)).trans
      (congrArg (fun k => _ * freq k) (show (y 1).val % 32 = (y 1).val - 32 - 32 by omega))).symm
  refine Eq.trans ?_ (if_neg (show ¬(y 1).val % 64 < 32 by omega)).symm
  after_reads_at
  pointwise [id]
  exact congrArg (fun a : EReal => Ideal.sin a) ((angle_col (y 0) (y 1).val (by omega)).trans
    (congrArg (fun k => _ * freq k) (show (y 1).val % 32 = (y 1).val - 32 - 32 - 32 by omega))).symm

end Cert.PrepIdeal.Tile
-- ==== Proof.Prep.lean ====
module

public import proofs.«01_k».proof.Proof.Gen.PrepIdeal.Value
public import proofs.«01_k».proof.Proof.Gen.PrepRefIdeal.Read
public import proofs.«01_k».proof.Proof.PrepCopies
public import proofs.«01_k».proof.Proof.PrepHeads
public import proofs.«01_k».proof.Proof.PrepTables
public import Idealize.ShloMosaic.Lib.StableHlo.ReadAt
public import Idealize.ShloMosaic.Lib.Pipeline.ValueKit

@[expose] public section

set_option maxRecDepth 16384

noncomputable section

namespace Cert.PrepIdeal.Tile

open Cert.PrepIdeal Cert.PrepIdeal.Gen Idealize.ShloMosaic Idealize.ShloMosaic.TcCoe Idealize.SL.Sem
open Idealize.ShloMosaic.Pipeline (Dat)
open Cert.PrepRefIdeal.Tile (turn angle queryRow keyRow query_entry key_entry)

variable (m : (ℓ : Loc nD τ sig) → Buf (Elt Ideal) ℓ)

/-- An entry of the cosines' window is the entry of their table at the tile's row. -/
theorem cosines_entry (c : Dev nD) (t : Fin cfg0.N) (y : S128x128.Idx) (R : Fin 16512) (C : Fin 128)
    (hR : R.val = t.val * 128 + (y 0).val) (hC : C.val = (y 1).val) : iblk m c 4 t y = V m c main_v35 (ix2 R C) := by
  blk_point [iblk, tile_at t]

/-- An entry of the signed sines' window is the entry of their table at the tile's row. -/
theorem sines_entry (c : Dev nD) (t : Fin cfg0.N) (y : S128x128.Idx) (R : Fin 16512) (C : Fin 128)
    (hR : R.val = t.val * 128 + (y 0).val) (hC : C.val = (y 1).val) : iblk m c 5 t y = V m c main_v42 (ix2 R C) := by
  blk_point [iblk, tile_at t]

set_option maxHeartbeats 2000000 in
/-- The row of the query gains is the gains. -/
theorem query_gain_row (c : Dev nD) (y : S1x128.Idx) : V m c main_v50 y = m ((c : Thread nD τ).loc main_arg1) (ix1 (y 1)) := by
  have h : (y 0).val < 1 := (y 0).isLt
  have h1 : (y 1).val < 128 := (y 1).isLt
  unfold V
  after_reads_at

/-- The query gains' window is the gains. -/
theorem query_gain_entry (c : Dev nD) (t : Fin cfg0.N) (y : S1x128.Idx) (C : Fin 128) (hC : C.val = (y 1).val) :
    iblk m c 6 t y = m ((c : Thread nD τ).loc main_arg1) (ix1 C) := by
  have h : (y 0).val < 1 := (y 0).isLt
  have e : iblk m c 6 t y = V m c main_v50 y := by
    blk_point [iblk, tile_at t]
  exact e.trans ((query_gain_row m c y).trans (congrArg (fun k : Fin 128 => m ((c : Thread nD τ).loc main_arg1) (ix1 k)) (Fin.ext hC.symm)))

set_option maxHeartbeats 2000000 in
/-- The row of the key gains is the gains. -/
theorem key_gain_row (c : Dev nD) (y : S1x128.Idx) : V m c main_v51 y = m ((c : Thread nD τ).loc main_arg2) (ix1 (y 1)) := by
  have h : (y 0).val < 1 := (y 0).isLt
  have h1 : (y 1).val < 128 := (y 1).isLt
  unfold V
  after_reads_at

/-- The key gains' window is the gains. -/
theorem key_gain_entry (c : Dev nD) (t : Fin cfg0.N) (y : S1x128.Idx) (C : Fin 128) (hC : C.val = (y 1).val) :
    iblk m c 7 t y = m ((c : Thread nD τ).loc main_arg2) (ix1 C) := by
  have h : (y 0).val < 1 := (y 0).isLt
  have e : iblk m c 7 t y = V m c main_v51 y := by
    blk_point [iblk, tile_at t]
  exact e.trans ((key_gain_row m c y).trans (congrArg (fun k : Fin 128 => m ((c : Thread nD τ).loc main_arg2) (ix1 k)) (Fin.ext hC.symm)))

/-- What the query head from column `o` of the output stores is the reference's value at the array's row and column. -/
theorem query_piece (c : Dev nD) (t : Fin cfg0.N) (z : S16512x512.Idx) (o o' : ℕ)
    (inb : ∀ a, (![0, o'] : Fin 2 → ℕ) a + S128x128.size a ≤ S128x1024.size a) (ho : o % 128 = 0) (ho' : o' = 0 + o)
    (x : S128x128.Idx) (h0 : (z 0).val = t.val * 128 + (x 0).val) (h1 : (z 1).val = o + (x 1).val) :
    queryHead (View.ld (iblk m c 4 t) (Rect.unit ![0, 0] S128x128.size inb_S128x128_S128x128_0_0))
      (View.ld (iblk m c 5 t) (Rect.unit ![0, 0] S128x128.size inb_S128x128_S128x128_0_0))
      (View.ld (X0_0 m c t) (Rect.unit ![0, o'] S128x128.size inb))
      (View.ld (iblk m c 6 t) (Rect.unit ![0, 0] S1x128.size inb_S1x128_S1x128_0_0)) x
    = Cert.PrepRefIdeal.Read.val_main_v168 (F := Ideal) (m ((c : Thread nD τ).loc main_arg0)) (m ((c : Thread nD τ).loc main_arg1)) z := by
  have hx0 : (x 0).val < 128 := (x 0).isLt
  have hx1 : (x 1).val < 128 := (x 1).isLt
  have hz : (z 0).val < 16512 := (z 0).isLt
  have hz' : (z 1).val < 512 := (z 1).isLt
  have hz2 : ix2 (z 0) (z 1) = z := by funext a; match a with | ⟨0, _⟩ => rfl | ⟨1, _⟩ => rfl
  have hzm : (x 1).val = (z 1).val % 128 := by omega
  refine Eq.trans ?_ (congrArg (Cert.PrepRefIdeal.Read.val_main_v168 (F := Ideal) (m ((c : Thread nD τ).loc main_arg0)) (m ((c : Thread nD τ).loc main_arg1))) hz2)
  refine Eq.trans ?_ (query_entry (m ((c : Thread nD τ).loc main_arg0)) (m ((c : Thread nD τ).loc main_arg1)) (z 0) (z 1)).symm
  refine (query_head _ _ _ _ x (queryRow (m ((c : Thread nD τ).loc main_arg0)) (m ((c : Thread nD τ).loc main_arg1)) (z 0) ⟨(z 1).val / 128, by omega⟩) (angle (z 0)) (fun e => ?_) ?_ ?_).trans ?_
  · refine query_norm _ _ (m ((c : Thread nD τ).loc main_arg0)) (m ((c : Thread nD τ).loc main_arg1)) (x 0) (z 0) ⟨(z 1).val / 128, by omega⟩ (fun k => ?_) (fun k => ?_) e
    · exact heads_entry m c t ((Rect.unit (s := S128x1024) ![0, o'] S128x128.size inb).idx (ix2 (x 0) k)) _ _
        (h0.trans (congrArg _ (show (x 0).val = 0 + 1 * (x 0).val by omega)))
        (show ((z 1).val / 128 * 128 + k.val) = 0 + (o' + 1 * k.val) by omega)
    · exact query_gain_entry m c t ((Rect.unit (s := S1x128) ![0, 0] S1x128.size inb_S1x128_S1x128_0_0).idx (ix2 0 k)) _
        (show k.val = 0 + 1 * k.val by omega)
  · exact (cosines_entry m c t ((Rect.unit (s := S128x128) ![0, 0] S128x128.size inb_S128x128_S128x128_0_0).idx x) (z 0) (x 1)
      (h0.trans (congrArg _ (show (x 0).val = 0 + 1 * (x 0).val by omega))) (show (x 1).val = 0 + 1 * (x 1).val by omega)).trans
      (cos_entry m c (ix2 (z 0) (x 1)))
  · exact (sines_entry m c t ((Rect.unit (s := S128x128) ![0, 0] S128x128.size inb_S128x128_S128x128_0_0).idx x) (z 0) (x 1)
      (h0.trans (congrArg _ (show (x 0).val = 0 + 1 * (x 0).val by omega))) (show (x 1).val = 0 + 1 * (x 1).val by omega)).trans
      (sin_entry m c (ix2 (z 0) (x 1)))
  · rw [hzm]

/-- What the key head from column `o` of the output stores is the reference's value at the array's row and column. -/
theorem key_piece (c : Dev nD) (t : Fin cfg0.N) (z : S16512x256.Idx) (o o' : ℕ)
    (inb : ∀ a, (![0, o'] : Fin 2 → ℕ) a + S128x128.size a ≤ S128x1024.size a) (ho : o % 128 = 0) (ho' : o' = 512 + o)
    (x : S128x128.Idx) (h0 : (z 0).val = t.val * 128 + (x 0).val) (h1 : (z 1).val = o + (x 1).val) :
    keyHead (View.ld (iblk m c 4 t) (Rect.unit ![0, 0] S128x128.size inb_S128x128_S128x128_0_0))
      (View.ld (iblk m c 5 t) (Rect.unit ![0, 0] S128x128.size inb_S128x128_S128x128_0_0))
      (View.ld (X0_0 m c t) (Rect.unit ![0, o'] S128x128.size inb))
      (View.ld (iblk m c 7 t) (Rect.unit ![0, 0] S1x128.size inb_S1x128_S1x128_0_0)) x
    = Cert.PrepRefIdeal.Read.val_main_v169 (F := Ideal) (m ((c : Thread nD τ).loc main_arg0)) (m ((c : Thread nD τ).loc main_arg2)) z := by
  have hx0 : (x 0).val < 128 := (x 0).isLt
  have hx1 : (x 1).val < 128 := (x 1).isLt
  have hz : (z 0).val < 16512 := (z 0).isLt
  have hz' : (z 1).val < 256 := (z 1).isLt
  have hz2 : ix2 (z 0) (z 1) = z := by funext a; match a with | ⟨0, _⟩ => rfl | ⟨1, _⟩ => rfl
  have hzm : (x 1).val = (z 1).val % 128 := by omega
  refine Eq.trans ?_ (congrArg (Cert.PrepRefIdeal.Read.val_main_v169 (F := Ideal) (m ((c : Thread nD τ).loc main_arg0)) (m ((c : Thread nD τ).loc main_arg2))) hz2)
  refine Eq.trans ?_ (key_entry (m ((c : Thread nD τ).loc main_arg0)) (m ((c : Thread nD τ).loc main_arg2)) (z 0) (z 1)).symm
  refine (key_head _ _ _ _ x (keyRow (m ((c : Thread nD τ).loc main_arg0)) (m ((c : Thread nD τ).loc main_arg2)) (z 0) ⟨(z 1).val / 128, by omega⟩) (angle (z 0)) (fun e => ?_) ?_ ?_).trans ?_
  · refine key_norm _ _ (m ((c : Thread nD τ).loc main_arg0)) (m ((c : Thread nD τ).loc main_arg2)) (x 0) (z 0) ⟨(z 1).val / 128, by omega⟩ (fun k => ?_) (fun k => ?_) e
    · exact heads_entry m c t ((Rect.unit (s := S128x1024) ![0, o'] S128x128.size inb).idx (ix2 (x 0) k)) _ _
        (h0.trans (congrArg _ (show (x 0).val = 0 + 1 * (x 0).val by omega)))
        (show 512 + ((z 1).val / 128 * 128 + k.val) = 0 + (o' + 1 * k.val) by omega)
    · exact key_gain_entry m c t ((Rect.unit (s := S1x128) ![0, 0] S1x128.size inb_S1x128_S1x128_0_0).idx (ix2 0 k)) _
        (show k.val = 0 + 1 * k.val by omega)
  · exact (cosines_entry m c t ((Rect.unit (s := S128x128) ![0, 0] S128x128.size inb_S128x128_S128x128_0_0).idx x) (z 0) (x 1)
      (h0.trans (congrArg _ (show (x 0).val = 0 + 1 * (x 0).val by omega))) (show (x 1).val = 0 + 1 * (x 1).val by omega)).trans
      (cos_entry m c (ix2 (z 0) (x 1)))
  · exact (sines_entry m c t ((Rect.unit (s := S128x128) ![0, 0] S128x128.size inb_S128x128_S128x128_0_0).idx x) (z 0) (x 1)
      (h0.trans (congrArg _ (show (x 0).val = 0 + 1 * (x 0).val by omega))) (show (x 1).val = 0 + 1 * (x 1).val by omega)).trans
      (sin_entry m c (ix2 (z 0) (x 1)))
  · rw [hzm]

/-- A tile's entry of output 0 is the reference's value at the array's row and column. -/
theorem point8 (c : Dev nD) (t : Fin cfg0.N) (y : S128x512.Idx) (z : S16512x512.Idx) (hz0 : (z 0).val = t.val * 128 + (y 0).val)
    (hz1 : (z 1).val = (y 1).val) : (outsAt0 m c t).1 y = Cert.PrepRefIdeal.Read.val_main_v168 (F := Ideal) (m ((c : Thread nD τ).loc main_arg0)) (m ((c : Thread nD τ).loc main_arg1)) z := by
  have hy0 : (y 0).val < 128 := (y 0).isLt
  have hy1 : (y 1).val < 512 := (y 1).isLt
  have ht : t.val < 129 := t.isLt
  unfold outsAt0
  dsimp only
  unfold out0_A_8
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (X0_3 m c t) (iblk m c 4 t) (iblk m c 5 t) (iblk m c 6 t) (iblk m c 7 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  canon_tiles x h
  · exact query_piece m c t z 384 384 _ rfl rfl x (by omega) (by omega)
  · exact query_piece m c t z 256 256 _ rfl rfl x (by omega) (by omega)
  · exact query_piece m c t z 128 128 _ rfl rfl x (by omega) (by omega)
  · exact query_piece m c t z 0 0 _ rfl rfl x (by omega) (by omega)

/-- Output 0, as the kernel leaves it, is the reference's. -/
theorem final8 (c : Dev nD) : (dats m 0 c).arrAt 8 cfg0.N = Cert.PrepRefIdeal.Read.val_main_v168 (F := Ideal) (m ((c : Thread nD τ).loc main_arg0)) (m ((c : Thread nD τ).loc main_arg1)) := by
  refine (dats m 0 c).arrAt_eq_of_covers 8 _ (by decide +kernel) fun t _ y => ?_
  blk_simp
  rw [after0_8]
  refine point8 m c t y _ ?_ ?_
  all_goals (blk_simp [tile_at t] <;> try omega)

/-- A tile's entry of output 1 is the reference's value at the array's row and column. -/
theorem point9 (c : Dev nD) (t : Fin cfg0.N) (y : S128x256.Idx) (z : S16512x256.Idx) (hz0 : (z 0).val = t.val * 128 + (y 0).val)
    (hz1 : (z 1).val = (y 1).val) : (outsAt0 m c t).2.1 y = Cert.PrepRefIdeal.Read.val_main_v169 (F := Ideal) (m ((c : Thread nD τ).loc main_arg0)) (m ((c : Thread nD τ).loc main_arg2)) z := by
  have hy0 : (y 0).val < 128 := (y 0).isLt
  have hy1 : (y 1).val < 256 := (y 1).isLt
  have ht : t.val < 129 := t.isLt
  unfold outsAt0
  dsimp only
  unfold out0_A_9
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (X0_3 m c t) (iblk m c 4 t) (iblk m c 5 t) (iblk m c 6 t) (iblk m c 7 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  canon_tiles x h
  · exact key_piece m c t z 128 640 _ rfl rfl x (by omega) (by omega)
  · exact key_piece m c t z 0 512 _ rfl rfl x (by omega) (by omega)

/-- Output 1, as the kernel leaves it, is the reference's. -/
theorem final9 (c : Dev nD) : (dats m 0 c).arrAt 9 cfg0.N = Cert.PrepRefIdeal.Read.val_main_v169 (F := Ideal) (m ((c : Thread nD τ).loc main_arg0)) (m ((c : Thread nD τ).loc main_arg2)) := by
  refine (dats m 0 c).arrAt_eq_of_covers 9 _ (by decide +kernel) fun t _ y => ?_
  blk_simp
  rw [after0_9]
  refine point9 m c t y _ ?_ ?_
  all_goals (blk_simp [tile_at t] <;> try omega)

end Cert.PrepIdeal.Tile
-- ==== Proof.PrepPair.lean ====
module

public import proofs.«01_k».proof.Defs
public import proofs.«01_k».proof.Proof.Gen.PrepRefIdeal
public import proofs.«01_k».proof.Proof.Gen.PrepIdeal.Frame
public import proofs.«01_k».proof.Proof.Gen.PrepIdeal.Value
public import proofs.«01_k».proof.Proof.Gen.PrepRefIdeal.Read
public import proofs.«01_k».proof.Proof.Prep
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference of the preparation of the attentions' queries and keys runs and leaves its arguments as they are. -/
theorem reference_Prep : Cert.quiescent_PrepRefIdeal := fun m g _ =>
  (θ_run Cert.PrepRefIdeal.defs _ _).mono (fun r h => ⟨fun c => (h c).2.2.2.2.2, sem_eq_zero_of_no_sems (by decide) r.2⟩)
    (Cert.PrepRefIdeal.Value.run (F := Ideal) m g)

/-- The reference of the preparation of the attentions' queries and keys leaves its values. -/
theorem leaves_Prep (m : (ℓ : Loc Cert.PrepRefIdeal.nD Cert.PrepRefIdeal.τ Cert.PrepRefIdeal.sig) → Buf (Elt Ideal) ℓ) (g : Dev Cert.PrepRefIdeal.nD → PrngReg) :
    θ_run (Cert.PrepRefIdeal.defs (F := Ideal)) (onTc (τ := Cert.PrepRefIdeal.τ) (Cert.PrepRefIdeal.main (F := Ideal))) ⟨m, fun _ => 0, g⟩ (fun r => ∀ c : Dev Cert.PrepRefIdeal.nD,
      r.2.mem ((c.tc : Thread Cert.PrepRefIdeal.nD Cert.PrepRefIdeal.τ).loc Cert.PrepRefIdeal.main_v168)
        = Cert.PrepRefIdeal.Read.val_main_v168 (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1))
      ∧ r.2.mem ((c.tc : Thread Cert.PrepRefIdeal.nD Cert.PrepRefIdeal.τ).loc Cert.PrepRefIdeal.main_v169)
        = Cert.PrepRefIdeal.Read.val_main_v169 (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg2))
      ∧ r.2.mem ((c.tc : Thread Cert.PrepRefIdeal.nD Cert.PrepRefIdeal.τ).loc Cert.PrepRefIdeal.main_v170)
        = Cert.PrepRefIdeal.Read.val_main_v170 (F := Ideal) (m ((c.tc : Thread Cert.PrepRefIdeal.nD Cert.PrepRefIdeal.τ).loc Cert.PrepRefIdeal.main_arg0))
      ∧ r.2.mem ((c.tc : Thread Cert.PrepRefIdeal.nD Cert.PrepRefIdeal.τ).loc Cert.PrepRefIdeal.main_v171)
        = Cert.PrepRefIdeal.Read.val_main_v171 (F := Ideal) (m ((c.tc : Thread Cert.PrepRefIdeal.nD Cert.PrepRefIdeal.τ).loc Cert.PrepRefIdeal.main_arg0))
      ∧ r.2.mem ((c.tc : Thread Cert.PrepRefIdeal.nD Cert.PrepRefIdeal.τ).loc Cert.PrepRefIdeal.main_v172)
        = Cert.PrepRefIdeal.Read.val_main_v172 (F := Ideal) (m ((c.tc : Thread Cert.PrepRefIdeal.nD Cert.PrepRefIdeal.τ).loc Cert.PrepRefIdeal.main_arg0))
      ∧ r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)) :=
  (θ_run Cert.PrepRefIdeal.defs _ _).mono (fun r h c => ⟨(h c).1.trans (Cert.PrepRefIdeal.Read.val_main_v168_eq (F := Ideal) _), (h c).2.1.trans (Cert.PrepRefIdeal.Read.val_main_v169_eq (F := Ideal) _), (h c).2.2.1.trans (Cert.PrepRefIdeal.Read.val_main_v170_eq (F := Ideal) _), (h c).2.2.2.1.trans (Cert.PrepRefIdeal.Read.val_main_v171_eq (F := Ideal) _), (h c).2.2.2.2.1.trans (Cert.PrepRefIdeal.Read.val_main_v172_eq (F := Ideal) _), (h c).2.2.2.2.2⟩)
    (Cert.PrepRefIdeal.Value.run (F := Ideal) m g)

set_option maxHeartbeats 4000000 in
/-- The kernel of the preparation of the attentions' queries and keys leaves the reference's values. -/
theorem kernel_Prep (m : (ℓ : Loc Cert.PrepIdeal.nD Cert.PrepIdeal.τ Cert.PrepIdeal.sig) → Buf (Elt Ideal) ℓ) (g : Dev Cert.PrepIdeal.nD → PrngReg) :
    θ_run (Cert.PrepIdeal.defs (F := Ideal)) (onTc (τ := Cert.PrepIdeal.τ) (Cert.PrepIdeal.main (F := Ideal))) ⟨m, fun _ => 0, g⟩ (fun r => ∀ c : Dev Cert.PrepIdeal.nD,
      r.2.mem ((c.tc : Thread Cert.PrepIdeal.nD Cert.PrepIdeal.τ).loc Cert.PrepIdeal.main_v52_0)
        = Cert.PrepRefIdeal.Read.val_main_v168 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1))
      ∧ r.2.mem ((c.tc : Thread Cert.PrepIdeal.nD Cert.PrepIdeal.τ).loc Cert.PrepIdeal.main_v52_1)
        = Cert.PrepRefIdeal.Read.val_main_v169 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg2))
      ∧ r.2.mem ((c.tc : Thread Cert.PrepIdeal.nD Cert.PrepIdeal.τ).loc Cert.PrepIdeal.main_v52_2)
        = Cert.PrepRefIdeal.Read.val_main_v170 (F := Ideal) (m ((c.tc : Thread Cert.PrepIdeal.nD Cert.PrepIdeal.τ).loc Cert.PrepIdeal.main_arg0))
      ∧ r.2.mem ((c.tc : Thread Cert.PrepIdeal.nD Cert.PrepIdeal.τ).loc Cert.PrepIdeal.main_v52_3)
        = Cert.PrepRefIdeal.Read.val_main_v171 (F := Ideal) (m ((c.tc : Thread Cert.PrepIdeal.nD Cert.PrepIdeal.τ).loc Cert.PrepIdeal.main_arg0))
      ∧ r.2.mem ((c.tc : Thread Cert.PrepIdeal.nD Cert.PrepIdeal.τ).loc Cert.PrepIdeal.main_v52_4)
        = Cert.PrepRefIdeal.Read.val_main_v172 (F := Ideal) (m ((c.tc : Thread Cert.PrepIdeal.nD Cert.PrepIdeal.τ).loc Cert.PrepIdeal.main_arg0))
      ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)) := by
  refine (θ_run Cert.PrepIdeal.defs _ _).mono (fun r h c => ?_)
    (θ_run_and (Cert.PrepIdeal.Gen.run_main m g) (Cert.PrepIdeal.Gen.unchanged m g))
  refine ⟨?_, ?_, ?_, ?_, ?_, h.2 c⟩
  · exact ((h.1 c).1 8).trans (Cert.PrepIdeal.Tile.final8 m c)
  · exact ((h.1 c).1 9).trans (Cert.PrepIdeal.Tile.final9 m c)
  · exact ((h.1 c).1 10).trans (Cert.PrepIdeal.Tile.final10 m c)
  · exact ((h.1 c).1 11).trans (Cert.PrepIdeal.Tile.final11 m c)
  · exact ((h.1 c).1 12).trans (Cert.PrepIdeal.Tile.final12 m c)

/-- Over the reals extended by the infinities, the kernel of the preparation of the attentions' queries and keys and its reference compute one function. -/
theorem value_Prep : Cert.algebraic_PrepIdeal_PrepRefIdeal := fun m g m' g' _ hagree =>
  ⟨_, _, _, _, _, kernel_Prep m g, (θ_run Cert.PrepRefIdeal.defs _ _).mono
    (fun r h c => ⟨(h c).1.trans (congrArg₂ _ (hagree c).1 (hagree c).2.1), (h c).2.1.trans (congrArg₂ _ (hagree c).1 (hagree c).2.2), (h c).2.2.1.trans (congrArg _ (hagree c).1), (h c).2.2.2.1.trans (congrArg _ (hagree c).1), (h c).2.2.2.2.1.trans (congrArg _ (hagree c).1), (h c).2.2.2.2.2⟩) (leaves_Prep m' g')⟩

end Cert.Proof
-- ==== Proof.lean ====
/-
The proof of `Cert.Claim`, assembled. The values are proved in the modules `Proof.Down`, `Proof.GateUp` and so on, one for
each call: there `final` says that the array the kernel leaves is the reference's. Here each pair's claim is read off a run
of the kernel and a run of the reference, and the frames are those of the generated modules.
-/
module

public import proofs.«01_k».proof.Defs
public import proofs.«01_k».proof.Proof.Gen.AttnPRefIdeal
public import proofs.«01_k».proof.Proof.Gen.AttnP.Frame
public import proofs.«01_k».proof.Proof.Gen.AttnPIdeal.Frame
public import proofs.«01_k».proof.Proof.Gen.AttnPIdeal.Value
public import proofs.«01_k».proof.Proof.Gen.AttnPRefIdeal.Read
public import proofs.«01_k».proof.Proof.AttnP
public import proofs.«01_k».proof.Proof.Gen.AttnSRefIdeal
public import proofs.«01_k».proof.Proof.Gen.AttnS.Frame
public import proofs.«01_k».proof.Proof.Gen.AttnSIdeal.Frame
public import proofs.«01_k».proof.Proof.Gen.AttnSIdeal.Value
public import proofs.«01_k».proof.Proof.Gen.AttnSRefIdeal.Read
public import proofs.«01_k».proof.Proof.AttnS
public import proofs.«01_k».proof.Proof.Gen.GateUpRefIdeal
public import proofs.«01_k».proof.Proof.Gen.GateUp.Frame
public import proofs.«01_k».proof.Proof.Gen.GateUpIdeal.Frame
public import proofs.«01_k».proof.Proof.Gen.GateUpIdeal.Value
public import proofs.«01_k».proof.Proof.Gen.GateUpRefIdeal.Read
public import proofs.«01_k».proof.Proof.GateUp
public import proofs.«01_k».proof.Proof.Gen.DownRefIdeal
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Read
public import proofs.«01_k».proof.Proof.Down
public import proofs.«01_k».proof.Proof.Gen.InProjRefIdeal
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Read
public import proofs.«01_k».proof.Proof.InProj
public import proofs.«01_k».proof.Proof.Gen.OutProjRefIdeal
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Read
public import proofs.«01_k».proof.Proof.OutProj
public import proofs.«01_k».proof.Proof.Gen.NormRefIdeal
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Read
public import proofs.«01_k».proof.Proof.Norm
public import proofs.«01_k».proof.Proof.Gen.FinalPRefIdeal
public import proofs.«01_k».proof.Proof.Gen.FinalP.Frame
public import proofs.«01_k».proof.Proof.Gen.FinalPIdeal.Frame
public import proofs.«01_k».proof.Proof.Gen.FinalPIdeal.Value
public import proofs.«01_k».proof.Proof.Gen.FinalPRefIdeal.Read
public import proofs.«01_k».proof.Proof.FinalP
public import proofs.«01_k».proof.Proof.Gen.FinalSRefIdeal
public import proofs.«01_k».proof.Proof.Gen.FinalS.Frame
public import proofs.«01_k».proof.Proof.Gen.FinalSIdeal.Frame
public import proofs.«01_k».proof.Proof.Gen.FinalSIdeal.Value
public import proofs.«01_k».proof.Proof.Gen.FinalSRefIdeal.Read
public import proofs.«01_k».proof.Proof.FinalS
public import proofs.«01_k».proof.Proof.Gen.DnPostPRefIdeal
public import proofs.«01_k».proof.Proof.Gen.DnPostP.Frame
public import proofs.«01_k».proof.Proof.Gen.DnPostPIdeal.Frame
public import proofs.«01_k».proof.Proof.Gen.DnPostPIdeal.Value
public import proofs.«01_k».proof.Proof.Gen.DnPostPRefIdeal.Read
public import proofs.«01_k».proof.Proof.DnPostP
public import proofs.«01_k».proof.Proof.Gen.DnPostSRefIdeal
public import proofs.«01_k».proof.Proof.Gen.DnPostS.Frame
public import proofs.«01_k».proof.Proof.Gen.DnPostSIdeal.Frame
public import proofs.«01_k».proof.Proof.Gen.DnPostSIdeal.Value
public import proofs.«01_k».proof.Proof.Gen.DnPostSRefIdeal.Read
public import proofs.«01_k».proof.Proof.DnPostS
public import proofs.«01_k».proof.Proof.Gen.PrepRefIdeal
public import proofs.«01_k».proof.Proof.Gen.Prep.Frame
public import proofs.«01_k».proof.Proof.Gen.PrepIdeal.Frame
public import proofs.«01_k».proof.Proof.Gen.PrepIdeal.Value
public import proofs.«01_k».proof.Proof.Gen.PrepRefIdeal.Read
public import proofs.«01_k».proof.Proof.Prep
public import proofs.«01_k».proof.Proof.PrepPair
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- A function of three arguments at equal arguments. -/
theorem congr3 {α β γ δ : Type} (f : α → β → γ → δ) {x x' : α} {y y' : β} {z z' : γ} (hx : x = x') (hy : y = y') (hz : z = z') :
    f x y z = f x' y' z' := by rw [hx, hy, hz]

/-- The reference of the prompt's attention runs and leaves its arguments as they are. -/
theorem reference_AttnP : Cert.quiescent_AttnPRefIdeal := fun m g _ =>
  (θ_run Cert.AttnPRefIdeal.defs _ _).mono (fun r h => ⟨fun c => (h c).2, sem_eq_zero_of_no_sems (by decide) r.2⟩)
    (Cert.AttnPRefIdeal.Value.run (F := Ideal) m g)

/-- The reference of the prompt's attention leaves its value. -/
theorem leaves_AttnP (m : (ℓ : Loc Cert.AttnPRefIdeal.nD Cert.AttnPRefIdeal.τ Cert.AttnPRefIdeal.sig) → Buf (Elt Ideal) ℓ) (g : Dev Cert.AttnPRefIdeal.nD → PrngReg) :
    θ_run (Cert.AttnPRefIdeal.defs (F := Ideal)) (onTc (τ := Cert.AttnPRefIdeal.τ) (Cert.AttnPRefIdeal.main (F := Ideal))) ⟨m, fun _ => 0, g⟩ (fun r => ∀ c : Dev Cert.AttnPRefIdeal.nD,
      r.2.mem ((c.tc : Thread Cert.AttnPRefIdeal.nD Cert.AttnPRefIdeal.τ).loc Cert.AttnPRefIdeal.main_v22)
        = Cert.AttnPRefIdeal.Read.val_main_v22 (F := Ideal) (m ((c.tc : Thread Cert.AttnPRefIdeal.nD Cert.AttnPRefIdeal.τ).loc Cert.AttnPRefIdeal.main_arg0)) (m ((c.tc : Thread Cert.AttnPRefIdeal.nD Cert.AttnPRefIdeal.τ).loc Cert.AttnPRefIdeal.main_arg1)) (m ((c.tc : Thread Cert.AttnPRefIdeal.nD Cert.AttnPRefIdeal.τ).loc Cert.AttnPRefIdeal.main_arg2))
      ∧ r.2.mem ((c.tc : Thread Cert.AttnPRefIdeal.nD Cert.AttnPRefIdeal.τ).loc Cert.AttnPRefIdeal.main_arg0) = m ((c.tc : Thread Cert.AttnPRefIdeal.nD Cert.AttnPRefIdeal.τ).loc Cert.AttnPRefIdeal.main_arg0)
      ∧ r.2.mem ((c.tc : Thread Cert.AttnPRefIdeal.nD Cert.AttnPRefIdeal.τ).loc Cert.AttnPRefIdeal.main_arg1) = m ((c.tc : Thread Cert.AttnPRefIdeal.nD Cert.AttnPRefIdeal.τ).loc Cert.AttnPRefIdeal.main_arg1)
      ∧ r.2.mem ((c.tc : Thread Cert.AttnPRefIdeal.nD Cert.AttnPRefIdeal.τ).loc Cert.AttnPRefIdeal.main_arg2) = m ((c.tc : Thread Cert.AttnPRefIdeal.nD Cert.AttnPRefIdeal.τ).loc Cert.AttnPRefIdeal.main_arg2)) :=
  (θ_run Cert.AttnPRefIdeal.defs _ _).mono (fun r h c => ⟨(h c).1.trans (Cert.AttnPRefIdeal.Read.val_main_v22_eq (F := Ideal) _ _ _), (h c).2⟩)
    (Cert.AttnPRefIdeal.Value.run (F := Ideal) m g)

/-- The kernel of the prompt's attention leaves the reference's value. -/
theorem kernel_AttnP (m : (ℓ : Loc Cert.AttnPIdeal.nD Cert.AttnPIdeal.τ Cert.AttnPIdeal.sig) → Buf (Elt Ideal) ℓ) (g : Dev Cert.AttnPIdeal.nD → PrngReg) :
    θ_run (Cert.AttnPIdeal.defs (F := Ideal)) (onTc (τ := Cert.AttnPIdeal.τ) (Cert.AttnPIdeal.main (F := Ideal))) ⟨m, fun _ => 0, g⟩ (fun r => ∀ c : Dev Cert.AttnPIdeal.nD,
      r.2.mem ((c.tc : Thread Cert.AttnPIdeal.nD Cert.AttnPIdeal.τ).loc Cert.AttnPIdeal.main_v51)
        = Cert.AttnPRefIdeal.Read.val_main_v22 (F := Ideal) (m ((c.tc : Thread Cert.AttnPIdeal.nD Cert.AttnPIdeal.τ).loc Cert.AttnPIdeal.main_arg0)) (m ((c.tc : Thread Cert.AttnPIdeal.nD Cert.AttnPIdeal.τ).loc Cert.AttnPIdeal.main_arg1)) (m ((c.tc : Thread Cert.AttnPIdeal.nD Cert.AttnPIdeal.τ).loc Cert.AttnPIdeal.main_arg2))
      ∧ r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
      ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
      ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2)) := by
  exact (θ_run Cert.AttnPIdeal.defs _ _).mono (fun r h c => ⟨((h.1 c).1 4).trans (Cert.AttnPIdeal.Tile.final m c), h.2 c⟩)
    (θ_run_and (Cert.AttnPIdeal.Gen.run_main m g) (Cert.AttnPIdeal.Gen.unchanged m g))

/-- Over the reals extended by the infinities, the kernel of the prompt's attention and its reference compute one function. -/
theorem value_AttnP : Cert.algebraic_AttnPIdeal_AttnPRefIdeal := fun m g m' g' _ hagree =>
  ⟨_, kernel_AttnP m g, (θ_run Cert.AttnPRefIdeal.defs _ _).mono
    (fun r h c => ⟨(h c).1.trans (congr3 _ (hagree c).1 (hagree c).2.1 (hagree c).2.2), (h c).2⟩) (leaves_AttnP m' g')⟩

/-- The reference of the samples' attention runs and leaves its arguments as they are. -/
theorem reference_AttnS : Cert.quiescent_AttnSRefIdeal := fun m g _ =>
  (θ_run Cert.AttnSRefIdeal.defs _ _).mono (fun r h => ⟨fun c => (h c).2, sem_eq_zero_of_no_sems (by decide) r.2⟩)
    (Cert.AttnSRefIdeal.Value.run (F := Ideal) m g)

/-- The reference of the samples' attention leaves its value. -/
theorem leaves_AttnS (m : (ℓ : Loc Cert.AttnSRefIdeal.nD Cert.AttnSRefIdeal.τ Cert.AttnSRefIdeal.sig) → Buf (Elt Ideal) ℓ) (g : Dev Cert.AttnSRefIdeal.nD → PrngReg) :
    θ_run (Cert.AttnSRefIdeal.defs (F := Ideal)) (onTc (τ := Cert.AttnSRefIdeal.τ) (Cert.AttnSRefIdeal.main (F := Ideal))) ⟨m, fun _ => 0, g⟩ (fun r => ∀ c : Dev Cert.AttnSRefIdeal.nD,
      r.2.mem ((c.tc : Thread Cert.AttnSRefIdeal.nD Cert.AttnSRefIdeal.τ).loc Cert.AttnSRefIdeal.main_v22)
        = Cert.AttnSRefIdeal.Read.val_main_v22 (F := Ideal) (m ((c.tc : Thread Cert.AttnSRefIdeal.nD Cert.AttnSRefIdeal.τ).loc Cert.AttnSRefIdeal.main_arg0)) (m ((c.tc : Thread Cert.AttnSRefIdeal.nD Cert.AttnSRefIdeal.τ).loc Cert.AttnSRefIdeal.main_arg1)) (m ((c.tc : Thread Cert.AttnSRefIdeal.nD Cert.AttnSRefIdeal.τ).loc Cert.AttnSRefIdeal.main_arg2))
      ∧ r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)) :=
  (θ_run Cert.AttnSRefIdeal.defs _ _).mono (fun r h c => ⟨(h c).1.trans (Cert.AttnSRefIdeal.Read.val_main_v22_eq (F := Ideal) _ _ _), (h c).2⟩)
    (Cert.AttnSRefIdeal.Value.run (F := Ideal) m g)

/-- The kernel of the samples' attention leaves the reference's value. -/
theorem kernel_AttnS (m : (ℓ : Loc Cert.AttnSIdeal.nD Cert.AttnSIdeal.τ Cert.AttnSIdeal.sig) → Buf (Elt Ideal) ℓ) (g : Dev Cert.AttnSIdeal.nD → PrngReg) :
    θ_run (Cert.AttnSIdeal.defs (F := Ideal)) (onTc (τ := Cert.AttnSIdeal.τ) (Cert.AttnSIdeal.main (F := Ideal))) ⟨m, fun _ => 0, g⟩ (fun r => ∀ c : Dev Cert.AttnSIdeal.nD,
      r.2.mem ((c.tc : Thread Cert.AttnSIdeal.nD Cert.AttnSIdeal.τ).loc Cert.AttnSIdeal.main_v51)
        = Cert.AttnSRefIdeal.Read.val_main_v22 (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2))
      ∧ r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)) := by
  exact (θ_run Cert.AttnSIdeal.defs _ _).mono (fun r h c => ⟨((h.1 c).1 4).trans (Cert.AttnSIdeal.Tile.final m c), h.2 c⟩)
    (θ_run_and (Cert.AttnSIdeal.Gen.run_main m g) (Cert.AttnSIdeal.Gen.unchanged m g))

/-- Over the reals extended by the infinities, the kernel of the samples' attention and its reference compute one function. -/
theorem value_AttnS : Cert.algebraic_AttnSIdeal_AttnSRefIdeal := fun m g m' g' _ hagree =>
  ⟨_, kernel_AttnS m g, (θ_run Cert.AttnSRefIdeal.defs _ _).mono
    (fun r h c => ⟨(h c).1.trans (congr3 _ (hagree c).1 (hagree c).2.1 (hagree c).2.2), (h c).2⟩) (leaves_AttnS m' g')⟩

/-- The reference of the gated up-projection runs and leaves its arguments as they are. -/
theorem reference_GateUp : Cert.quiescent_GateUpRefIdeal := fun m g _ =>
  (θ_run Cert.GateUpRefIdeal.defs _ _).mono (fun r h => ⟨fun c => (h c).2, sem_eq_zero_of_no_sems (by decide) r.2⟩)
    (Cert.GateUpRefIdeal.Value.run (F := Ideal) m g)

/-- Over the reals extended by the infinities, the kernel of the gated up-projection and its reference compute one function. -/
theorem value_GateUp : Cert.algebraic_GateUpIdeal_GateUpRefIdeal := by
  pair_intro
  · run_from Cert.GateUpIdeal.Gen.run_main m g
  · run_from Cert.GateUpRefIdeal.Value.run m' g'
    exact (Cert.GateUpIdeal.Tile.final m c).symm

/-- The reference of the down-projection onto the residual stream runs and leaves its arguments as they are. -/
theorem reference_Down : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

/-- Over the reals extended by the infinities, the kernel of the down-projection onto the residual stream and its reference compute one function. -/
theorem value_Down : Cert.algebraic_DownIdeal_DownRefIdeal := by
  pair_intro
  · run_from Cert.DownIdeal.Gen.run_main m g
  · run_from Cert.DownRefIdeal.Value.run m' g'
    exact (Cert.DownIdeal.Tile.final m c).symm

/-- The reference of the mixers' input projection runs and leaves its arguments as they are. -/
theorem reference_InProj : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run (F := Ideal) m g)

/-- Over the reals extended by the infinities, the kernel of the mixers' input projection and its reference compute one function. -/
theorem value_InProj : Cert.algebraic_InProjIdeal_InProjRefIdeal := by
  pair_intro
  · run_from Cert.InProjIdeal.Gen.run_main m g
  · run_from Cert.InProjRefIdeal.Value.run m' g'
    rw [Cert.InProjRefIdeal.Read.val_main_v15_eq, (hagree c).1, (hagree c).2]
    exact (Cert.InProjIdeal.Tile.final m c).symm

/-- The reference of the mixers' output projection onto the residual stream runs and leaves its arguments as they are. -/
theorem reference_OutProj : Cert.quiescent_OutProjRefIdeal := fun m g _ =>
  (θ_run Cert.OutProjRefIdeal.defs _ _).mono (fun r h => ⟨fun c => (h c).2, sem_eq_zero_of_no_sems (by decide) r.2⟩)
    (Cert.OutProjRefIdeal.Value.run (F := Ideal) m g)

/-- Over the reals extended by the infinities, the kernel of the mixers' output projection onto the residual stream and its reference compute one function. -/
theorem value_OutProj : Cert.algebraic_OutProjIdeal_OutProjRefIdeal := by
  pair_intro
  · run_from Cert.OutProjIdeal.Gen.run_main m g
  · run_from Cert.OutProjRefIdeal.Value.run m' g'
    exact (Cert.OutProjIdeal.Tile.final m c).symm

/-- The reference of the norm of the residual stream runs and leaves its arguments as they are. -/
theorem reference_Norm : Cert.quiescent_NormRefIdeal := fun m g _ =>
  (θ_run Cert.NormRefIdeal.defs _ _).mono (fun r h => ⟨fun c => (h c).2, sem_eq_zero_of_no_sems (by decide) r.2⟩)
    (Cert.NormRefIdeal.Value.run (F := Ideal) m g)

/-- Over the reals extended by the infinities, the kernel of the norm of the residual stream and its reference compute one function. -/
theorem value_Norm : Cert.algebraic_NormIdeal_NormRefIdeal := by
  pair_intro
  · run_from Cert.NormIdeal.Gen.run_main m g
  · run_from Cert.NormRefIdeal.Value.run m' g'
    exact (Cert.NormIdeal.Tile.final m c).symm

/-- The reference of the prompt's final norm runs and leaves its arguments as they are. -/
theorem reference_FinalP : Cert.quiescent_FinalPRefIdeal := fun m g _ =>
  (θ_run Cert.FinalPRefIdeal.defs _ _).mono (fun r h => ⟨fun c => (h c).2, sem_eq_zero_of_no_sems (by decide) r.2⟩)
    (Cert.FinalPRefIdeal.Value.run (F := Ideal) m g)

/-- Over the reals extended by the infinities, the kernel of the prompt's final norm and its reference compute one function. -/
theorem value_FinalP : Cert.algebraic_FinalPIdeal_FinalPRefIdeal := by
  pair_intro
  · run_from Cert.FinalPIdeal.Gen.run_main m g
  · run_from Cert.FinalPRefIdeal.Value.run m' g'
    exact (Cert.FinalPIdeal.Tile.final m c).symm

/-- The reference of the samples' final norm runs and leaves its arguments as they are. -/
theorem reference_FinalS : Cert.quiescent_FinalSRefIdeal := fun m g _ =>
  (θ_run Cert.FinalSRefIdeal.defs _ _).mono (fun r h => ⟨fun c => (h c).2, sem_eq_zero_of_no_sems (by decide) r.2⟩)
    (Cert.FinalSRefIdeal.Value.run (F := Ideal) m g)

/-- Over the reals extended by the infinities, the kernel of the samples' final norm and its reference compute one function. -/
theorem value_FinalS : Cert.algebraic_FinalSIdeal_FinalSRefIdeal := by
  pair_intro
  · run_from Cert.FinalSIdeal.Gen.run_main m g
  · run_from Cert.FinalSRefIdeal.Value.run m' g'
    exact (Cert.FinalSIdeal.Tile.final m c).symm

/-- The reference of the delta rule's output norm and gate for the prompt runs and leaves its arguments as they are. -/
theorem reference_DnPostP : Cert.quiescent_DnPostPRefIdeal := fun m g _ =>
  (θ_run Cert.DnPostPRefIdeal.defs _ _).mono (fun r h => ⟨fun c => (h c).2, sem_eq_zero_of_no_sems (by decide) r.2⟩)
    (Cert.DnPostPRefIdeal.Value.run (F := Ideal) m g)

/-- Over the reals extended by the infinities, the kernel of the delta rule's output norm and gate for the prompt and its reference compute one function. -/
theorem value_DnPostP : Cert.algebraic_DnPostPIdeal_DnPostPRefIdeal := by
  pair_intro
  · run_from Cert.DnPostPIdeal.Gen.run_main m g
  · run_from Cert.DnPostPRefIdeal.Value.run m' g'
    exact (Cert.DnPostPIdeal.Tile.final m c).symm

/-- The reference of the delta rule's output norm and gate for the samples runs and leaves its arguments as they are. -/
theorem reference_DnPostS : Cert.quiescent_DnPostSRefIdeal := fun m g _ =>
  (θ_run Cert.DnPostSRefIdeal.defs _ _).mono (fun r h => ⟨fun c => (h c).2, sem_eq_zero_of_no_sems (by decide) r.2⟩)
    (Cert.DnPostSRefIdeal.Value.run (F := Ideal) m g)

/-- Over the reals extended by the infinities, the kernel of the delta rule's output norm and gate for the samples and its reference compute one function. -/
theorem value_DnPostS : Cert.algebraic_DnPostSIdeal_DnPostSRefIdeal := by
  pair_intro
  · run_from Cert.DnPostSIdeal.Gen.run_main m g
  · run_from Cert.DnPostSRefIdeal.Value.run m' g'
    exact (Cert.DnPostSIdeal.Tile.final m c).symm

/-- Every claim of the certificate. -/
theorem claim : Cert.Claim :=
  ⟨Cert.AttnP.Gen.facts,
    Cert.AttnPIdeal.Gen.facts,
    Cert.AttnPRefIdeal.Gen.facts,
    Cert.AttnS.Gen.facts,
    Cert.AttnSIdeal.Gen.facts,
    Cert.AttnSRefIdeal.Gen.facts,
    Cert.GateUp.Gen.facts,
    Cert.GateUpIdeal.Gen.facts,
    Cert.GateUpRefIdeal.Gen.facts,
    Cert.Down.Gen.facts,
    Cert.DownIdeal.Gen.facts,
    Cert.DownRefIdeal.Gen.facts,
    Cert.InProj.Gen.facts,
    Cert.InProjIdeal.Gen.facts,
    Cert.InProjRefIdeal.Gen.facts,
    Cert.OutProj.Gen.facts,
    Cert.OutProjIdeal.Gen.facts,
    Cert.OutProjRefIdeal.Gen.facts,
    Cert.Norm.Gen.facts,
    Cert.NormIdeal.Gen.facts,
    Cert.NormRefIdeal.Gen.facts,
    Cert.FinalP.Gen.facts,
    Cert.FinalPIdeal.Gen.facts,
    Cert.FinalPRefIdeal.Gen.facts,
    Cert.FinalS.Gen.facts,
    Cert.FinalSIdeal.Gen.facts,
    Cert.FinalSRefIdeal.Gen.facts,
    Cert.DnPostP.Gen.facts,
    Cert.DnPostPIdeal.Gen.facts,
    Cert.DnPostPRefIdeal.Gen.facts,
    Cert.DnPostS.Gen.facts,
    Cert.DnPostSIdeal.Gen.facts,
    Cert.DnPostSRefIdeal.Gen.facts,
    Cert.Prep.Gen.facts,
    Cert.PrepIdeal.Gen.facts,
    Cert.PrepRefIdeal.Gen.facts,
    fun m g _ => Cert.AttnP.Gen.frame m g,
    fun m g _ => Cert.AttnPIdeal.Gen.frame m g,
    reference_AttnP,
    fun m g _ => Cert.AttnS.Gen.frame m g,
    fun m g _ => Cert.AttnSIdeal.Gen.frame m g,
    reference_AttnS,
    fun m g _ => Cert.GateUp.Gen.frame m g,
    fun m g _ => Cert.GateUpIdeal.Gen.frame m g,
    reference_GateUp,
    fun m g _ => Cert.Down.Gen.frame m g,
    fun m g _ => Cert.DownIdeal.Gen.frame m g,
    reference_Down,
    fun m g _ => Cert.InProj.Gen.frame m g,
    fun m g _ => Cert.InProjIdeal.Gen.frame m g,
    reference_InProj,
    fun m g _ => Cert.OutProj.Gen.frame m g,
    fun m g _ => Cert.OutProjIdeal.Gen.frame m g,
    reference_OutProj,
    fun m g _ => Cert.Norm.Gen.frame m g,
    fun m g _ => Cert.NormIdeal.Gen.frame m g,
    reference_Norm,
    fun m g _ => Cert.FinalP.Gen.frame m g,
    fun m g _ => Cert.FinalPIdeal.Gen.frame m g,
    reference_FinalP,
    fun m g _ => Cert.FinalS.Gen.frame m g,
    fun m g _ => Cert.FinalSIdeal.Gen.frame m g,
    reference_FinalS,
    fun m g _ => Cert.DnPostP.Gen.frame m g,
    fun m g _ => Cert.DnPostPIdeal.Gen.frame m g,
    reference_DnPostP,
    fun m g _ => Cert.DnPostS.Gen.frame m g,
    fun m g _ => Cert.DnPostSIdeal.Gen.frame m g,
    reference_DnPostS,
    fun m g _ => Cert.Prep.Gen.frame m g,
    fun m g _ => Cert.PrepIdeal.Gen.frame m g,
    reference_Prep,
    IdealRules.named_const.statement Cert.AttnPIdeal.κ "mask" .f32 0xF149F2CA#32 ⊥ rfl,
    value_AttnP,
    IdealRules.named_const.statement Cert.AttnSIdeal.κ "mask" .f32 0xF149F2CA#32 ⊥ rfl,
    value_AttnS,
    trivial,
    value_GateUp,
    trivial,
    value_Down,
    trivial,
    value_InProj,
    trivial,
    value_OutProj,
    trivial,
    value_Norm,
    trivial,
    value_FinalP,
    trivial,
    value_FinalS,
    trivial,
    value_DnPostP,
    trivial,
    value_DnPostS,
    trivial,
    value_Prep⟩

end Cert.Proof

end
